-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_VQuant (m : (ℓ : Loc Cert.VQuant.nD Cert.VQuant.τ Cert.VQuant.sig) → Buf (Elt Bits) ℓ) : Prop :=
  True

def Pre_VQuantIdeal (m : (ℓ : Loc Cert.VQuantIdeal.nD Cert.VQuantIdeal.τ Cert.VQuantIdeal.sig) → Buf (Elt Ideal) ℓ) : Prop :=
  True

def Pre_VCodesIdeal (m : (ℓ : Loc Cert.VCodesIdeal.nD Cert.VCodesIdeal.τ Cert.VCodesIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_VQuant [hVQuant : Cert.VQuant.Facts] : Prop :=
  ∀ (m : (ℓ : Loc Cert.VQuant.nD Cert.VQuant.τ Cert.VQuant.sig) → Buf (Elt Bits) ℓ) (g : Dev Cert.VQuant.nD → PrngReg), Pre_VQuant m →
    θ_run (Cert.VQuant.defs (F := Bits)) (onTc (τ := Cert.VQuant.τ) (Cert.VQuant.main (F := Bits))) ⟨m, fun _ => 0, g⟩ (fun r => (∀ c : Dev Cert.VQuant.nD,
      r.2.mem ((c.tc : Thread Cert.VQuant.nD Cert.VQuant.τ).loc Cert.VQuant.main_arg0) = m ((c.tc : Thread Cert.VQuant.nD Cert.VQuant.τ).loc Cert.VQuant.main_arg0)
      ∧ r.2.mem ((c.tc : Thread Cert.VQuant.nD Cert.VQuant.τ).loc Cert.VQuant.main_arg1) = m ((c.tc : Thread Cert.VQuant.nD Cert.VQuant.τ).loc Cert.VQuant.main_arg1)
      ∧ r.2.mem ((c.tc : Thread Cert.VQuant.nD Cert.VQuant.τ).loc Cert.VQuant.main_arg2) = m ((c.tc : Thread Cert.VQuant.nD Cert.VQuant.τ).loc Cert.VQuant.main_arg2)
      ∧ r.2.mem ((c.tc : Thread Cert.VQuant.nD Cert.VQuant.τ).loc Cert.VQuant.main_arg3) = m ((c.tc : Thread Cert.VQuant.nD Cert.VQuant.τ).loc Cert.VQuant.main_arg3)
      ∧ r.2.mem ((c.tc : Thread Cert.VQuant.nD Cert.VQuant.τ).loc Cert.VQuant.main_arg4) = m ((c.tc : Thread Cert.VQuant.nD Cert.VQuant.τ).loc Cert.VQuant.main_arg4))
      ∧ r.2.sem = fun _ => 0)

def quiescent_VQuantIdeal [hVQuantIdeal : Cert.VQuantIdeal.Facts] : Prop :=
  ∀ (m : (ℓ : Loc Cert.VQuantIdeal.nD Cert.VQuantIdeal.τ Cert.VQuantIdeal.sig) → Buf (Elt Ideal) ℓ) (g : Dev Cert.VQuantIdeal.nD → PrngReg), Pre_VQuantIdeal m →
    θ_run (Cert.VQuantIdeal.defs (F := Ideal)) (onTc (τ := Cert.VQuantIdeal.τ) (Cert.VQuantIdeal.main (F := Ideal))) ⟨m, fun _ => 0, g⟩ (fun r => (∀ c : Dev Cert.VQuantIdeal.nD,
      r.2.mem ((c.tc : Thread Cert.VQuantIdeal.nD Cert.VQuantIdeal.τ).loc Cert.VQuantIdeal.main_arg0) = m ((c.tc : Thread Cert.VQuantIdeal.nD Cert.VQuantIdeal.τ).loc Cert.VQuantIdeal.main_arg0)
      ∧ r.2.mem ((c.tc : Thread Cert.VQuantIdeal.nD Cert.VQuantIdeal.τ).loc Cert.VQuantIdeal.main_arg1) = m ((c.tc : Thread Cert.VQuantIdeal.nD Cert.VQuantIdeal.τ).loc Cert.VQuantIdeal.main_arg1)
      ∧ r.2.mem ((c.tc : Thread Cert.VQuantIdeal.nD Cert.VQuantIdeal.τ).loc Cert.VQuantIdeal.main_arg2) = m ((c.tc : Thread Cert.VQuantIdeal.nD Cert.VQuantIdeal.τ).loc Cert.VQuantIdeal.main_arg2)
      ∧ r.2.mem ((c.tc : Thread Cert.VQuantIdeal.nD Cert.VQuantIdeal.τ).loc Cert.VQuantIdeal.main_arg3) = m ((c.tc : Thread Cert.VQuantIdeal.nD Cert.VQuantIdeal.τ).loc Cert.VQuantIdeal.main_arg3)
      ∧ r.2.mem ((c.tc : Thread Cert.VQuantIdeal.nD Cert.VQuantIdeal.τ).loc Cert.VQuantIdeal.main_arg4) = m ((c.tc : Thread Cert.VQuantIdeal.nD Cert.VQuantIdeal.τ).loc Cert.VQuantIdeal.main_arg4))
      ∧ r.2.sem = fun _ => 0)

def quiescent_VCodesIdeal [hVCodesIdeal : Cert.VCodesIdeal.Facts] : Prop :=
  ∀ (m : (ℓ : Loc Cert.VCodesIdeal.nD Cert.VCodesIdeal.τ Cert.VCodesIdeal.sig) → Buf (Elt Ideal) ℓ) (g : Dev Cert.VCodesIdeal.nD → PrngReg), Pre_VCodesIdeal m →
    θ_run (Cert.VCodesIdeal.defs (F := Ideal)) (onTc (τ := Cert.VCodesIdeal.τ) (Cert.VCodesIdeal.main (F := Ideal))) ⟨m, fun _ => 0, g⟩ (fun r => (∀ c : Dev Cert.VCodesIdeal.nD,
      r.2.mem ((c.tc : Thread Cert.VCodesIdeal.nD Cert.VCodesIdeal.τ).loc Cert.VCodesIdeal.main_arg0) = m ((c.tc : Thread Cert.VCodesIdeal.nD Cert.VCodesIdeal.τ).loc Cert.VCodesIdeal.main_arg0)
      ∧ r.2.mem ((c.tc : Thread Cert.VCodesIdeal.nD Cert.VCodesIdeal.τ).loc Cert.VCodesIdeal.main_arg1) = m ((c.tc : Thread Cert.VCodesIdeal.nD Cert.VCodesIdeal.τ).loc Cert.VCodesIdeal.main_arg1)
      ∧ r.2.mem ((c.tc : Thread Cert.VCodesIdeal.nD Cert.VCodesIdeal.τ).loc Cert.VCodesIdeal.main_arg2) = m ((c.tc : Thread Cert.VCodesIdeal.nD Cert.VCodesIdeal.τ).loc Cert.VCodesIdeal.main_arg2)
      ∧ r.2.mem ((c.tc : Thread Cert.VCodesIdeal.nD Cert.VCodesIdeal.τ).loc Cert.VCodesIdeal.main_arg3) = m ((c.tc : Thread Cert.VCodesIdeal.nD Cert.VCodesIdeal.τ).loc Cert.VCodesIdeal.main_arg3)
      ∧ r.2.mem ((c.tc : Thread Cert.VCodesIdeal.nD Cert.VCodesIdeal.τ).loc Cert.VCodesIdeal.main_arg4) = m ((c.tc : Thread Cert.VCodesIdeal.nD Cert.VCodesIdeal.τ).loc Cert.VCodesIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_VQuant_VQuantIdeal : Prop :=
  True

def algebraic_VQuantIdeal_VCodesIdeal [hVQuantIdeal : Cert.VQuantIdeal.Facts] [hVCodesIdeal : Cert.VCodesIdeal.Facts] : Prop :=
  ∀ (m : (ℓ : Loc Cert.VQuantIdeal.nD Cert.VQuantIdeal.τ Cert.VQuantIdeal.sig) → Buf (Elt Ideal) ℓ) (g : Dev Cert.VQuantIdeal.nD → PrngReg)
    (m' : (ℓ : Loc Cert.VCodesIdeal.nD Cert.VCodesIdeal.τ Cert.VCodesIdeal.sig) → Buf (Elt Ideal) ℓ) (g' : Dev Cert.VCodesIdeal.nD → PrngReg), Pre_VQuantIdeal m →
    (∀ c : Dev Cert.VQuantIdeal.nD,
      m' ((c.tc : Thread Cert.VCodesIdeal.nD Cert.VCodesIdeal.τ).loc Cert.VCodesIdeal.main_arg0) = m ((c.tc : Thread Cert.VQuantIdeal.nD Cert.VQuantIdeal.τ).loc Cert.VQuantIdeal.main_arg0)
      ∧ m' ((c.tc : Thread Cert.VCodesIdeal.nD Cert.VCodesIdeal.τ).loc Cert.VCodesIdeal.main_arg1) = m ((c.tc : Thread Cert.VQuantIdeal.nD Cert.VQuantIdeal.τ).loc Cert.VQuantIdeal.main_arg1)
      ∧ m' ((c.tc : Thread Cert.VCodesIdeal.nD Cert.VCodesIdeal.τ).loc Cert.VCodesIdeal.main_arg2) = m ((c.tc : Thread Cert.VQuantIdeal.nD Cert.VQuantIdeal.τ).loc Cert.VQuantIdeal.main_arg2)
      ∧ m' ((c.tc : Thread Cert.VCodesIdeal.nD Cert.VCodesIdeal.τ).loc Cert.VCodesIdeal.main_arg3) = m ((c.tc : Thread Cert.VQuantIdeal.nD Cert.VQuantIdeal.τ).loc Cert.VQuantIdeal.main_arg3)
      ∧ m' ((c.tc : Thread Cert.VCodesIdeal.nD Cert.VCodesIdeal.τ).loc Cert.VCodesIdeal.main_arg4) = m ((c.tc : Thread Cert.VQuantIdeal.nD Cert.VQuantIdeal.τ).loc Cert.VQuantIdeal.main_arg4)) →
    ∃ (v0 : (c : Dev Cert.VQuantIdeal.nD) → Buf (Elt Ideal) ((c.tc : Thread Cert.VQuantIdeal.nD Cert.VQuantIdeal.τ).loc Cert.VQuantIdeal.main_v4)),
      θ_run (Cert.VQuantIdeal.defs (F := Ideal)) (onTc (τ := Cert.VQuantIdeal.τ) (Cert.VQuantIdeal.main (F := Ideal))) ⟨m, fun _ => 0, g⟩ (fun r => ∀ c : Dev Cert.VQuantIdeal.nD,
          r.2.mem ((c.tc : Thread Cert.VQuantIdeal.nD Cert.VQuantIdeal.τ).loc Cert.VQuantIdeal.main_v4) = v0 c
          ∧ r.2.mem ((c.tc : Thread Cert.VQuantIdeal.nD Cert.VQuantIdeal.τ).loc Cert.VQuantIdeal.main_arg0) = m ((c.tc : Thread Cert.VQuantIdeal.nD Cert.VQuantIdeal.τ).loc Cert.VQuantIdeal.main_arg0)
          ∧ r.2.mem ((c.tc : Thread Cert.VQuantIdeal.nD Cert.VQuantIdeal.τ).loc Cert.VQuantIdeal.main_arg1) = m ((c.tc : Thread Cert.VQuantIdeal.nD Cert.VQuantIdeal.τ).loc Cert.VQuantIdeal.main_arg1)
          ∧ r.2.mem ((c.tc : Thread Cert.VQuantIdeal.nD Cert.VQuantIdeal.τ).loc Cert.VQuantIdeal.main_arg2) = m ((c.tc : Thread Cert.VQuantIdeal.nD Cert.VQuantIdeal.τ).loc Cert.VQuantIdeal.main_arg2)
          ∧ r.2.mem ((c.tc : Thread Cert.VQuantIdeal.nD Cert.VQuantIdeal.τ).loc Cert.VQuantIdeal.main_arg3) = m ((c.tc : Thread Cert.VQuantIdeal.nD Cert.VQuantIdeal.τ).loc Cert.VQuantIdeal.main_arg3)
          ∧ r.2.mem ((c.tc : Thread Cert.VQuantIdeal.nD Cert.VQuantIdeal.τ).loc Cert.VQuantIdeal.main_arg4) = m ((c.tc : Thread Cert.VQuantIdeal.nD Cert.VQuantIdeal.τ).loc Cert.VQuantIdeal.main_arg4))
      ∧ θ_run (Cert.VCodesIdeal.defs (F := Ideal)) (onTc (τ := Cert.VCodesIdeal.τ) (Cert.VCodesIdeal.main (F := Ideal))) ⟨m', fun _ => 0, g'⟩ (fun r => ∀ c : Dev Cert.VCodesIdeal.nD,
          r.2.mem ((c.tc : Thread Cert.VCodesIdeal.nD Cert.VCodesIdeal.τ).loc Cert.VCodesIdeal.main_v0) = v0 c
          ∧ r.2.mem ((c.tc : Thread Cert.VCodesIdeal.nD Cert.VCodesIdeal.τ).loc Cert.VCodesIdeal.main_arg0) = m' ((c.tc : Thread Cert.VCodesIdeal.nD Cert.VCodesIdeal.τ).loc Cert.VCodesIdeal.main_arg0)
          ∧ r.2.mem ((c.tc : Thread Cert.VCodesIdeal.nD Cert.VCodesIdeal.τ).loc Cert.VCodesIdeal.main_arg1) = m' ((c.tc : Thread Cert.VCodesIdeal.nD Cert.VCodesIdeal.τ).loc Cert.VCodesIdeal.main_arg1)
          ∧ r.2.mem ((c.tc : Thread Cert.VCodesIdeal.nD Cert.VCodesIdeal.τ).loc Cert.VCodesIdeal.main_arg2) = m' ((c.tc : Thread Cert.VCodesIdeal.nD Cert.VCodesIdeal.τ).loc Cert.VCodesIdeal.main_arg2)
          ∧ r.2.mem ((c.tc : Thread Cert.VCodesIdeal.nD Cert.VCodesIdeal.τ).loc Cert.VCodesIdeal.main_arg3) = m' ((c.tc : Thread Cert.VCodesIdeal.nD Cert.VCodesIdeal.τ).loc Cert.VCodesIdeal.main_arg3)
          ∧ r.2.mem ((c.tc : Thread Cert.VCodesIdeal.nD Cert.VCodesIdeal.τ).loc Cert.VCodesIdeal.main_arg4) = m' ((c.tc : Thread Cert.VCodesIdeal.nD Cert.VCodesIdeal.τ).loc Cert.VCodesIdeal.main_arg4))

def Claim : Prop :=
  ∃ (hKernel : Cert.Kernel.Facts) (hKernelIdeal : Cert.KernelIdeal.Facts) (hReferenceIdeal : Cert.ReferenceIdeal.Facts) (hVQuant : Cert.VQuant.Facts) (hVQuantIdeal : Cert.VQuantIdeal.Facts) (hVCodesIdeal : Cert.VCodesIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ quiescent_VQuant (hVQuant := hVQuant)
    ∧ quiescent_VQuantIdeal (hVQuantIdeal := hVQuantIdeal)
    ∧ quiescent_VCodesIdeal (hVCodesIdeal := hVCodesIdeal)
    ∧ preserves_Kernel_KernelIdeal
    ∧ algebraic_KernelIdeal_ReferenceIdeal_pre_scales_positive (hKernelIdeal := hKernelIdeal) (hReferenceIdeal := hReferenceIdeal) (hPre_scales_positive := hPre_scales_positive)
    ∧ preserves_VQuant_VQuantIdeal
    ∧ algebraic_VQuantIdeal_VCodesIdeal (hVQuantIdeal := hVQuantIdeal) (hVCodesIdeal := hVCodesIdeal)
-- ==== Pre_scales_positive.lean ====
abbrev S9x8x192x8192 : Shape := ⟨4, ![9, 8, 192, 8192]⟩
abbrev S9x8x8192 : Shape := ⟨3, ![9, 8, 8192]⟩
abbrev S9x8x8192x256 : Shape := ⟨4, ![9, 8, 8192, 256]⟩
abbrev S9x8x128x8192 : Shape := ⟨4, ![9, 8, 128, 8192]⟩
abbrev S9x8 : Shape := ⟨2, ![9, 8]⟩
abbrev S_ : Shape := ⟨0, ![]⟩

class Facts : Prop where
  bcast_S_S9x8x8192 : S_.BroadcastsInDim S9x8x8192 (![] : Fin 0 → Fin S9x8x8192.rank)

variable [Facts]

def fn {F : FTy → Type} [FloatOps F] (main_arg0 : FVec F S9x8x192x8192 .fp8e4m3) (main_arg1 : FVec F S9x8x8192 .f32) (main_arg2 : FVec F S9x8x8192x256 .fp8e4m3) (main_arg3 : FVec F S9x8x8192 .f32) (main_arg4 : FVec F S9x8x128x8192 .fp8e4m3) (main_arg5 : FVec F S9x8 .f32) : IVec S9x8x8192 1 :=
  let main_cst : FVec F S_ .f32 := constant S_ .f32 0x00000000#32
  let main_v0 : FVec F S9x8x8192 .f32 := broadcastInDim S9x8x8192 ![] bcast_S_S9x8x8192 main_cst
  let main_v1 : IVec S9x8x8192 1 := cmpf .ogt main_arg1 main_v0
  let main_cst_0 : FVec F S_ .f32 := constant S_ .f32 0x7F800000#32
  let main_v2 : FVec F S9x8x8192 .f32 := broadcastInDim S9x8x8192 ![] bcast_S_S9x8x8192 main_cst_0
  let main_v3 : IVec S9x8x8192 1 := cmpf .olt main_arg1 main_v2
  let main_v4 : IVec S9x8x8192 1 := andi main_v1 main_v3
  main_v4
-- ==== Kernel.lean ====
abbrev S9x8x192x8192 : Shape := ⟨4, ![9, 8, 192, 8192]⟩
abbrev S9x8x8192 : Shape := ⟨3, ![9, 8, 8192]⟩
abbrev S9x8x8192x256 : Shape := ⟨4, ![9, 8, 8192, 256]⟩
abbrev S9x8x128x8192 : Shape := ⟨4, ![9, 8, 128, 8192]⟩
abbrev S9x8 : Shape := ⟨2, ![9, 8]⟩
abbrev S9x8x1x8192 : Shape := ⟨4, ![9, 8, 1, 8192]⟩
abbrev S9x8x8192x128 : Shape := ⟨4, ![9, 8, 8192, 128]⟩
abbrev S1x1x192x8192 : Shape := ⟨4, ![1, 1, 192, 8192]⟩
abbrev S1x1x1x8192 : Shape := ⟨4, ![1, 1, 1, 8192]⟩
abbrev S1x1x8192x256 : Shape := ⟨4, ![1, 1, 8192, 256]⟩
abbrev S1x1x128x8192 : Shape := ⟨4, ![1, 1, 128, 8192]⟩
abbrev S1x1x8192x128 : Shape := ⟨4, ![1, 1, 8192, 128]⟩
abbrev S8192x512 : Shape := ⟨2, ![8192, 512]⟩
abbrev S512x512 : Shape := ⟨2, ![512, 512]⟩
abbrev S256x512 : Shape := ⟨2, ![256, 512]⟩
abbrev S128x512 : Shape := ⟨2, ![128, 512]⟩
abbrev S8192x128 : Shape := ⟨2, ![8192, 128]⟩
abbrev S1x1 : Shape := ⟨2, ![1, 1]⟩
abbrev S1x1x1x128 : Shape := ⟨4, ![1, 1, 1, 128]⟩
abbrev S1x128 : Shape := ⟨2, ![1, 128]⟩
abbrev S128x128 : Shape := ⟨2, ![128, 128]⟩
abbrev S8x512 : Shape := ⟨2, ![8, 512]⟩
abbrev S1x1x192x512 : Shape := ⟨4, ![1, 1, 192, 512]⟩
abbrev S192x512 : Shape := ⟨2, ![192, 512]⟩
abbrev S1x1x512x256 : Shape := ⟨4, ![1, 1, 512, 256]⟩
abbrev S512x256 : Shape := ⟨2, ![512, 256]⟩
abbrev S512x128 : Shape := ⟨2, ![512, 128]⟩
abbrev S64x8x512 : Shape := ⟨3, ![64, 8, 512]⟩
abbrev S512 : Shape := ⟨1, ![512]⟩
abbrev S1x512 : Shape := ⟨2, ![1, 512]⟩
abbrev S1x1x1x512 : Shape := ⟨4, ![1, 1, 1, 512]⟩
abbrev S1x1x128x512 : Shape := ⟨4, ![1, 1, 128, 512]⟩
abbrev S1x1x512x128 : Shape := ⟨4, ![1, 1, 512, 128]⟩

abbrev nBuf : Space → Nat
  | .hbm => 9
  | .vmem => 17
  | .smem => 1
  | _ => 0

abbrev bufTy : (tb : Table) → Fin (tcTables nBuf tb) → BufTy
  | .hbm, ⟨0, _⟩ => ⟨S9x8x192x8192, .fp8e4m3⟩
  | .hbm, ⟨1, _⟩ => ⟨S9x8x8192, .f32⟩
  | .hbm, ⟨2, _⟩ => ⟨S9x8x8192x256, .fp8e4m3⟩
  | .hbm, ⟨3, _⟩ => ⟨S9x8x8192, .f32⟩
  | .hbm, ⟨4, _⟩ => ⟨S9x8x128x8192, .fp8e4m3⟩
  | .hbm, ⟨5, _⟩ => ⟨S9x8, .f32⟩
  | .hbm, ⟨6, _⟩ => ⟨S9x8x1x8192, .f32⟩
  | .hbm, ⟨7, _⟩ => ⟨S9x8x1x8192, .f32⟩
  | .hbm, ⟨8, _⟩ => ⟨S9x8x8192x128, .bf16⟩
  | .local _ .vmem, ⟨0, _⟩ => ⟨S1x1x192x8192, .fp8e4m3⟩
  | .local _ .vmem, ⟨1, _⟩ => ⟨S1x1x192x8192, .fp8e4m3⟩
  | .local _ .vmem, ⟨2, _⟩ => ⟨S1x1x1x8192, .f32⟩
  | .local _ .vmem, ⟨3, _⟩ => ⟨S1x1x1x8192, .f32⟩
  | .local _ .vmem, ⟨4, _⟩ => ⟨S1x1x8192x256, .fp8e4m3⟩
  | .local _ .vmem, ⟨5, _⟩ => ⟨S1x1x8192x256, .fp8e4m3⟩
  | .local _ .vmem, ⟨6, _⟩ => ⟨S1x1x1x8192, .f32⟩
  | .local _ .vmem, ⟨7, _⟩ => ⟨S1x1x1x8192, .f32⟩
  | .local _ .vmem, ⟨8, _⟩ => ⟨S1x1x128x8192, .fp8e4m3⟩
  | .local _ .vmem, ⟨9, _⟩ => ⟨S1x1x128x8192, .fp8e4m3⟩
  | .local _ .vmem, ⟨10, _⟩ => ⟨S1x1x8192x128, .bf16⟩
  | .local _ .vmem, ⟨11, _⟩ => ⟨S1x1x8192x128, .bf16⟩
  | .local _ .vmem, ⟨12, _⟩ => ⟨S8192x512, .f32⟩
  | .local _ .vmem, ⟨13, _⟩ => ⟨S512x512, .fp8e4m3⟩
  | .local _ .vmem, ⟨14, _⟩ => ⟨S256x512, .fp8e4m3⟩
  | .local _ .vmem, ⟨15, _⟩ => ⟨S128x512, .f32⟩
  | .local _ .vmem, ⟨16, _⟩ => ⟨S8192x128, .f32⟩
  | .local _ .smem, ⟨0, _⟩ => ⟨S9x8, .f32⟩
  | _, _ => ⟨S9x8x192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![9, 8], ![false, false]⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v102 : BitVec 32 := Scalar.muli arg14 c128_i32
  v102
def k0_off2 (k0_t1 : Fin k0_t1_loop.trips) : Fin 4 → Nat :=
  let c0_63 : Index := 0#32
  let c0_64 : Index := 0#32
  let c0_65 : Index := 0#32
  let c0_i32 : BitVec 32 := 0#32
  let c1_i32 : BitVec 32 := 1#32
  let arg14 : BitVec 32 := Scf.iv c0_i32 c1_i32 k0_t1
  let c128_i32 : BitVec 32 := 128#32
  let v102 : BitVec 32 := Scalar.muli arg14 c128_i32
  let v103 : BitVec 32 := v102
  let v104 : Index := Scalar.indexCast v103
  ![0, 0, 0, v104.toNat]
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v102 : BitVec 32 := Scalar.muli arg14 c128_i32
  let v103 : BitVec 32 := v102
  let v112 : Index := Scalar.indexCast v103
  let c0_67 : Index := 0#32
  ![v112.toNat, 0]
def k0_mult2 : BitVec 32 :=
  let c0_i32_4 : BitVec 32 := 0#32
  c0_i32_4
def k0_mult3 : BitVec 32 :=
  let c0_i32_10 : BitVec 32 := 0#32
  c0_i32_10
def k0_mult4 : BitVec 32 :=
  let c0_i32_17 : BitVec 32 := 0#32
  c0_i32_17
def k0_mult5 : BitVec 32 :=
  let c0_i32_21 : BitVec 32 := 0#32
  c0_i32_21
@[reducible] def k0_t2_loop : Scf.Loop 32 :=
  let c0_i32_23 : BitVec 32 := 0#32
  let c15_i32 : BitVec 32 := 15#32
  let v41 : BitVec 32 := Scalar.addi c0_i32_23 c15_i32
  let c1_i32_24 : BitVec 32 := 1#32
  ⟨c0_i32_23, v41, c1_i32_24⟩
def k0_mult6 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c512_i32_64 : BitVec 32 := 512#32
  let v104 : BitVec 32 := Scalar.muli arg14 c512_i32_64
  v104
def k0_off4 (k0_t2 : Fin k0_t2_loop.trips) : Fin 4 → Nat :=
  let c0_65 : Index := 0#32
  let c0_66 : Index := 0#32
  let c0_67 : Index := 0#32
  let c0_i32_23 : BitVec 32 := 0#32
  let c1_i32_24 : BitVec 32 := 1#32
  let arg14 : BitVec 32 := Scf.iv c0_i32_23 c1_i32_24 k0_t2
  let c512_i32_64 : BitVec 32 := 512#32
  let v104 : BitVec 32 := Scalar.muli arg14 c512_i32_64
  let v105 : BitVec 32 := v104
  let v106 : Index := Scalar.indexCast v105
  ![0, 0, 0, v106.toNat]
def k0_mult7 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c1_i32_69 : BitVec 32 := 1#32
  let v111 : BitVec 32 := Scalar.addi arg14 c1_i32_69
  let c512_i32_70 : BitVec 32 := 512#32
  let v112 : BitVec 32 := Scalar.muli v111 c512_i32_70
  v112
def k0_off5 (k0_t2 : Fin k0_t2_loop.trips) : Fin 4 → Nat :=
  let c0_71 : Index := 0#32
  let c0_72 : Index := 0#32
  let c0_73 : Index := 0#32
  let c0_i32_23 : BitVec 32 := 0#32
  let c1_i32_24 : BitVec 32 := 1#32
  let arg14 : BitVec 32 := Scf.iv c0_i32_23 c1_i32_24 k0_t2
  let c1_i32_69 : BitVec 32 := 1#32
  let v111 : BitVec 32 := Scalar.addi arg14 c1_i32_69
  let c512_i32_70 : BitVec 32 := 512#32
  let v112 : BitVec 32 := Scalar.muli v111 c512_i32_70
  let v113 : BitVec 32 := v112
  let v114 : Index := Scalar.indexCast v113
  ![0, 0, 0, v114.toNat]
@[reducible] def k0_t3_loop (k0_t2 : Fin k0_t2_loop.trips) : Scf.Loop 32 :=
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let c1_i32_84 : BitVec 32 := 1#32
  ⟨c0_i32_82, v132, c1_i32_84⟩
def k0_mult8 (k0_t2 : Fin k0_t2_loop.trips) (k0_t3 : Fin (k0_t3_loop k0_t2).trips) : BitVec 32 :=
  let c0_i32_82 : BitVec 32 := 0#32
  let c1_i32_84 : BitVec 32 := 1#32
  let arg16 : BitVec 32 := Scf.iv c0_i32_82 c1_i32_84 k0_t3
  let c1_i32_139 : BitVec 32 := 1#32
  let v232 : BitVec 32 := Scalar.subi arg16 c1_i32_139
  let c0_i32_140 : BitVec 32 := 0#32
  let v233 : BitVec 32 := Scalar.maxsi v232 c0_i32_140
  let c512_i32_143 : BitVec 32 := 512#32
  let v235 : BitVec 32 := Scalar.muli v233 c512_i32_143
  v235
def k0_off6 (k0_t2 : Fin k0_t2_loop.trips) (k0_t3 : Fin (k0_t3_loop k0_t2).trips) : Fin 4 → Nat :=
  let c0_144 : Index := 0#32
  let c0_145 : Index := 0#32
  let c0_146 : Index := 0#32
  let c0_i32_82 : BitVec 32 := 0#32
  let c1_i32_84 : BitVec 32 := 1#32
  let arg16 : BitVec 32 := Scf.iv c0_i32_82 c1_i32_84 k0_t3
  let c1_i32_139 : BitVec 32 := 1#32
  let v232 : BitVec 32 := Scalar.subi arg16 c1_i32_139
  let c0_i32_140 : BitVec 32 := 0#32
  let v233 : BitVec 32 := Scalar.maxsi v232 c0_i32_140
  let c512_i32_143 : BitVec 32 := 512#32
  let v235 : BitVec 32 := Scalar.muli v233 c512_i32_143
  let v236 : BitVec 32 := v235
  let v237 : Index := Scalar.indexCast v236
  ![0, 0, 0, v237.toNat]
def k0_mult9 (k0_t2 : Fin k0_t2_loop.trips) (k0_t3 : Fin (k0_t3_loop k0_t2).trips) : BitVec 32 :=
  let c0_i32_82 : BitVec 32 := 0#32
  let c1_i32_84 : BitVec 32 := 1#32
  let arg16 : BitVec 32 := Scf.iv c0_i32_82 c1_i32_84 k0_t3
  let c512_i32_150 : BitVec 32 := 512#32
  let v245 : BitVec 32 := Scalar.muli arg16 c512_i32_150
  v245
def k0_off7 (k0_t2 : Fin k0_t2_loop.trips) (k0_t3 : Fin (k0_t3_loop k0_t2).trips) : Fin 2 → Nat :=
  let c0_i32_82 : BitVec 32 := 0#32
  let c1_i32_84 : BitVec 32 := 1#32
  let arg16 : BitVec 32 := Scf.iv c0_i32_82 c1_i32_84 k0_t3
  let c512_i32_150 : BitVec 32 := 512#32
  let v245 : BitVec 32 := Scalar.muli arg16 c512_i32_150
  let v246 : BitVec 32 := v245
  let v247 : Index := Scalar.indexCast v246
  let c0_151 : Index := 0#32
  ![v247.toNat, 0]
def k0_mult10 (k0_t2 : Fin k0_t2_loop.trips) (k0_t3 : Fin (k0_t3_loop k0_t2).trips) : BitVec 32 :=
  let c0_i32_82 : BitVec 32 := 0#32
  let c1_i32_84 : BitVec 32 := 1#32
  let arg16 : BitVec 32 := Scf.iv c0_i32_82 c1_i32_84 k0_t3
  let c512_i32_153 : BitVec 32 := 512#32
  let v258 : BitVec 32 := Scalar.muli arg16 c512_i32_153
  v258
def k0_off8 (k0_t2 : Fin k0_t2_loop.trips) (k0_t3 : Fin (k0_t3_loop k0_t2).trips) : Fin 4 → Nat :=
  let c0_154 : Index := 0#32
  let c0_155 : Index := 0#32
  let c0_i32_82 : BitVec 32 := 0#32
  let c1_i32_84 : BitVec 32 := 1#32
  let arg16 : BitVec 32 := Scf.iv c0_i32_82 c1_i32_84 k0_t3
  let c512_i32_153 : BitVec 32 := 512#32
  let v258 : BitVec 32 := Scalar.muli arg16 c512_i32_153
  let v259 : BitVec 32 := v258
  let v260 : Index := Scalar.indexCast v259
  let c0_156 : Index := 0#32
  ![0, 0, v260.toNat, 0]
def k0_mult11 (k0_t2 : Fin k0_t2_loop.trips) (k0_t3 : Fin (k0_t3_loop k0_t2).trips) : BitVec 32 :=
  let c0_i32_82 : BitVec 32 := 0#32
  let c1_i32_84 : BitVec 32 := 1#32
  let arg16 : BitVec 32 := Scf.iv c0_i32_82 c1_i32_84 k0_t3
  let c512_i32_160 : BitVec 32 := 512#32
  let v265 : BitVec 32 := Scalar.muli arg16 c512_i32_160
  v265
def k0_off9 (k0_t2 : Fin k0_t2_loop.trips) (k0_t3 : Fin (k0_t3_loop k0_t2).trips) : Fin 2 → Nat :=
  let c0_i32_82 : BitVec 32 := 0#32
  let c1_i32_84 : BitVec 32 := 1#32
  let arg16 : BitVec 32 := Scf.iv c0_i32_82 c1_i32_84 k0_t3
  let c512_i32_160 : BitVec 32 := 512#32
  let v265 : BitVec 32 := Scalar.muli arg16 c512_i32_160
  let v266 : BitVec 32 := v265
  let v267 : Index := Scalar.indexCast v266
  let c0_161 : Index := 0#32
  ![v267.toNat, 0]
def k0_mult12 (k0_t2 : Fin k0_t2_loop.trips) (k0_t3 : Fin (k0_t3_loop k0_t2).trips) : BitVec 32 :=
  let c0_i32_82 : BitVec 32 := 0#32
  let c1_i32_84 : BitVec 32 := 1#32
  let arg16 : BitVec 32 := Scf.iv c0_i32_82 c1_i32_84 k0_t3
  let c512_i32_163 : BitVec 32 := 512#32
  let v274 : BitVec 32 := Scalar.muli arg16 c512_i32_163
  v274
@[reducible] def k0_t4_loop (k0_t2 : Fin k0_t2_loop.trips) : Scf.Loop 32 :=
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let v129 : BitVec 32 := Scalar.addi c0_i32_82 v128
  let c1_i32_85 : BitVec 32 := 1#32
  ⟨v132, v129, c1_i32_85⟩
def k0_mult13 (k0_t2 : Fin k0_t2_loop.trips) (k0_t4 : Fin (k0_t4_loop k0_t2).trips) : BitVec 32 :=
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let c1_i32_85 : BitVec 32 := 1#32
  let arg16 : BitVec 32 := Scf.iv v132 c1_i32_85 k0_t4
  let c1_i32_139 : BitVec 32 := 1#32
  let v232 : BitVec 32 := Scalar.subi arg16 c1_i32_139
  let c0_i32_140 : BitVec 32 := 0#32
  let v233 : BitVec 32 := Scalar.maxsi v232 c0_i32_140
  let c512_i32_143 : BitVec 32 := 512#32
  let v235 : BitVec 32 := Scalar.muli v233 c512_i32_143
  v235
def k0_off10 (k0_t2 : Fin k0_t2_loop.trips) (k0_t4 : Fin (k0_t4_loop k0_t2).trips) : Fin 4 → Nat :=
  let c0_144 : Index := 0#32
  let c0_145 : Index := 0#32
  let c0_146 : Index := 0#32
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let c1_i32_85 : BitVec 32 := 1#32
  let arg16 : BitVec 32 := Scf.iv v132 c1_i32_85 k0_t4
  let c1_i32_139 : BitVec 32 := 1#32
  let v232 : BitVec 32 := Scalar.subi arg16 c1_i32_139
  let c0_i32_140 : BitVec 32 := 0#32
  let v233 : BitVec 32 := Scalar.maxsi v232 c0_i32_140
  let c512_i32_143 : BitVec 32 := 512#32
  let v235 : BitVec 32 := Scalar.muli v233 c512_i32_143
  let v236 : BitVec 32 := v235
  let v237 : Index := Scalar.indexCast v236
  ![0, 0, 0, v237.toNat]
def k0_mult14 (k0_t2 : Fin k0_t2_loop.trips) (k0_t4 : Fin (k0_t4_loop k0_t2).trips) : BitVec 32 :=
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let c1_i32_85 : BitVec 32 := 1#32
  let arg16 : BitVec 32 := Scf.iv v132 c1_i32_85 k0_t4
  let c512_i32_150 : BitVec 32 := 512#32
  let v245 : BitVec 32 := Scalar.muli arg16 c512_i32_150
  v245
def k0_off11 (k0_t2 : Fin k0_t2_loop.trips) (k0_t4 : Fin (k0_t4_loop k0_t2).trips) : Fin 2 → Nat :=
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let c1_i32_85 : BitVec 32 := 1#32
  let arg16 : BitVec 32 := Scf.iv v132 c1_i32_85 k0_t4
  let c512_i32_150 : BitVec 32 := 512#32
  let v245 : BitVec 32 := Scalar.muli arg16 c512_i32_150
  let v246 : BitVec 32 := v245
  let v247 : Index := Scalar.indexCast v246
  let c0_151 : Index := 0#32
  ![v247.toNat, 0]
def k0_mult15 (k0_t2 : Fin k0_t2_loop.trips) (k0_t4 : Fin (k0_t4_loop k0_t2).trips) : BitVec 32 :=
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let c1_i32_85 : BitVec 32 := 1#32
  let arg16 : BitVec 32 := Scf.iv v132 c1_i32_85 k0_t4
  let c512_i32_153 : BitVec 32 := 512#32
  let v258 : BitVec 32 := Scalar.muli arg16 c512_i32_153
  v258
def k0_off12 (k0_t2 : Fin k0_t2_loop.trips) (k0_t4 : Fin (k0_t4_loop k0_t2).trips) : Fin 4 → Nat :=
  let c0_154 : Index := 0#32
  let c0_155 : Index := 0#32
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let c1_i32_85 : BitVec 32 := 1#32
  let arg16 : BitVec 32 := Scf.iv v132 c1_i32_85 k0_t4
  let c512_i32_153 : BitVec 32 := 512#32
  let v258 : BitVec 32 := Scalar.muli arg16 c512_i32_153
  let v259 : BitVec 32 := v258
  let v260 : Index := Scalar.indexCast v259
  let c0_156 : Index := 0#32
  ![0, 0, v260.toNat, 0]
def k0_mult16 (k0_t2 : Fin k0_t2_loop.trips) (k0_t4 : Fin (k0_t4_loop k0_t2).trips) : BitVec 32 :=
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let c1_i32_85 : BitVec 32 := 1#32
  let arg16 : BitVec 32 := Scf.iv v132 c1_i32_85 k0_t4
  let c512_i32_160 : BitVec 32 := 512#32
  let v265 : BitVec 32 := Scalar.muli arg16 c512_i32_160
  v265
def k0_off13 (k0_t2 : Fin k0_t2_loop.trips) (k0_t4 : Fin (k0_t4_loop k0_t2).trips) : Fin 2 → Nat :=
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let c1_i32_85 : BitVec 32 := 1#32
  let arg16 : BitVec 32 := Scf.iv v132 c1_i32_85 k0_t4
  let c512_i32_160 : BitVec 32 := 512#32
  let v265 : BitVec 32 := Scalar.muli arg16 c512_i32_160
  let v266 : BitVec 32 := v265
  let v267 : Index := Scalar.indexCast v266
  let c0_161 : Index := 0#32
  ![v267.toNat, 0]
def k0_mult17 (k0_t2 : Fin k0_t2_loop.trips) (k0_t4 : Fin (k0_t4_loop k0_t2).trips) : BitVec 32 :=
  let c0_i32_82 : BitVec 32 := 0#32
  let c0_i32_23 : BitVec 32 := 0#32
  let c1_i32_24 : BitVec 32 := 1#32
  let arg14 : BitVec 32 := Scf.iv c0_i32_23 c1_i32_24 k0_t2
  let v128 : BitVec 32 := Scalar.subi arg14 c0_i32_82
  let c1_i32_83 : BitVec 32 := 1#32
  let v130 : BitVec 32 := Scalar.divsi v128 c1_i32_83
  let v131 : BitVec 32 := Scalar.muli v130 c1_i32_83
  let v132 : BitVec 32 := Scalar.addi c0_i32_82 v131
  let c1_i32_85 : BitVec 32 := 1#32
  let arg16 : BitVec 32 := Scf.iv v132 c1_i32_85 k0_t4
  let c512_i32_163 : BitVec 32 := 512#32
  let v274 : BitVec 32 := Scalar.muli arg16 c512_i32_163
  v274
def k0_mult18 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c1_i32_88 : BitVec 32 := 1#32
  let v136 : BitVec 32 := Scalar.subi arg14 c1_i32_88
  let c0_i32_89 : BitVec 32 := 0#32
  let v137 : BitVec 32 := Scalar.maxsi v136 c0_i32_89
  let c512_i32_92 : BitVec 32 := 512#32
  let v139 : BitVec 32 := Scalar.muli v137 c512_i32_92
  v139
def k0_off14 (k0_t2 : Fin k0_t2_loop.trips) : Fin 4 → Nat :=
  let c0_93 : Index := 0#32
  let c0_94 : Index := 0#32
  let c0_95 : Index := 0#32
  let c0_i32_23 : BitVec 32 := 0#32
  let c1_i32_24 : BitVec 32 := 1#32
  let arg14 : BitVec 32 := Scf.iv c0_i32_23 c1_i32_24 k0_t2
  let c1_i32_88 : BitVec 32 := 1#32
  let v136 : BitVec 32 := Scalar.subi arg14 c1_i32_88
  let c0_i32_89 : BitVec 32 := 0#32
  let v137 : BitVec 32 := Scalar.maxsi v136 c0_i32_89
  let c512_i32_92 : BitVec 32 := 512#32
  let v139 : BitVec 32 := Scalar.muli v137 c512_i32_92
  let v140 : BitVec 32 := v139
  let v141 : Index := Scalar.indexCast v140
  ![0, 0, 0, v141.toNat]
def k0_mult19 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c512_i32_97 : BitVec 32 := 512#32
  let v146 : BitVec 32 := Scalar.muli arg14 c512_i32_97
  v146
def k0_off15 (k0_t2 : Fin k0_t2_loop.trips) : Fin 2 → Nat :=
  let c0_i32_23 : BitVec 32 := 0#32
  let c1_i32_24 : BitVec 32 := 1#32
  let arg14 : BitVec 32 := Scf.iv c0_i32_23 c1_i32_24 k0_t2
  let c512_i32_97 : BitVec 32 := 512#32
  let v146 : BitVec 32 := Scalar.muli arg14 c512_i32_97
  let v147 : BitVec 32 := v146
  let v148 : Index := Scalar.indexCast v147
  let c0_98 : Index := 0#32
  ![v148.toNat, 0]
def k0_mult20 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c512_i32_100 : BitVec 32 := 512#32
  let v159 : BitVec 32 := Scalar.muli arg14 c512_i32_100
  v159
def k0_off16 (k0_t2 : Fin k0_t2_loop.trips) : Fin 4 → Nat :=
  let c0_101 : Index := 0#32
  let c0_102 : Index := 0#32
  let c0_i32_23 : BitVec 32 := 0#32
  let c1_i32_24 : BitVec 32 := 1#32
  let arg14 : BitVec 32 := Scf.iv c0_i32_23 c1_i32_24 k0_t2
  let c512_i32_100 : BitVec 32 := 512#32
  let v159 : BitVec 32 := Scalar.muli arg14 c512_i32_100
  let v160 : BitVec 32 := v159
  let v161 : Index := Scalar.indexCast v160
  let c0_103 : Index := 0#32
  ![0, 0, v161.toNat, 0]
def k0_mult21 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c512_i32_107 : BitVec 32 := 512#32
  let v166 : BitVec 32 := Scalar.muli arg14 c512_i32_107
  v166
def k0_off17 (k0_t2 : Fin k0_t2_loop.trips) : Fin 2 → Nat :=
  let c0_i32_23 : BitVec 32 := 0#32
  let c1_i32_24 : BitVec 32 := 1#32
  let arg14 : BitVec 32 := Scf.iv c0_i32_23 c1_i32_24 k0_t2
  let c512_i32_107 : BitVec 32 := 512#32
  let v166 : BitVec 32 := Scalar.muli arg14 c512_i32_107
  let v167 : BitVec 32 := v166
  let v168 : Index := Scalar.indexCast v167
  let c0_108 : Index := 0#32
  ![v168.toNat, 0]
def k0_mult22 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c512_i32_110 : BitVec 32 := 512#32
  let v175 : BitVec 32 := Scalar.muli arg14 c512_i32_110
  v175
def k0_mult23 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c1_i32_112 : BitVec 32 := 1#32
  let v181 : BitVec 32 := Scalar.addi arg14 c1_i32_112
  let c512_i32_113 : BitVec 32 := 512#32
  let v182 : BitVec 32 := Scalar.muli v181 c512_i32_113
  v182
def k0_off18 (k0_t2 : Fin k0_t2_loop.trips) : Fin 4 → Nat :=
  let c0_114 : Index := 0#32
  let c0_115 : Index := 0#32
  let c0_i32_23 : BitVec 32 := 0#32
  let c1_i32_24 : BitVec 32 := 1#32
  let arg14 : BitVec 32 := Scf.iv c0_i32_23 c1_i32_24 k0_t2
  let c1_i32_112 : BitVec 32 := 1#32
  let v181 : BitVec 32 := Scalar.addi arg14 c1_i32_112
  let c512_i32_113 : BitVec 32 := 512#32
  let v182 : BitVec 32 := Scalar.muli v181 c512_i32_113
  let v183 : BitVec 32 := v182
  let v184 : Index := Scalar.indexCast v183
  let c0_116 : Index := 0#32
  ![0, 0, v184.toNat, 0]
def k0_mult24 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c1_i32_112 : BitVec 32 := 1#32
  let v181 : BitVec 32 := Scalar.addi arg14 c1_i32_112
  let c512_i32_120 : BitVec 32 := 512#32
  let v189 : BitVec 32 := Scalar.muli v181 c512_i32_120
  v189
def k0_off19 (k0_t2 : Fin k0_t2_loop.trips) : Fin 2 → Nat :=
  let c0_i32_23 : BitVec 32 := 0#32
  let c1_i32_24 : BitVec 32 := 1#32
  let arg14 : BitVec 32 := Scf.iv c0_i32_23 c1_i32_24 k0_t2
  let c1_i32_112 : BitVec 32 := 1#32
  let v181 : BitVec 32 := Scalar.addi arg14 c1_i32_112
  let c512_i32_120 : BitVec 32 := 512#32
  let v189 : BitVec 32 := Scalar.muli v181 c512_i32_120
  let v190 : BitVec 32 := v189
  let v191 : Index := Scalar.indexCast v190
  let c0_121 : Index := 0#32
  ![v191.toNat, 0]
def k0_mult25 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c1_i32_124 : BitVec 32 := 1#32
  let v203 : BitVec 32 := Scalar.addi arg14 c1_i32_124
  let c512_i32_125 : BitVec 32 := 512#32
  let v204 : BitVec 32 := Scalar.muli v203 c512_i32_125
  v204
def k0_off20 (k0_t2 : Fin k0_t2_loop.trips) : Fin 2 → Nat :=
  let c0_i32_23 : BitVec 32 := 0#32
  let c1_i32_24 : BitVec 32 := 1#32
  let arg14 : BitVec 32 := Scf.iv c0_i32_23 c1_i32_24 k0_t2
  let c1_i32_124 : BitVec 32 := 1#32
  let v203 : BitVec 32 := Scalar.addi arg14 c1_i32_124
  let c512_i32_125 : BitVec 32 := 512#32
  let v204 : BitVec 32 := Scalar.muli v203 c512_i32_125
  let v205 : BitVec 32 := v204
  let v206 : Index := Scalar.indexCast v205
  let c0_126 : Index := 0#32
  ![v206.toNat, 0]
def k0_mult26 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c512_i32_127 : BitVec 32 := 512#32
  let v210 : BitVec 32 := Scalar.muli arg14 c512_i32_127
  v210
def k0_off21 (k0_t2 : Fin k0_t2_loop.trips) : Fin 4 → Nat :=
  let c0_128 : Index := 0#32
  let c0_129 : Index := 0#32
  let c0_130 : Index := 0#32
  let c0_i32_23 : BitVec 32 := 0#32
  let c1_i32_24 : BitVec 32 := 1#32
  let arg14 : BitVec 32 := Scf.iv c0_i32_23 c1_i32_24 k0_t2
  let c512_i32_127 : BitVec 32 := 512#32
  let v210 : BitVec 32 := Scalar.muli arg14 c512_i32_127
  let v211 : BitVec 32 := v210
  let v212 : Index := Scalar.indexCast v211
  ![0, 0, 0, v212.toNat]
def k0_mult27 (k0_t2 : Fin k0_t2_loop.trips) : BitVec 32 :=
  let c0_i32_23 : BitVec 32 := 0#32
  let c1_i32_24 : BitVec 32 := 1#32
  let arg14 : BitVec 32 := Scf.iv c0_i32_23 c1_i32_24 k0_t2
  let c512_i32_133 : BitVec 32 := 512#32
  let v225 : BitVec 32 := Scalar.muli arg14 c512_i32_133
  v225
def k0_off22 (k0_t2 : Fin k0_t2_loop.trips) : Fin 4 → Nat :=
  let c0_134 : Index := 0#32
  let c0_135 : Index := 0#32
  let c0_i32_23 : BitVec 32 := 0#32
  let c1_i32_24 : BitVec 32 := 1#32
  let arg14 : BitVec 32 := Scf.iv c0_i32_23 c1_i32_24 k0_t2
  let c512_i32_133 : BitVec 32 := 512#32
  let v225 : BitVec 32 := Scalar.muli arg14 c512_i32_133
  let v226 : BitVec 32 := v225
  let v227 : Index := Scalar.indexCast v226
  let c0_136 : Index := 0#32
  ![0, 0, v227.toNat, 0]
def k0_mult28 : BitVec 32 :=
  let c7680_i32 : BitVec 32 := 7680#32
  c7680_i32
@[reducible] def k0_t5_loop : Scf.Loop 32 :=
  let c0_i32_37 : BitVec 32 := 0#32
  let c15_i32_38 : BitVec 32 := 15#32
  let v59 : BitVec 32 := Scalar.addi c0_i32_37 c15_i32_38
  let c1_i32_39 : BitVec 32 := 1#32
  ⟨c0_i32_37, v59, c1_i32_39⟩
def k0_mult29 (k0_t5 : Fin k0_t5_loop.trips) : BitVec 32 :=
  let c0_i32_37 : BitVec 32 := 0#32
  let c1_i32_39 : BitVec 32 := 1#32
  let arg14 : BitVec 32 := Scf.iv c0_i32_37 c1_i32_39 k0_t5
  let c1_i32_65 : BitVec 32 := 1#32
  let v103 : BitVec 32 := Scalar.subi arg14 c1_i32_65
  let c0_i32_66 : BitVec 32 := 0#32
  let v104 : BitVec 32 := Scalar.maxsi v103 c0_i32_66
  let c512_i32_69 : BitVec 32 := 512#32
  let v106 : BitVec 32 := Scalar.muli v104 c512_i32_69
  v106
def k0_off23 (k0_t5 : Fin k0_t5_loop.trips) : Fin 4 → Nat :=
  let c0_70 : Index := 0#32
  let c0_71 : Index := 0#32
  let c0_72 : Index := 0#32
  let c0_i32_37 : BitVec 32 := 0#32
  let c1_i32_39 : BitVec 32 := 1#32
  let arg14 : BitVec 32 := Scf.iv c0_i32_37 c1_i32_39 k0_t5
  let c1_i32_65 : BitVec 32 := 1#32
  let v103 : BitVec 32 := Scalar.subi arg14 c1_i32_65
  let c0_i32_66 : BitVec 32 := 0#32
  let v104 : BitVec 32 := Scalar.maxsi v103 c0_i32_66
  let c512_i32_69 : BitVec 32 := 512#32
  let v106 : BitVec 32 := Scalar.muli v104 c512_i32_69
  let v107 : BitVec 32 := v106
  let v108 : Index := Scalar.indexCast v107
  ![0, 0, 0, v108.toNat]
def k0_mult30 (k0_t5 : Fin k0_t5_loop.trips) : BitVec 32 :=
  let c0_i32_37 : BitVec 32 := 0#32
  let c1_i32_39 : BitVec 32 := 1#32
  let arg14 : BitVec 32 := Scf.iv c0_i32_37 c1_i32_39 k0_t5
  let c512_i32_76 : BitVec 32 := 512#32
  let v116 : BitVec 32 := Scalar.muli arg14 c512_i32_76
  v116
def k0_off24 (k0_t5 : Fin k0_t5_loop.trips) : Fin 2 → Nat :=
  let c0_i32_37 : BitVec 32 := 0#32
  let c1_i32_39 : BitVec 32 := 1#32
  let arg14 : BitVec 32 := Scf.iv c0_i32_37 c1_i32_39 k0_t5
  let c512_i32_76 : BitVec 32 := 512#32
  let v116 : BitVec 32 := Scalar.muli arg14 c512_i32_76
  let v117 : BitVec 32 := v116
  let v118 : Index := Scalar.indexCast v117
  let c0_77 : Index := 0#32
  ![v118.toNat, 0]
def k0_mult31 : BitVec 32 :=
  let c14_i32 : BitVec 32 := 14#32
  let c0_i32_43 : BitVec 32 := 0#32
  let v62 : BitVec 32 := Scalar.maxsi c14_i32 c0_i32_43
  let c512_i32 : BitVec 32 := 512#32
  let v64 : BitVec 32 := Scalar.muli v62 c512_i32
  v64
def k0_off25 : Fin 4 → Nat :=
  let c0_46 : Index := 0#32
  let c0_47 : Index := 0#32
  let c0_48 : Index := 0#32
  let c14_i32 : BitVec 32 := 14#32
  let c0_i32_43 : BitVec 32 := 0#32
  let v62 : BitVec 32 := Scalar.maxsi c14_i32 c0_i32_43
  let c512_i32 : BitVec 32 := 512#32
  let v64 : BitVec 32 := Scalar.muli v62 c512_i32
  let v65 : BitVec 32 := v64
  let v66 : Index := Scalar.indexCast v65
  ![0, 0, 0, v66.toNat]
def k0_mult32 : BitVec 32 :=
  let c7680_i32_50 : BitVec 32 := 7680#32
  c7680_i32_50
def k0_mult33 : BitVec 32 :=
  let c7680_i32_53 : BitVec 32 := 7680#32
  c7680_i32_53
def k0_mult34 : BitVec 32 :=
  let c7680_i32_59 : BitVec 32 := 7680#32
  c7680_i32_59
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x192x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S9x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S9x8x192x8192 : Shape := ⟨4, ![9, 8, 192, 8192]⟩
abbrev S9x8x8192 : Shape := ⟨3, ![9, 8, 8192]⟩
abbrev S9x8x8192x256 : Shape := ⟨4, ![9, 8, 8192, 256]⟩
abbrev S9x8x128x8192 : Shape := ⟨4, ![9, 8, 128, 8192]⟩
abbrev S9x8 : Shape := ⟨2, ![9, 8]⟩
abbrev S9x8x8192x128 : Shape := ⟨4, ![9, 8, 8192, 128]⟩
abbrev S72x192x8192 : Shape := ⟨3, ![72, 192, 8192]⟩
abbrev S72x8192x256 : Shape := ⟨3, ![72, 8192, 256]⟩
abbrev S72x8192x192 : Shape := ⟨3, ![72, 8192, 192]⟩
abbrev S72x128x8192 : Shape := ⟨3, ![72, 128, 8192]⟩
abbrev S72x8192x8192 : Shape := ⟨3, ![72, 8192, 8192]⟩
abbrev S72x8192 : Shape := ⟨2, ![72, 8192]⟩
abbrev S72x8192x1 : Shape := ⟨3, ![72, 8192, 1]⟩
abbrev S72x1x8192 : Shape := ⟨3, ![72, 1, 8192]⟩
abbrev S8192x8192 : Shape := ⟨2, ![8192, 8192]⟩
abbrev S1x8192x8192 : Shape := ⟨3, ![1, 8192, 8192]⟩
abbrev S72x8192x128 : Shape := ⟨3, ![72, 8192, 128]⟩
abbrev S72x1x1 : Shape := ⟨3, ![72, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S9x8x192x8192, .fp8e4m3⟩
  | .hbm, ⟨1, _⟩ => ⟨S9x8x8192, .f32⟩
  | .hbm, ⟨2, _⟩ => ⟨S9x8x8192x256, .fp8e4m3⟩
  | .hbm, ⟨3, _⟩ => ⟨S9x8x8192, .f32⟩
  | .hbm, ⟨4, _⟩ => ⟨S9x8x128x8192, .fp8e4m3⟩
  | .hbm, ⟨5, _⟩ => ⟨S9x8, .f32⟩
  | .hbm, ⟨6, _⟩ => ⟨S9x8x8192x128, .bf16⟩
  | .local _ .vmem, ⟨0, _⟩ => ⟨S9x8x192x8192, .fp8e4m3⟩
  | .local _ .vmem, ⟨1, _⟩ => ⟨S9x8x8192, .f32⟩
  | .local _ .vmem, ⟨2, _⟩ => ⟨S9x8x8192x256, .fp8e4m3⟩
  | .local _ .vmem, ⟨3, _⟩ => ⟨S9x8x8192, .f32⟩
  | .local _ .vmem, ⟨4, _⟩ => ⟨S9x8x128x8192, .fp8e4m3⟩
  | .local _ .vmem, ⟨5, _⟩ => ⟨S9x8, .f32⟩
  | .local _ .vmem, ⟨6, _⟩ => ⟨S9x8x8192x128, .bf16⟩
  | _, _ => ⟨S9x8x192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S9x8x192x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x8x8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x8x128x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x8x8192x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== VQuant.lean ====
abbrev S9x8192x512 : Shape := ⟨3, ![9, 8192, 512]⟩
abbrev S9x8192 : Shape := ⟨2, ![9, 8192]⟩
abbrev S8x512x128 : Shape := ⟨3, ![8, 512, 128]⟩
abbrev S8x128 : Shape := ⟨2, ![8, 128]⟩
abbrev S9x8 : Shape := ⟨2, ![9, 8]⟩
abbrev S9x1x8192 : Shape := ⟨3, ![9, 1, 8192]⟩
abbrev S8x128x512 : Shape := ⟨3, ![8, 128, 512]⟩
abbrev S8x128x1 : Shape := ⟨3, ![8, 128, 1]⟩
abbrev S8x128x128 : Shape := ⟨3, ![8, 128, 128]⟩
abbrev S9x8x128x8192 : Shape := ⟨4, ![9, 8, 128, 8192]⟩
abbrev S1x512x512 : Shape := ⟨3, ![1, 512, 512]⟩
abbrev S1x1x512 : Shape := ⟨3, ![1, 1, 512]⟩
abbrev S1x8x128x512 : Shape := ⟨4, ![1, 8, 128, 512]⟩
abbrev S512x512 : Shape := ⟨2, ![512, 512]⟩
abbrev S1x512 : Shape := ⟨2, ![1, 512]⟩
abbrev S1x128x512 : Shape := ⟨3, ![1, 128, 512]⟩
abbrev S128x512 : Shape := ⟨2, ![128, 512]⟩
abbrev S1x128x128 : Shape := ⟨3, ![1, 128, 128]⟩
abbrev S128x128 : Shape := ⟨2, ![128, 128]⟩
abbrev S128x1 : Shape := ⟨2, ![128, 1]⟩
abbrev S1x1 : Shape := ⟨2, ![1, 1]⟩
abbrev S1x1x128x512 : Shape := ⟨4, ![1, 1, 128, 512]⟩

abbrev nBuf : Space → Nat
  | .hbm => 10
  | .vmem => 8
  | .smem => 1
  | _ => 0

abbrev bufTy : (tb : Table) → Fin (tcTables nBuf tb) → BufTy
  | .hbm, ⟨0, _⟩ => ⟨S9x8192x512, .fp8e4m3⟩
  | .hbm, ⟨1, _⟩ => ⟨S9x8192, .f32⟩
  | .hbm, ⟨2, _⟩ => ⟨S8x512x128, .fp8e4m3⟩
  | .hbm, ⟨3, _⟩ => ⟨S8x128, .f32⟩
  | .hbm, ⟨4, _⟩ => ⟨S9x8, .f32⟩
  | .hbm, ⟨5, _⟩ => ⟨S9x1x8192, .f32⟩
  | .hbm, ⟨6, _⟩ => ⟨S8x128x512, .fp8e4m3⟩
  | .hbm, ⟨7, _⟩ => ⟨S8x128x1, .f32⟩
  | .hbm, ⟨8, _⟩ => ⟨S8x128x128, .f32⟩
  | .hbm, ⟨9, _⟩ => ⟨S9x8x128x8192, .fp8e4m3⟩
  | .local _ .vmem, ⟨0, _⟩ => ⟨S1x512x512, .fp8e4m3⟩
  | .local _ .vmem, ⟨1, _⟩ => ⟨S1x512x512, .fp8e4m3⟩
  | .local _ .vmem, ⟨2, _⟩ => ⟨S1x1x512, .f32⟩
  | .local _ .vmem, ⟨3, _⟩ => ⟨S1x1x512, .f32⟩
  | .local _ .vmem, ⟨4, _⟩ => ⟨S8x128x512, .fp8e4m3⟩
  | .local _ .vmem, ⟨5, _⟩ => ⟨S8x128x128, .f32⟩
  | .local _ .vmem, ⟨6, _⟩ => ⟨S1x8x128x512, .fp8e4m3⟩
  | .local _ .vmem, ⟨7, _⟩ => ⟨S1x8x128x512, .fp8e4m3⟩
  | .local _ .smem, ⟨0, _⟩ => ⟨S9x8, .f32⟩
  | _, _ => ⟨S9x8192x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![9, 16], ![false, false]⟩

def k0_off1 (i : grid0.Coords) : Fin 2 → Nat :=
  let arg0 : BitVec 32 := BitVec.ofNat 32 (i 0).val
  let v14 : Index := Scalar.indexCast arg0
  let c0_11 : Index := 0#32
  ![v14.toNat, 0]
def k0_off2 (i : grid0.Coords) : Fin 2 → Nat :=
  let arg0 : BitVec 32 := BitVec.ofNat 32 (i 0).val
  let v36 : Index := Scalar.indexCast arg0
  let c1_24 : Index := 1#32
  ![v36.toNat, 1]
def k0_off3 (i : grid0.Coords) : Fin 2 → Nat :=
  let arg0 : BitVec 32 := BitVec.ofNat 32 (i 0).val
  let v58 : Index := Scalar.indexCast arg0
  let c2_37 : Index := 2#32
  ![v58.toNat, 2]
def k0_off4 (i : grid0.Coords) : Fin 2 → Nat :=
  let arg0 : BitVec 32 := BitVec.ofNat 32 (i 0).val
  let v80 : Index := Scalar.indexCast arg0
  let c3_50 : Index := 3#32
  ![v80.toNat, 3]
def k0_off5 (i : grid0.Coords) : Fin 2 → Nat :=
  let arg0 : BitVec 32 := BitVec.ofNat 32 (i 0).val
  let v102 : Index := Scalar.indexCast arg0
  let c4_63 : Index := 4#32
  ![v102.toNat, 4]
def k0_off6 (i : grid0.Coords) : Fin 2 → Nat :=
  let arg0 : BitVec 32 := BitVec.ofNat 32 (i 0).val
  let v124 : Index := Scalar.indexCast arg0
  let c5_76 : Index := 5#32
  ![v124.toNat, 5]
def k0_off7 (i : grid0.Coords) : Fin 2 → Nat :=
  let arg0 : BitVec 32 := BitVec.ofNat 32 (i 0).val
  let v146 : Index := Scalar.indexCast arg0
  let c6_89 : Index := 6#32
  ![v146.toNat, 6]
def k0_off8 (i : grid0.Coords) : Fin 2 → Nat :=
  let arg0 : BitVec 32 := BitVec.ofNat 32 (i 0).val
  let v168 : Index := Scalar.indexCast arg0
  let c7_102 : Index := 7#32
  ![v168.toNat, 7]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S9x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== VCodesIdeal.lean ====
abbrev S9x8192x512 : Shape := ⟨3, ![9, 8192, 512]⟩
abbrev S9x8192 : Shape := ⟨2, ![9, 8192]⟩
abbrev S8x512x128 : Shape := ⟨3, ![8, 512, 128]⟩
abbrev S8x128 : Shape := ⟨2, ![8, 128]⟩
abbrev S9x8 : Shape := ⟨2, ![9, 8]⟩
abbrev S9x8x128x8192 : Shape := ⟨4, ![9, 8, 128, 8192]⟩
abbrev S9x8192x8x128 : Shape := ⟨4, ![9, 8192, 8, 128]⟩
abbrev S9x8192x1x1 : Shape := ⟨4, ![9, 8192, 1, 1]⟩
abbrev S1x1x8x128 : Shape := ⟨4, ![1, 1, 8, 128]⟩
abbrev S9x1x8x1 : Shape := ⟨4, ![9, 1, 8, 1]⟩

abbrev nBuf : Space → Nat
  | .hbm => 6
  | .vmem => 6
  | .smem => 0
  | _ => 0

abbrev bufTy : (tb : Table) → Fin (tcTables nBuf tb) → BufTy
  | .hbm, ⟨0, _⟩ => ⟨S9x8192x512, .fp8e4m3⟩
  | .hbm, ⟨1, _⟩ => ⟨S9x8192, .f32⟩
  | .hbm, ⟨2, _⟩ => ⟨S8x512x128, .fp8e4m3⟩
  | .hbm, ⟨3, _⟩ => ⟨S8x128, .f32⟩
  | .hbm, ⟨4, _⟩ => ⟨S9x8, .f32⟩
  | .hbm, ⟨5, _⟩ => ⟨S9x8x128x8192, .fp8e4m3⟩
  | .local _ .vmem, ⟨0, _⟩ => ⟨S9x8192x512, .fp8e4m3⟩
  | .local _ .vmem, ⟨1, _⟩ => ⟨S9x8192, .f32⟩
  | .local _ .vmem, ⟨2, _⟩ => ⟨S8x512x128, .fp8e4m3⟩
  | .local _ .vmem, ⟨3, _⟩ => ⟨S8x128, .f32⟩
  | .local _ .vmem, ⟨4, _⟩ => ⟨S9x8, .f32⟩
  | .local _ .vmem, ⟨5, _⟩ => ⟨S9x8x128x8192, .fp8e4m3⟩
  | _, _ => ⟨S9x8192x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S9x8192x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x8x128x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.TripKernel.lean ====
/- The outer loop of the attention body (one trip per query block but the last): one trip as a function of the
   carried running maximum and of what the trip finds in the output block and the four scratch buffers, the
   recursion over the trips, and the loop's invariant over it. -/
module

public import proofs.«01_k».proof.Proof.Gen.Kernel.Loops
public import proofs.«01_k».proof.Proof.Gen.Kernel.Frame

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Where the delayed value product of a trip reads: the key block before the trip's, block 0 at trip 0. -/
theorem off6_eq : ∀ (k0_t2 : Fin k0_t2_loop.trips) (k0_t3 : Fin (k0_t3_loop k0_t2).trips), k0_off6 k0_t2 k0_t3 = ![0, 0, 0, 512 * (k0_t3.val - 1)] := by decide +kernel
theorem off14_eq : ∀ (k0_t2 : Fin k0_t2_loop.trips), k0_off14 k0_t2 = ![0, 0, 0, 512 * (k0_t2.val - 1)] := by decide +kernel
theorem off23_eq : ∀ (k0_t5 : Fin k0_t5_loop.trips), k0_off23 k0_t5 = ![0, 0, 0, 512 * (k0_t5.val - 1)] := by decide +kernel

/-- What is `G 0` at 0 and `G` after it is `G`. -/
theorem rec_at {α : Type} (g : α) (G : ℕ → α) (h : g = G 0) (k : ℕ) :
    (Nat.rec (motive := fun _ => α) g (fun n _ => G (n + 1)) k : α) = G k := by
  cases k with
  | zero => exact h
  | succ n => rfl

variable (𝒱 : Variants) (c : Dev nD) (bd : Option 𝒱.V) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole)

/-- The body's arrays and scratch during the outer loop: the operands read at `X·`, the rest at `f·`. -/
abbrev Res (X2 : BufTy.Contents (Elt F) arg2.view.ty) (X3 : BufTy.Contents (Elt F) arg3.view.ty) (X4 : BufTy.Contents (Elt F) arg4.view.ty) (X6 : BufTy.Contents (Elt F) arg6.view.ty) (X13 : BufTy.Contents (Elt F) arg13.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg13.view.loc (c : Thread nD τ) ↦[arg13.view.set]{fullShare} X13) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

section
variable (v2 : Elt F .f32) (v8 : FVec F S8x512 .f32) (v9 : FVec F S8x512 .f32) (v27 : FVec F S512x512 .f32) (v30 : IVec S512x512 1) (X2 : BufTy.Contents (Elt F) arg2.view.ty) (X3 : BufTy.Contents (Elt F) arg3.view.ty) (X4 : BufTy.Contents (Elt F) arg4.view.ty) (X6 : BufTy.Contents (Elt F) arg6.view.ty) (X13 : BufTy.Contents (Elt F) arg13.view.ty)

/-- ONE TRIP of the outer loop: the running maximum it yields and what it leaves in the output block and in the
   scratch, as functions of what it finds. -/
@[irreducible] def trip2 (k : Fin k0_t2_loop.trips) :
    Σ' (R : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → FVec F S8x512 .f32) (W8 : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg8.view.ty) (W9 : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg9.view.ty) (W10 : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg10.view.ty) (W11 : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg11.view.ty), { W12 : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg12.view.ty // ∀ (E : Set ℕ) (acc : FVec F S8x512 .f32) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      Res (F := F) c arg2 arg3 arg4 arg6 arg8 arg9 arg10 arg11 arg12 arg13 X2 X3 X4 X6 X13 f8 f9 f10 f11 f12
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 v2 v8 v9 v27 v30 k acc)
          (fun yld => iprop(⌜yld = R acc f8 f9 f10 f11 f12⌝ ∗ Res (F := F) c arg2 arg3 arg4 arg6 arg8 arg9 arg10 arg11 arg12 arg13 X2 X3 X4 X6 X13 (W8 acc f8 f9 f10 f11 f12) (W9 acc f8 f9 f10 f11 f12) (W10 acc f8 f9 f10 f11 f12) (W11 acc f8 f9 f10 f11 f12) (W12 acc f8 f9 f10 f11 f12))) } := by
  refine ⟨?_, ?_, ?_, ?_, ?_, ?_, fun E acc f8 f9 f10 f11 f12 => ?run⟩
  case run =>
    unfold k0_t2_body
    iintro ⟨H2, H3, H4, H6, H13, H8, H9, H10, H11, H12⟩
    sl_exec
    sl_step
    sl_close

/-- One trip, state to state: the carried maximum with the contents of the output block and of the scratch. -/
def next2 (k : Fin k0_t2_loop.trips) (s : FVec F S8x512 .f32 × BufTy.Contents (Elt F) arg8.view.ty × BufTy.Contents (Elt F) arg9.view.ty × BufTy.Contents (Elt F) arg10.view.ty × BufTy.Contents (Elt F) arg11.view.ty × BufTy.Contents (Elt F) arg12.view.ty) : FVec F S8x512 .f32 × BufTy.Contents (Elt F) arg8.view.ty × BufTy.Contents (Elt F) arg9.view.ty × BufTy.Contents (Elt F) arg10.view.ty × BufTy.Contents (Elt F) arg11.view.ty × BufTy.Contents (Elt F) arg12.view.ty :=
  let t := trip2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k
  (t.1 s.1 s.2.1 s.2.2.1 s.2.2.2.1 s.2.2.2.2.1 s.2.2.2.2.2,
   t.2.1 s.1 s.2.1 s.2.2.1 s.2.2.2.1 s.2.2.2.2.1 s.2.2.2.2.2,
   t.2.2.1 s.1 s.2.1 s.2.2.1 s.2.2.2.1 s.2.2.2.2.1 s.2.2.2.2.2,
   t.2.2.2.1 s.1 s.2.1 s.2.2.1 s.2.2.2.1 s.2.2.2.2.1 s.2.2.2.2.2,
   t.2.2.2.2.1 s.1 s.2.1 s.2.2.1 s.2.2.2.1 s.2.2.2.2.1 s.2.2.2.2.2,
   t.2.2.2.2.2.1 s.1 s.2.1 s.2.2.1 s.2.2.2.1 s.2.2.2.2.1 s.2.2.2.2.2)

/-- The state before trip `n`. -/
def st2 (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (init : FVec F S8x512 .f32) : ℕ → FVec F S8x512 .f32 × BufTy.Contents (Elt F) arg8.view.ty × BufTy.Contents (Elt F) arg9.view.ty × BufTy.Contents (Elt F) arg10.view.ty × BufTy.Contents (Elt F) arg11.view.ty × BufTy.Contents (Elt F) arg12.view.ty
  | 0 => (init, g8, g9, g10, g11, g12)
  | n + 1 => if h : n < k0_t2_loop.trips then next2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 ⟨n, h⟩ (st2 g8 g9 g10 g11 g12 init n) else st2 g8 g9 g10 g11 g12 init n

theorem st2_succ (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (init : FVec F S8x512 .f32) (k : Fin k0_t2_loop.trips) :
    st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (k.val + 1)
      = next2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val) := by
  rw [st2.eq_2]; exact dif_pos k.isLt

/-- The invariant of the outer loop before trip `k`: the operands unchanged, the carried maximum and the buffers
   those of the recursion. -/
abbrev inv2 (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (init : FVec F S8x512 .f32) (k : ℕ) (acc : FVec F S8x512 .f32) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg13.view.loc (c : Thread nD τ) ↦[arg13.view.set]{fullShare} X13) ∗ (∃ f8, (arg8.view.loc (c : Thread nD τ) ↦[arg8.view.set]{fullShare} f8) ∗ ⌜f8 = Nat.rec (motive := fun _ => BufTy.Contents (Elt F) arg8.view.ty) g8 (fun n _ => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (n + 1)).2.1) k⌝) ∗ (∃ f9, (arg9.view.loc (c : Thread nD τ) ↦[arg9.view.set]{fullShare} f9) ∗ ⌜f9 = Nat.rec (motive := fun _ => BufTy.Contents (Elt F) arg9.view.ty) g9 (fun n _ => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (n + 1)).2.2.1) k⌝) ∗ (∃ f10, (arg10.view.loc (c : Thread nD τ) ↦[arg10.view.set]{fullShare} f10) ∗ ⌜f10 = Nat.rec (motive := fun _ => BufTy.Contents (Elt F) arg10.view.ty) g10 (fun n _ => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (n + 1)).2.2.2.1) k⌝) ∗ (∃ f11, (arg11.view.loc (c : Thread nD τ) ↦[arg11.view.set]{fullShare} f11) ∗ ⌜f11 = Nat.rec (motive := fun _ => BufTy.Contents (Elt F) arg11.view.ty) g11 (fun n _ => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (n + 1)).2.2.2.2.1) k⌝) ∗ (∃ f12, (arg12.view.loc (c : Thread nD τ) ↦[arg12.view.set]{fullShare} f12) ∗ ⌜f12 = Nat.rec (motive := fun _ => BufTy.Contents (Elt F) arg12.view.ty) g12 (fun n _ => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (n + 1)).2.2.2.2.2) k⌝) ∗ ⌜acc = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k).1⌝)
end

set_option warn.classDefReducibility false in
/-- The outer loop by its invariant. -/
@[sl_loop] def loopInv2 (E : Set ℕ) (v2 : Elt F .f32) (v8 : FVec F S8x512 .f32) (v9 : FVec F S8x512 .f32) (v27 : FVec F S512x512 .f32) (v30 : IVec S512x512 1) (X2 : BufTy.Contents (Elt F) arg2.view.ty) (X3 : BufTy.Contents (Elt F) arg3.view.ty) (X4 : BufTy.Contents (Elt F) arg4.view.ty) (X6 : BufTy.Contents (Elt F) arg6.view.ty) (X13 : BufTy.Contents (Elt F) arg13.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (init : FVec F S8x512 .f32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v2 v8 v9 v27 v30 init where
  inv := inv2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init
  step k acc := by
    iintro ⟨H2, H3, H4, H6, H13, ⟨%f8, H8, %h8⟩, ⟨%f9, H9, %h9⟩, ⟨%f10, H10, %h10⟩, ⟨%f11, H11, %h11⟩, ⟨%f12, H12, %h12⟩, %hacc⟩
    have e8 : f8 = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val).2.1 := h8.trans (rec_at _ (fun n => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n).2.1) rfl k.val)
    have e9 : f9 = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val).2.2.1 := h9.trans (rec_at _ (fun n => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n).2.2.1) rfl k.val)
    have e10 : f10 = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val).2.2.2.1 := h10.trans (rec_at _ (fun n => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n).2.2.2.1) rfl k.val)
    have e11 : f11 = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val).2.2.2.2.1 := h11.trans (rec_at _ (fun n => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n).2.2.2.2.1) rfl k.val)
    have e12 : f12 = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val).2.2.2.2.2 := h12.trans (rec_at _ (fun n => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n).2.2.2.2.2) rfl k.val)
    iapply (wp_wand_r Idealize.ShloMosaic.frame (wpE (defs₀ (F := F)) 𝒱 (c : Thread nD τ) bd) E)
    isplitl [H2 H3 H4 H6 H13 H8 H9 H10 H11 H12]
    · iapply ((trip2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).2.2.2.2.2.2 E acc f8 f9 f10 f11 f12)
      isplitl [H2]; · iexact H2
      isplitl [H3]; · iexact H3
      isplitl [H4]; · iexact H4
      isplitl [H6]; · iexact H6
      isplitl [H13]; · iexact H13
      isplitl [H8]; · iexact H8
      isplitl [H9]; · iexact H9
      isplitl [H10]; · iexact H10
      isplitl [H11]; · iexact H11
      iexact H12
    · iintro %yld ⟨%hy, H2, H3, H4, H6, H13, H8, H9, H10, H11, H12⟩
      subst hy hacc
      dsimp only [inv2]
      isplitl [H2]; · iexact H2
      isplitl [H3]; · iexact H3
      isplitl [H4]; · iexact H4
      isplitl [H6]; · iexact H6
      isplitl [H13]; · iexact H13
      isplitl [H8]; · iexists _; isplitl [H8]; · iexact H8
                      ipureintro; rw [st2_succ]; dsimp only [next2]; rw [← e8, ← e9, ← e10, ← e11, ← e12]
      isplitl [H9]; · iexists _; isplitl [H9]; · iexact H9
                      ipureintro; rw [st2_succ]; dsimp only [next2]; rw [← e8, ← e9, ← e10, ← e11, ← e12]
      isplitl [H10]; · iexists _; isplitl [H10]; · iexact H10
                       ipureintro; rw [st2_succ]; dsimp only [next2]; rw [← e8, ← e9, ← e10, ← e11, ← e12]
      isplitl [H11]; · iexists _; isplitl [H11]; · iexact H11
                       ipureintro; rw [st2_succ]; dsimp only [next2]; rw [← e8, ← e9, ← e10, ← e11, ← e12]
      isplitl [H12]; · iexists _; isplitl [H12]; · iexact H12
                       ipureintro; rw [st2_succ]; dsimp only [next2]; rw [← e8, ← e9, ← e10, ← e11, ← e12]
      ipureintro; rw [st2_succ]; dsimp only [next2]; rw [← e8, ← e9, ← e10, ← e11, ← e12]

end Cert.Kernel.Hand

end
-- ==== Proof.BodyKernel.lean ====
/- The attention body, run whole on staging memrefs and scratch of any contents: it terminates, leaves the operands as
   they were, and leaves in the output block a function of what it found. -/
module

public import proofs.«01_k».proof.Proof.TripKernel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option maxHeartbeats 4000000 in
/-- THE BODY: what it leaves in the output block, as a function of the operands' blocks and of what the output block and
   the scratch held before (on which the value does not in fact depend). -/
@[irreducible] def bodyRun (c : Dev nD) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole) :
    { W : BufTy.Contents (Elt F) arg2.view.ty → BufTy.Contents (Elt F) arg3.view.ty → BufTy.Contents (Elt F) arg4.view.ty → BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg8.view.ty // ∀ (E : Set ℕ) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (K : PUnit → sProp 𝕄G),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (W X2 X3 X4 X5 X6 X7 f8 f9 f10 f11 f12 f13)) ∗ (∃ g9 : BufTy.Contents (Elt F) arg9.view.ty, (arg9.view.loc (c : Thread nD τ) ↦[arg9.view.set]{fullShare} g9)) ∗ (∃ g10 : BufTy.Contents (Elt F) arg10.view.ty, (arg10.view.loc (c : Thread nD τ) ↦[arg10.view.set]{fullShare} g10)) ∗ (∃ g11 : BufTy.Contents (Elt F) arg11.view.ty, (arg11.view.loc (c : Thread nD τ) ↦[arg11.view.set]{fullShare} g11)) ∗ (∃ g12 : BufTy.Contents (Elt F) arg12.view.ty, (arg12.view.loc (c : Thread nD τ) ↦[arg12.view.set]{fullShare} g12)) ∗ (∃ g13 : BufTy.Contents (Elt F) arg13.view.ty, (arg13.view.loc (c : Thread nD τ) ↦[arg13.view.set]{fullShare} g13))) -∗ K ⟨⟩))
      ⊢ wp frame (wpE (defs₀ (F := F)) Variants.none (c : Thread nD τ) none) E (cc0_mla_attn (F := F) i arg2 harg2 arg3 harg3 arg4 harg4 arg5 harg5 arg6 harg6 arg7 harg7 arg8 harg8 arg9 harg9 arg10 harg10 arg11 harg11 arg12 harg12 arg13 harg13) K } := by
  refine ⟨?_, fun E X2 X3 X4 X5 X6 X7 f8 f9 f10 f11 f12 f13 K => ?run⟩
  case run =>
    simp only [cc0_mla_attn_eq_skeleton]; unfold cc0_mla_attn_skel
    simp only [k0_part6_eq_skeleton, k0_part7_eq_skeleton, k0_part8_eq_skeleton]
    iintro ⟨H2, H3, H4, H5, H6, H7, H8, H9, H10, H11, H12, H13, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13

end Cert.Kernel.Hand

end
-- ==== Proof.FrameKernel.lean ====
/- The run of the whole program from the run of the body: the result is forgotten, and the
   arguments end as they were. -/
module

public import proofs.«01_k».proof.Proof.BodyKernel
public import Idealize.ShloMosaic.Lib.Pipeline.FrameBody
public import Idealize.ShloMosaic.Lib.Claim
public import Idealize.ShloMosaic.Lib.Ring
public import Idealize.ShloMosaic.Lib.Tactic

@[expose] public section

set_option maxRecDepth 16384
set_option maxHeartbeats 1600000

noncomputable section

namespace Cert.Kernel.Frame

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The body on whole staging memrefs, the operands' at read contents `x·` and the rest at anything: the operands end as they
   were, and the output block as `bodyRun` says. -/
theorem sound_kernel (c : Dev nD) (E : Set ℕ) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole) (x2 : Vec F S1x1x192x8192 .fp8e4m3) (x3 : Vec F S1x1x1x8192 .f32) (x4 : Vec F S1x1x8192x256 .fp8e4m3) (x5 : Vec F S1x1x1x8192 .f32) (x6 : Vec F S1x1x128x8192 .fp8e4m3) (x7 : Vec F S9x8 .f32)  (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ g : Vec F S8192x512 .f32, owns (c : Thread nD τ) arg9 fullShare g) ∗ (∃ g : Vec F S512x512 .fp8e4m3, owns (c : Thread nD τ) arg10 fullShare g) ∗ (∃ g : Vec F S256x512 .fp8e4m3, owns (c : Thread nD τ) arg11 fullShare g) ∗ (∃ g : Vec F S128x512 .f32, owns (c : Thread nD τ) arg12 fullShare g) ∗ (∃ g : Vec F S8192x128 .f32, owns (c : Thread nD τ) arg13 fullShare g)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ y : Vec F S1x1x8192x128 .bf16, ⌜∃ (d2 : BufTy.Contents (Elt F) arg2.view.ty) (d3 : BufTy.Contents (Elt F) arg3.view.ty) (d4 : BufTy.Contents (Elt F) arg4.view.ty) (d5 : BufTy.Contents (Elt F) arg5.view.ty) (d6 : BufTy.Contents (Elt F) arg6.view.ty) (d7 : BufTy.Contents (Elt F) arg7.view.ty) (d8 : BufTy.Contents (Elt F) arg8.view.ty) (d9 : BufTy.Contents (Elt F) arg9.view.ty) (d10 : BufTy.Contents (Elt F) arg10.view.ty) (d11 : BufTy.Contents (Elt F) arg11.view.ty) (d12 : BufTy.Contents (Elt F) arg12.view.ty) (d13 : BufTy.Contents (Elt F) arg13.view.ty), arg2.view.read (Elt F) d2 = x2 ∧ arg3.view.read (Elt F) d3 = x3 ∧ arg4.view.read (Elt F) d4 = x4 ∧ arg5.view.read (Elt F) d5 = x5 ∧ arg6.view.read (Elt F) d6 = x6 ∧ arg7.view.read (Elt F) d7 = x7 ∧ y = arg8.view.read (Elt F) ((bodyRun (F := F) c i arg2 harg2 arg3 harg3 arg4 harg4 arg5 harg5 arg6 harg6 arg7 harg7 arg8 harg8 arg9 harg9 arg10 harg10 arg11 harg11 arg12 harg12 arg13 harg13).1 d2 d3 d4 d5 d6 d7 d8 d9 d10 d11 d12 d13)⌝ ∗ owns (c : Thread nD τ) arg8 fullShare y) ∗ (∃ g : Vec F S8192x512 .f32, owns (c : Thread nD τ) arg9 fullShare g) ∗ (∃ g : Vec F S512x512 .fp8e4m3, owns (c : Thread nD τ) arg10 fullShare g) ∗ (∃ g : Vec F S256x512 .fp8e4m3, owns (c : Thread nD τ) arg11 fullShare g) ∗ (∃ g : Vec F S128x512 .f32, owns (c : Thread nD τ) arg12 fullShare g) ∗ (∃ g : Vec F S8192x128 .f32, owns (c : Thread nD τ) arg13 fullShare g)) -∗ K ⟨⟩))
      ⊢ wp frame (wpE (defs₀ (F := F)) Variants.none c none) E (cc0_mla_attn i arg2 harg2 arg3 harg3 arg4 harg4 arg5 harg5 arg6 harg6 arg7 harg7 arg8 harg8 arg9 harg9 arg10 harg10 arg11 harg11 arg12 harg12 arg13 harg13) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%x9, %f9, -, H9⟩, ⟨%x10, %f10, -, H10⟩, ⟨%x11, %f11, -, H11⟩, ⟨%x12, %f12, -, H12⟩, ⟨%x13, %f13, -, H13⟩, Hk⟩
  subst hf2 hf3 hf4 hf5 hf6 hf7
  iapply ((bodyRun (F := F) c i arg2 harg2 arg3 harg3 arg4 harg4 arg5 harg5 arg6 harg6 arg7 harg7 arg8 harg8 arg9 harg9 arg10 harg10 arg11 harg11 arg12 harg12 arg13 harg13).2 E f2 f3 f4 f5 f6 f7 f8 f9 f10 f11 f12 f13 K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, H7, H8, H9, H10, H11, H12, H13⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists (arg8.view.read (Elt F) ((bodyRun (F := F) c i arg2 harg2 arg3 harg3 arg4 harg4 arg5 harg5 arg6 harg6 arg7 harg7 arg8 harg8 arg9 harg9 arg10 harg10 arg11 harg11 arg12 harg12 arg13 harg13).1 f2 f3 f4 f5 f6 f7 f8 f9 f10 f11 f12 f13))
    isplitr
    · ipureintro; exact ⟨f2, f3, f4, f5, f6, f7, f8, f9, f10, f11, f12, f13, rfl, rfl, rfl, rfl, rfl, rfl, rfl⟩
    · iexists ((bodyRun (F := F) c i arg2 harg2 arg3 harg3 arg4 harg4 arg5 harg5 arg6 harg6 arg7 harg7 arg8 harg8 arg9 harg9 arg10 harg10 arg11 harg11 arg12 harg12 arg13 harg13).1 f2 f3 f4 f5 f6 f7 f8 f9 f10 f11 f12 f13); isplitr
      · ipureintro; rfl
      · iexact H8
  isplitl [H9]; · icases H9 with ⟨%k, H9⟩; iexists _; iexists k; isplitr <;> first | iexact H9 | (ipureintro; rfl)
  isplitl [H10]; · icases H10 with ⟨%k, H10⟩; iexists _; iexists k; isplitr <;> first | iexact H10 | (ipureintro; rfl)
  isplitl [H11]; · icases H11 with ⟨%k, H11⟩; iexists _; iexists k; isplitr <;> first | iexact H11 | (ipureintro; rfl)
  isplitl [H12]; · icases H12 with ⟨%k, H12⟩; iexists _; iexists k; isplitr <;> first | iexact H12 | (ipureintro; rfl)
  icases H13 with ⟨%k, H13⟩; iexists _; iexists k; isplitr <;> first | iexact H13 | (ipureintro; rfl)

/-- The region's own scratch, each buffer whole at some contents, in the words of memrefs. -/
theorem scopedRest_owns (c : Dev nD) :
    (Pipeline.scopedRest (Ix := Unit) (Name := ℕ) (U := UR sig nD τ) (Lvl := ℕ) (Val := Elt F) spec0 c : sProp 𝕄)
      = iprop((∃ g : Vec F S8192x512 .f32, owns (c : Thread nD τ) (Memref.whole cc0_scratch0) fullShare g) ∗ (∃ g : Vec F S512x512 .fp8e4m3, owns (c : Thread nD τ) (Memref.whole cc0_scratch1) fullShare g) ∗ (∃ g : Vec F S256x512 .fp8e4m3, owns (c : Thread nD τ) (Memref.whole cc0_scratch2) fullShare g) ∗ (∃ g : Vec F S128x512 .f32, owns (c : Thread nD τ) (Memref.whole cc0_scratch3) fullShare g) ∗ (∃ g : Vec F S8192x128 .f32, owns (c : Thread nD τ) (Memref.whole cc0_scratch4) fullShare g)) := by
  rw [scopedRest0_eq]
  simp only [owns_whole]
  rfl

variable (m : (ℓ : Loc nD τ sig) → Buf (Elt F) ℓ) (ρ : Dev nD → PrngReg)

/-- The proof data of the pipeline: each window's array as the region finds it, and what the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m  0 c).A w = V m c (Pipeline.arrRef spec0 w) := by
  dsimp only [dats]

theorem after0_0 (c : Dev nD) (t : Fin cfg0.N) : (dats m  0 c).after 0 t = iblk m c 0 t := by dsimp only [dats]
theorem after0_1 (c : Dev nD) (t : Fin cfg0.N) : (dats m  0 c).after 1 t = iblk m c 1 t := by dsimp only [dats]
theorem after0_2 (c : Dev nD) (t : Fin cfg0.N) : (dats m  0 c).after 2 t = iblk m c 2 t := by dsimp only [dats]
theorem after0_3 (c : Dev nD) (t : Fin cfg0.N) : (dats m  0 c).after 3 t = iblk m c 3 t := by dsimp only [dats]
theorem after0_4 (c : Dev nD) (t : Fin cfg0.N) : (dats m  0 c).after 4 t = iblk m c 4 t := by dsimp only [dats]
theorem after0_5 (c : Dev nD) (t : Fin cfg0.N) : (dats m  0 c).after 5 t = iblk m c 5 t := by dsimp only [dats]

theorem before0_0 (c : Dev nD) (t : Fin cfg0.N) (d) : (dats m  0 c).before 0 t d = iblk m c 0 t :=
  before0_0_of m (dats m  0 c) (A_eq m  c 0) (after0_0 m  c) t d
theorem before0_1 (c : Dev nD) (t : Fin cfg0.N) (d) : (dats m  0 c).before 1 t d = iblk m c 1 t :=
  before0_1_of m (dats m  0 c) (A_eq m  c 1) (after0_1 m  c) t d
theorem before0_2 (c : Dev nD) (t : Fin cfg0.N) (d) : (dats m  0 c).before 2 t d = iblk m c 2 t :=
  before0_2_of m (dats m  0 c) (A_eq m  c 2) (after0_2 m  c) t d
theorem before0_3 (c : Dev nD) (t : Fin cfg0.N) (d) : (dats m  0 c).before 3 t d = iblk m c 3 t :=
  before0_3_of m (dats m  0 c) (A_eq m  c 3) (after0_3 m  c) t d
theorem before0_4 (c : Dev nD) (t : Fin cfg0.N) (d) : (dats m  0 c).before 4 t d = iblk m c 4 t :=
  before0_4_of m (dats m  0 c) (A_eq m  c 4) (after0_4 m  c) t d
theorem before0_5 (c : Dev nD) (t : Fin cfg0.N) (d) : (dats m  0 c).before 5 t d = iblk m c 5 t :=
  before0_5_of m (dats m  0 c) (A_eq m  c 5) (after0_5 m  c) t d

/-- What the body is called with at point `t`, the windows one by one, -/
def bodyPre (c : Dev nD) (t : Fin cfg0.N) : sProp 𝕄 :=
  iprop((dats m  0 c).Φ t.castSucc ∗ (dats m  0 c).owesAt () t.castSucc
    ∗ (∃ d, owns (c : Thread nD τ) (st0_0 t) fullShare ((dats m  0 c).before 0 t d))
    ∗ (∃ d, owns (c : Thread nD τ) (st0_1 t) fullShare ((dats m  0 c).before 1 t d))
    ∗ (∃ d, owns (c : Thread nD τ) (st0_2 t) fullShare ((dats m  0 c).before 2 t d))
    ∗ (∃ d, owns (c : Thread nD τ) (st0_3 t) fullShare ((dats m  0 c).before 3 t d))
    ∗ (∃ d, owns (c : Thread nD τ) (st0_4 t) fullShare ((dats m  0 c).before 4 t d))
    ∗ (∃ d, owns (c : Thread nD τ) (st0_5 t) fullShare ((dats m  0 c).before 5 t d))
    ∗ (∃ X, owns (c : Thread nD τ) (st0_6 t) fullShare X))

/-- and what it returns. -/
def bodyPost (c : Dev nD) (t : Fin cfg0.N) : sProp 𝕄 :=
  iprop((dats m  0 c).Φ t.succ ∗ (dats m  0 c).owesAt () t.succ
    ∗ owns (c : Thread nD τ) (st0_0 t) fullShare ((dats m  0 c).after 0 t)
    ∗ owns (c : Thread nD τ) (st0_1 t) fullShare ((dats m  0 c).after 1 t)
    ∗ owns (c : Thread nD τ) (st0_2 t) fullShare ((dats m  0 c).after 2 t)
    ∗ owns (c : Thread nD τ) (st0_3 t) fullShare ((dats m  0 c).after 3 t)
    ∗ owns (c : Thread nD τ) (st0_4 t) fullShare ((dats m  0 c).after 4 t)
    ∗ owns (c : Thread nD τ) (st0_5 t) fullShare ((dats m  0 c).after 5 t)
    ∗ (∃ X, owns (c : Thread nD τ) (st0_6 t) fullShare X))

/-- The body at any point. -/
theorem sound_body (c : Dev nD) (t : Fin cfg0.N) :
    bodyPre m  c t ⊢ wp frame (wpE (defs₀ (F := F)) Variants.none c none) Set.univ (bodyAt0 t) (fun _ => bodyPost m  c t) := by
  unfold bodyPre bodyPost bodyAt0
  simp only [before0_0, before0_1, before0_2, before0_3, before0_4, before0_5]
  rw [show (dats m  0 c).Φ t.castSucc = Pipeline.ΦA spec0 c from rfl, show (dats m  0 c).Φ t.succ = Pipeline.ΦA spec0 c from rfl,
    show (dats m  0 c).owesAt () t.succ = (dats m  0 c).owesAt () t.castSucc from rfl,
    after0_0, after0_1, after0_2, after0_3, after0_4, after0_5]
  unfold Pipeline.ΦA
  rw [scopedRest_owns]
  iintro ⟨⟨⟨G9, G10, G11, G12, G13⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (Memref.whole cc0_scratch0) _ (Memref.whole cc0_scratch1) _ (Memref.whole cc0_scratch2) _ (Memref.whole cc0_scratch3) _ (Memref.whole cc0_scratch4) _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [G9]; · iexact G9
  isplitl [G10]; · iexact G10
  isplitl [G11]; · iexact G11
  isplitl [G12]; · iexact G12
  isplitl [G13]; · iexact G13
  iintro ⟨H0, H1, H2, H3, H4, H5, ⟨%y, %hy, H6⟩, G9, G10, G11, G12, G13⟩
  isplitl [Hp G9 G10 G11 G12 G13]
  · isplitl [G9 G10 G11 G12 G13]
    · isplitl [G9]; · iexact G9
      isplitl [G10]; · iexact G10
      isplitl [G11]; · iexact G11
      isplitl [G12]; · iexact G12
      iexact G13
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists y; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The windows whose contents the run forgets: the result's. -/
abbrev fgt (w : Fin cfg0.W) : Bool := match w with | ⟨6, _⟩ => true | _ => false

theorem body_obligation (c : Dev nD) : BodyObligationLoose (dats m  (F := F) 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- THE LAUNCH: every run ends with each operand's array as the region found it, and every counter at zero. -/
theorem run_main : θ_run defs (onTc (τ := τ) (main (F := F))) (s₀ m ρ) (fun r => RDat.FramePost cfg0 (fun c => (dats m  0 c).toRForget fgt) (V m) r ∧ r.2.sem = fun _ => 0) :=
  Pipeline.θ_run_frame_forget (Q' := _) cfgs (dats m ) (0 : Fin 1) launch0 defs₀ Variants.none fgt m ρ main
    (hbody := body_obligation m) (hshare := fun c => (dats m  0 c).share_full fun _ => rfl)
    (howed := fun _ _ => rfl) (V := V m) (hmain := hmain m Variants.none) (hA := A_eq m) (hΦ := fun _ _ => rfl)

/-- THE FRAME: every run ends, with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((RDat.FramePost.arr_in h.1 c 0 rfl).trans (A_eq m c 0)).trans (V_main_arg0 m c),
      ((h.1 c).2 main_arg1 (Pipeline.mem_restRefs_of main_arg1 (by decide) (by decide))).trans (V_main_arg1 m c),
      ((RDat.FramePost.arr_in h.1 c 2 rfl).trans (A_eq m c 2)).trans (V_main_arg2 m c),
      ((h.1 c).2 main_arg3 (Pipeline.mem_restRefs_of main_arg3 (by decide) (by decide))).trans (V_main_arg3 m c),
      ((RDat.FramePost.arr_in h.1 c 4 rfl).trans (A_eq m c 4)).trans (V_main_arg4 m c),
      ((RDat.FramePost.arr_in h.1 c 5 rfl).trans (A_eq m c 5)).trans (V_main_arg5 m c)⟩, h.2⟩) (run_main m ρ)

end Cert.Kernel.Frame

end
-- ==== Proof.TripKernelIdeal.lean ====
/- The outer loop of the attention body (one trip per query block but the last): one trip as a function of the
   carried running maximum and of what the trip finds in the output block and the four scratch buffers, the
   recursion over the trips, and the loop's invariant over it. -/
module

public import proofs.«01_k».proof.Proof.Gen.KernelIdeal.Loops
public import proofs.«01_k».proof.Proof.Gen.KernelIdeal.Frame

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- Where the delayed value product of a trip reads: the key block before the trip's, block 0 at trip 0. -/
theorem off6_eq : ∀ (k0_t2 : Fin k0_t2_loop.trips) (k0_t3 : Fin (k0_t3_loop k0_t2).trips), k0_off6 k0_t2 k0_t3 = ![0, 0, 0, 512 * (k0_t3.val - 1)] := by decide +kernel
theorem off14_eq : ∀ (k0_t2 : Fin k0_t2_loop.trips), k0_off14 k0_t2 = ![0, 0, 0, 512 * (k0_t2.val - 1)] := by decide +kernel
theorem off23_eq : ∀ (k0_t5 : Fin k0_t5_loop.trips), k0_off23 k0_t5 = ![0, 0, 0, 512 * (k0_t5.val - 1)] := by decide +kernel

/-- What is `G 0` at 0 and `G` after it is `G`. -/
theorem rec_at {α : Type} (g : α) (G : ℕ → α) (h : g = G 0) (k : ℕ) :
    (Nat.rec (motive := fun _ => α) g (fun n _ => G (n + 1)) k : α) = G k := by
  cases k with
  | zero => exact h
  | succ n => rfl

variable (𝒱 : Variants) (c : Dev nD) (bd : Option 𝒱.V) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole)

/-- The body's arrays and scratch during the outer loop: the operands read at `X·`, the rest at `f·`. -/
abbrev Res (X2 : BufTy.Contents (Elt F) arg2.view.ty) (X3 : BufTy.Contents (Elt F) arg3.view.ty) (X4 : BufTy.Contents (Elt F) arg4.view.ty) (X6 : BufTy.Contents (Elt F) arg6.view.ty) (X13 : BufTy.Contents (Elt F) arg13.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg13.view.loc (c : Thread nD τ) ↦[arg13.view.set]{fullShare} X13) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

section
variable (v2 : Elt F .f32) (v8 : FVec F S8x512 .f32) (v9 : FVec F S8x512 .f32) (v27 : FVec F S512x512 .f32) (v30 : IVec S512x512 1) (X2 : BufTy.Contents (Elt F) arg2.view.ty) (X3 : BufTy.Contents (Elt F) arg3.view.ty) (X4 : BufTy.Contents (Elt F) arg4.view.ty) (X6 : BufTy.Contents (Elt F) arg6.view.ty) (X13 : BufTy.Contents (Elt F) arg13.view.ty)

/-- ONE TRIP of the outer loop: the running maximum it yields and what it leaves in the output block and in the
   scratch, as functions of what it finds. -/
@[irreducible] def trip2 (k : Fin k0_t2_loop.trips) :
    Σ' (R : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → FVec F S8x512 .f32) (W8 : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg8.view.ty) (W9 : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg9.view.ty) (W10 : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg10.view.ty) (W11 : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg11.view.ty), { W12 : FVec F S8x512 .f32 → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg12.view.ty // ∀ (E : Set ℕ) (acc : FVec F S8x512 .f32) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      Res (F := F) c arg2 arg3 arg4 arg6 arg8 arg9 arg10 arg11 arg12 arg13 X2 X3 X4 X6 X13 f8 f9 f10 f11 f12
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 v2 v8 v9 v27 v30 k acc)
          (fun yld => iprop(⌜yld = R acc f8 f9 f10 f11 f12⌝ ∗ Res (F := F) c arg2 arg3 arg4 arg6 arg8 arg9 arg10 arg11 arg12 arg13 X2 X3 X4 X6 X13 (W8 acc f8 f9 f10 f11 f12) (W9 acc f8 f9 f10 f11 f12) (W10 acc f8 f9 f10 f11 f12) (W11 acc f8 f9 f10 f11 f12) (W12 acc f8 f9 f10 f11 f12))) } := by
  refine ⟨?_, ?_, ?_, ?_, ?_, ?_, fun E acc f8 f9 f10 f11 f12 => ?run⟩
  case run =>
    unfold k0_t2_body
    iintro ⟨H2, H3, H4, H6, H13, H8, H9, H10, H11, H12⟩
    sl_exec
    sl_step
    sl_close

/-- One trip, state to state: the carried maximum with the contents of the output block and of the scratch. -/
def next2 (k : Fin k0_t2_loop.trips) (s : FVec F S8x512 .f32 × BufTy.Contents (Elt F) arg8.view.ty × BufTy.Contents (Elt F) arg9.view.ty × BufTy.Contents (Elt F) arg10.view.ty × BufTy.Contents (Elt F) arg11.view.ty × BufTy.Contents (Elt F) arg12.view.ty) : FVec F S8x512 .f32 × BufTy.Contents (Elt F) arg8.view.ty × BufTy.Contents (Elt F) arg9.view.ty × BufTy.Contents (Elt F) arg10.view.ty × BufTy.Contents (Elt F) arg11.view.ty × BufTy.Contents (Elt F) arg12.view.ty :=
  let t := trip2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k
  (t.1 s.1 s.2.1 s.2.2.1 s.2.2.2.1 s.2.2.2.2.1 s.2.2.2.2.2,
   t.2.1 s.1 s.2.1 s.2.2.1 s.2.2.2.1 s.2.2.2.2.1 s.2.2.2.2.2,
   t.2.2.1 s.1 s.2.1 s.2.2.1 s.2.2.2.1 s.2.2.2.2.1 s.2.2.2.2.2,
   t.2.2.2.1 s.1 s.2.1 s.2.2.1 s.2.2.2.1 s.2.2.2.2.1 s.2.2.2.2.2,
   t.2.2.2.2.1 s.1 s.2.1 s.2.2.1 s.2.2.2.1 s.2.2.2.2.1 s.2.2.2.2.2,
   t.2.2.2.2.2.1 s.1 s.2.1 s.2.2.1 s.2.2.2.1 s.2.2.2.2.1 s.2.2.2.2.2)

/-- The state before trip `n`. -/
def st2 (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (init : FVec F S8x512 .f32) : ℕ → FVec F S8x512 .f32 × BufTy.Contents (Elt F) arg8.view.ty × BufTy.Contents (Elt F) arg9.view.ty × BufTy.Contents (Elt F) arg10.view.ty × BufTy.Contents (Elt F) arg11.view.ty × BufTy.Contents (Elt F) arg12.view.ty
  | 0 => (init, g8, g9, g10, g11, g12)
  | n + 1 => if h : n < k0_t2_loop.trips then next2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 ⟨n, h⟩ (st2 g8 g9 g10 g11 g12 init n) else st2 g8 g9 g10 g11 g12 init n

theorem st2_succ (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (init : FVec F S8x512 .f32) (k : Fin k0_t2_loop.trips) :
    st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (k.val + 1)
      = next2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val) := by
  rw [st2.eq_2]; exact dif_pos k.isLt

/-- The invariant of the outer loop before trip `k`: the operands unchanged, the carried maximum and the buffers
   those of the recursion. -/
abbrev inv2 (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (init : FVec F S8x512 .f32) (k : ℕ) (acc : FVec F S8x512 .f32) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg13.view.loc (c : Thread nD τ) ↦[arg13.view.set]{fullShare} X13) ∗ (∃ f8, (arg8.view.loc (c : Thread nD τ) ↦[arg8.view.set]{fullShare} f8) ∗ ⌜f8 = Nat.rec (motive := fun _ => BufTy.Contents (Elt F) arg8.view.ty) g8 (fun n _ => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (n + 1)).2.1) k⌝) ∗ (∃ f9, (arg9.view.loc (c : Thread nD τ) ↦[arg9.view.set]{fullShare} f9) ∗ ⌜f9 = Nat.rec (motive := fun _ => BufTy.Contents (Elt F) arg9.view.ty) g9 (fun n _ => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (n + 1)).2.2.1) k⌝) ∗ (∃ f10, (arg10.view.loc (c : Thread nD τ) ↦[arg10.view.set]{fullShare} f10) ∗ ⌜f10 = Nat.rec (motive := fun _ => BufTy.Contents (Elt F) arg10.view.ty) g10 (fun n _ => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (n + 1)).2.2.2.1) k⌝) ∗ (∃ f11, (arg11.view.loc (c : Thread nD τ) ↦[arg11.view.set]{fullShare} f11) ∗ ⌜f11 = Nat.rec (motive := fun _ => BufTy.Contents (Elt F) arg11.view.ty) g11 (fun n _ => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (n + 1)).2.2.2.2.1) k⌝) ∗ (∃ f12, (arg12.view.loc (c : Thread nD τ) ↦[arg12.view.set]{fullShare} f12) ∗ ⌜f12 = Nat.rec (motive := fun _ => BufTy.Contents (Elt F) arg12.view.ty) g12 (fun n _ => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init (n + 1)).2.2.2.2.2) k⌝) ∗ ⌜acc = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k).1⌝)
end

set_option warn.classDefReducibility false in
/-- The outer loop by its invariant. -/
@[sl_loop] def loopInv2 (E : Set ℕ) (v2 : Elt F .f32) (v8 : FVec F S8x512 .f32) (v9 : FVec F S8x512 .f32) (v27 : FVec F S512x512 .f32) (v30 : IVec S512x512 1) (X2 : BufTy.Contents (Elt F) arg2.view.ty) (X3 : BufTy.Contents (Elt F) arg3.view.ty) (X4 : BufTy.Contents (Elt F) arg4.view.ty) (X6 : BufTy.Contents (Elt F) arg6.view.ty) (X13 : BufTy.Contents (Elt F) arg13.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (init : FVec F S8x512 .f32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v2 v8 v9 v27 v30 init where
  inv := inv2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init
  step k acc := by
    iintro ⟨H2, H3, H4, H6, H13, ⟨%f8, H8, %h8⟩, ⟨%f9, H9, %h9⟩, ⟨%f10, H10, %h10⟩, ⟨%f11, H11, %h11⟩, ⟨%f12, H12, %h12⟩, %hacc⟩
    have e8 : f8 = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val).2.1 := h8.trans (rec_at _ (fun n => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n).2.1) rfl k.val)
    have e9 : f9 = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val).2.2.1 := h9.trans (rec_at _ (fun n => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n).2.2.1) rfl k.val)
    have e10 : f10 = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val).2.2.2.1 := h10.trans (rec_at _ (fun n => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n).2.2.2.1) rfl k.val)
    have e11 : f11 = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val).2.2.2.2.1 := h11.trans (rec_at _ (fun n => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n).2.2.2.2.1) rfl k.val)
    have e12 : f12 = (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init k.val).2.2.2.2.2 := h12.trans (rec_at _ (fun n => (st2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n).2.2.2.2.2) rfl k.val)
    iapply (wp_wand_r Idealize.ShloMosaic.frame (wpE (defs₀ (F := F)) 𝒱 (c : Thread nD τ) bd) E)
    isplitl [H2 H3 H4 H6 H13 H8 H9 H10 H11 H12]
    · iapply ((trip2 (F := F) 𝒱 c bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).2.2.2.2.2.2 E acc f8 f9 f10 f11 f12)
      isplitl [H2]; · iexact H2
      isplitl [H3]; · iexact H3
      isplitl [H4]; · iexact H4
      isplitl [H6]; · iexact H6
      isplitl [H13]; · iexact H13
      isplitl [H8]; · iexact H8
      isplitl [H9]; · iexact H9
      isplitl [H10]; · iexact H10
      isplitl [H11]; · iexact H11
      iexact H12
    · iintro %yld ⟨%hy, H2, H3, H4, H6, H13, H8, H9, H10, H11, H12⟩
      subst hy hacc
      dsimp only [inv2]
      isplitl [H2]; · iexact H2
      isplitl [H3]; · iexact H3
      isplitl [H4]; · iexact H4
      isplitl [H6]; · iexact H6
      isplitl [H13]; · iexact H13
      isplitl [H8]; · iexists _; isplitl [H8]; · iexact H8
                      ipureintro; rw [st2_succ]; dsimp only [next2]; rw [← e8, ← e9, ← e10, ← e11, ← e12]
      isplitl [H9]; · iexists _; isplitl [H9]; · iexact H9
                      ipureintro; rw [st2_succ]; dsimp only [next2]; rw [← e8, ← e9, ← e10, ← e11, ← e12]
      isplitl [H10]; · iexists _; isplitl [H10]; · iexact H10
                       ipureintro; rw [st2_succ]; dsimp only [next2]; rw [← e8, ← e9, ← e10, ← e11, ← e12]
      isplitl [H11]; · iexists _; isplitl [H11]; · iexact H11
                       ipureintro; rw [st2_succ]; dsimp only [next2]; rw [← e8, ← e9, ← e10, ← e11, ← e12]
      isplitl [H12]; · iexists _; isplitl [H12]; · iexact H12
                       ipureintro; rw [st2_succ]; dsimp only [next2]; rw [← e8, ← e9, ← e10, ← e11, ← e12]
      ipureintro; rw [st2_succ]; dsimp only [next2]; rw [← e8, ← e9, ← e10, ← e11, ← e12]

end Cert.KernelIdeal.Hand

end
-- ==== Proof.BodyKernelIdeal.lean ====
/- The attention body, run whole on staging memrefs and scratch of any contents: it terminates, leaves the operands as
   they were, and leaves in the output block a function of what it found. -/
module

public import proofs.«01_k».proof.Proof.TripKernelIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- THE BODY: what it leaves in the output block, as a function of the operands' blocks and of what the output block and
   the scratch held before (on which the value does not in fact depend). -/
@[irreducible] def bodyRun (c : Dev nD) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole) :
    { W : BufTy.Contents (Elt F) arg2.view.ty → BufTy.Contents (Elt F) arg3.view.ty → BufTy.Contents (Elt F) arg4.view.ty → BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg8.view.ty // ∀ (E : Set ℕ) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (K : PUnit → sProp 𝕄G),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (W X2 X3 X4 X5 X6 X7 f8 f9 f10 f11 f12 f13)) ∗ (∃ g9 : BufTy.Contents (Elt F) arg9.view.ty, (arg9.view.loc (c : Thread nD τ) ↦[arg9.view.set]{fullShare} g9)) ∗ (∃ g10 : BufTy.Contents (Elt F) arg10.view.ty, (arg10.view.loc (c : Thread nD τ) ↦[arg10.view.set]{fullShare} g10)) ∗ (∃ g11 : BufTy.Contents (Elt F) arg11.view.ty, (arg11.view.loc (c : Thread nD τ) ↦[arg11.view.set]{fullShare} g11)) ∗ (∃ g12 : BufTy.Contents (Elt F) arg12.view.ty, (arg12.view.loc (c : Thread nD τ) ↦[arg12.view.set]{fullShare} g12)) ∗ (∃ g13 : BufTy.Contents (Elt F) arg13.view.ty, (arg13.view.loc (c : Thread nD τ) ↦[arg13.view.set]{fullShare} g13))) -∗ K ⟨⟩))
      ⊢ wp frame (wpE (defs₀ (F := F)) Variants.none (c : Thread nD τ) none) E (cc0_mla_attn (F := F) i arg2 harg2 arg3 harg3 arg4 harg4 arg5 harg5 arg6 harg6 arg7 harg7 arg8 harg8 arg9 harg9 arg10 harg10 arg11 harg11 arg12 harg12 arg13 harg13) K } := by
  refine ⟨?_, fun E X2 X3 X4 X5 X6 X7 f8 f9 f10 f11 f12 f13 K => ?run⟩
  case run =>
    simp only [cc0_mla_attn_eq_skeleton]; unfold cc0_mla_attn_skel
    simp only [k0_part6_eq_skeleton, k0_part7_eq_skeleton, k0_part8_eq_skeleton]
    iintro ⟨H2, H3, H4, H5, H6, H7, H8, H9, H10, H11, H12, H13, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13

end Cert.KernelIdeal.Hand

end
-- ==== Proof.FrameKernelIdeal.lean ====
/- The run of the whole program from the run of the body: the result is forgotten, and the
   arguments end as they were. -/
module

public import proofs.«01_k».proof.Proof.BodyKernelIdeal
public import Idealize.ShloMosaic.Lib.Pipeline.FrameBody
public import Idealize.ShloMosaic.Lib.Claim
public import Idealize.ShloMosaic.Lib.Ring
public import Idealize.ShloMosaic.Lib.Tactic

@[expose] public section

set_option maxRecDepth 16384
set_option maxHeartbeats 1600000

noncomputable section

namespace Cert.KernelIdeal.Frame

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

/-- The body on whole staging memrefs, the operands' at read contents `x·` and the rest at anything: the operands end as they
   were, and the output block as `bodyRun` says. -/
theorem sound_kernel (c : Dev nD) (E : Set ℕ) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole) (x2 : Vec F S1x1x192x8192 .fp8e4m3) (x3 : Vec F S1x1x1x8192 .f32) (x4 : Vec F S1x1x8192x256 .fp8e4m3) (x5 : Vec F S1x1x1x8192 .f32) (x6 : Vec F S1x1x128x8192 .fp8e4m3) (x7 : Vec F S9x8 .f32)  (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ g : Vec F S8192x512 .f32, owns (c : Thread nD τ) arg9 fullShare g) ∗ (∃ g : Vec F S512x512 .fp8e4m3, owns (c : Thread nD τ) arg10 fullShare g) ∗ (∃ g : Vec F S256x512 .fp8e4m3, owns (c : Thread nD τ) arg11 fullShare g) ∗ (∃ g : Vec F S128x512 .f32, owns (c : Thread nD τ) arg12 fullShare g) ∗ (∃ g : Vec F S8192x128 .f32, owns (c : Thread nD τ) arg13 fullShare g)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ y : Vec F S1x1x8192x128 .bf16, ⌜∃ (d2 : BufTy.Contents (Elt F) arg2.view.ty) (d3 : BufTy.Contents (Elt F) arg3.view.ty) (d4 : BufTy.Contents (Elt F) arg4.view.ty) (d5 : BufTy.Contents (Elt F) arg5.view.ty) (d6 : BufTy.Contents (Elt F) arg6.view.ty) (d7 : BufTy.Contents (Elt F) arg7.view.ty) (d8 : BufTy.Contents (Elt F) arg8.view.ty) (d9 : BufTy.Contents (Elt F) arg9.view.ty) (d10 : BufTy.Contents (Elt F) arg10.view.ty) (d11 : BufTy.Contents (Elt F) arg11.view.ty) (d12 : BufTy.Contents (Elt F) arg12.view.ty) (d13 : BufTy.Contents (Elt F) arg13.view.ty), arg2.view.read (Elt F) d2 = x2 ∧ arg3.view.read (Elt F) d3 = x3 ∧ arg4.view.read (Elt F) d4 = x4 ∧ arg5.view.read (Elt F) d5 = x5 ∧ arg6.view.read (Elt F) d6 = x6 ∧ arg7.view.read (Elt F) d7 = x7 ∧ y = arg8.view.read (Elt F) ((bodyRun (F := F) c i arg2 harg2 arg3 harg3 arg4 harg4 arg5 harg5 arg6 harg6 arg7 harg7 arg8 harg8 arg9 harg9 arg10 harg10 arg11 harg11 arg12 harg12 arg13 harg13).1 d2 d3 d4 d5 d6 d7 d8 d9 d10 d11 d12 d13)⌝ ∗ owns (c : Thread nD τ) arg8 fullShare y) ∗ (∃ g : Vec F S8192x512 .f32, owns (c : Thread nD τ) arg9 fullShare g) ∗ (∃ g : Vec F S512x512 .fp8e4m3, owns (c : Thread nD τ) arg10 fullShare g) ∗ (∃ g : Vec F S256x512 .fp8e4m3, owns (c : Thread nD τ) arg11 fullShare g) ∗ (∃ g : Vec F S128x512 .f32, owns (c : Thread nD τ) arg12 fullShare g) ∗ (∃ g : Vec F S8192x128 .f32, owns (c : Thread nD τ) arg13 fullShare g)) -∗ K ⟨⟩))
      ⊢ wp frame (wpE (defs₀ (F := F)) Variants.none c none) E (cc0_mla_attn i arg2 harg2 arg3 harg3 arg4 harg4 arg5 harg5 arg6 harg6 arg7 harg7 arg8 harg8 arg9 harg9 arg10 harg10 arg11 harg11 arg12 harg12 arg13 harg13) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%x9, %f9, -, H9⟩, ⟨%x10, %f10, -, H10⟩, ⟨%x11, %f11, -, H11⟩, ⟨%x12, %f12, -, H12⟩, ⟨%x13, %f13, -, H13⟩, Hk⟩
  subst hf2 hf3 hf4 hf5 hf6 hf7
  iapply ((bodyRun (F := F) c i arg2 harg2 arg3 harg3 arg4 harg4 arg5 harg5 arg6 harg6 arg7 harg7 arg8 harg8 arg9 harg9 arg10 harg10 arg11 harg11 arg12 harg12 arg13 harg13).2 E f2 f3 f4 f5 f6 f7 f8 f9 f10 f11 f12 f13 K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, H7, H8, H9, H10, H11, H12, H13⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists (arg8.view.read (Elt F) ((bodyRun (F := F) c i arg2 harg2 arg3 harg3 arg4 harg4 arg5 harg5 arg6 harg6 arg7 harg7 arg8 harg8 arg9 harg9 arg10 harg10 arg11 harg11 arg12 harg12 arg13 harg13).1 f2 f3 f4 f5 f6 f7 f8 f9 f10 f11 f12 f13))
    isplitr
    · ipureintro; exact ⟨f2, f3, f4, f5, f6, f7, f8, f9, f10, f11, f12, f13, rfl, rfl, rfl, rfl, rfl, rfl, rfl⟩
    · iexists ((bodyRun (F := F) c i arg2 harg2 arg3 harg3 arg4 harg4 arg5 harg5 arg6 harg6 arg7 harg7 arg8 harg8 arg9 harg9 arg10 harg10 arg11 harg11 arg12 harg12 arg13 harg13).1 f2 f3 f4 f5 f6 f7 f8 f9 f10 f11 f12 f13); isplitr
      · ipureintro; rfl
      · iexact H8
  isplitl [H9]; · icases H9 with ⟨%k, H9⟩; iexists _; iexists k; isplitr <;> first | iexact H9 | (ipureintro; rfl)
  isplitl [H10]; · icases H10 with ⟨%k, H10⟩; iexists _; iexists k; isplitr <;> first | iexact H10 | (ipureintro; rfl)
  isplitl [H11]; · icases H11 with ⟨%k, H11⟩; iexists _; iexists k; isplitr <;> first | iexact H11 | (ipureintro; rfl)
  isplitl [H12]; · icases H12 with ⟨%k, H12⟩; iexists _; iexists k; isplitr <;> first | iexact H12 | (ipureintro; rfl)
  icases H13 with ⟨%k, H13⟩; iexists _; iexists k; isplitr <;> first | iexact H13 | (ipureintro; rfl)

/-- The region's own scratch, each buffer whole at some contents, in the words of memrefs. -/
theorem scopedRest_owns (c : Dev nD) :
    (Pipeline.scopedRest (Ix := Unit) (Name := ℕ) (U := UR sig nD τ) (Lvl := ℕ) (Val := Elt F) spec0 c : sProp 𝕄)
      = iprop((∃ g : Vec F S8192x512 .f32, owns (c : Thread nD τ) (Memref.whole cc0_scratch0) fullShare g) ∗ (∃ g : Vec F S512x512 .fp8e4m3, owns (c : Thread nD τ) (Memref.whole cc0_scratch1) fullShare g) ∗ (∃ g : Vec F S256x512 .fp8e4m3, owns (c : Thread nD τ) (Memref.whole cc0_scratch2) fullShare g) ∗ (∃ g : Vec F S128x512 .f32, owns (c : Thread nD τ) (Memref.whole cc0_scratch3) fullShare g) ∗ (∃ g : Vec F S8192x128 .f32, owns (c : Thread nD τ) (Memref.whole cc0_scratch4) fullShare g)) := by
  rw [scopedRest0_eq]
  simp only [owns_whole]
  rfl

variable (m : (ℓ : Loc nD τ sig) → Buf (Elt F) ℓ) (ρ : Dev nD → PrngReg)

/-- The proof data of the pipeline: each window's array as the region finds it, and what the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m  0 c).A w = V m c (Pipeline.arrRef spec0 w) := by
  dsimp only [dats]

theorem after0_0 (c : Dev nD) (t : Fin cfg0.N) : (dats m  0 c).after 0 t = iblk m c 0 t := by dsimp only [dats]
theorem after0_1 (c : Dev nD) (t : Fin cfg0.N) : (dats m  0 c).after 1 t = iblk m c 1 t := by dsimp only [dats]
theorem after0_2 (c : Dev nD) (t : Fin cfg0.N) : (dats m  0 c).after 2 t = iblk m c 2 t := by dsimp only [dats]
theorem after0_3 (c : Dev nD) (t : Fin cfg0.N) : (dats m  0 c).after 3 t = iblk m c 3 t := by dsimp only [dats]
theorem after0_4 (c : Dev nD) (t : Fin cfg0.N) : (dats m  0 c).after 4 t = iblk m c 4 t := by dsimp only [dats]
theorem after0_5 (c : Dev nD) (t : Fin cfg0.N) : (dats m  0 c).after 5 t = iblk m c 5 t := by dsimp only [dats]

theorem before0_0 (c : Dev nD) (t : Fin cfg0.N) (d) : (dats m  0 c).before 0 t d = iblk m c 0 t :=
  before0_0_of m (dats m  0 c) (A_eq m  c 0) (after0_0 m  c) t d
theorem before0_1 (c : Dev nD) (t : Fin cfg0.N) (d) : (dats m  0 c).before 1 t d = iblk m c 1 t :=
  before0_1_of m (dats m  0 c) (A_eq m  c 1) (after0_1 m  c) t d
theorem before0_2 (c : Dev nD) (t : Fin cfg0.N) (d) : (dats m  0 c).before 2 t d = iblk m c 2 t :=
  before0_2_of m (dats m  0 c) (A_eq m  c 2) (after0_2 m  c) t d
theorem before0_3 (c : Dev nD) (t : Fin cfg0.N) (d) : (dats m  0 c).before 3 t d = iblk m c 3 t :=
  before0_3_of m (dats m  0 c) (A_eq m  c 3) (after0_3 m  c) t d
theorem before0_4 (c : Dev nD) (t : Fin cfg0.N) (d) : (dats m  0 c).before 4 t d = iblk m c 4 t :=
  before0_4_of m (dats m  0 c) (A_eq m  c 4) (after0_4 m  c) t d
theorem before0_5 (c : Dev nD) (t : Fin cfg0.N) (d) : (dats m  0 c).before 5 t d = iblk m c 5 t :=
  before0_5_of m (dats m  0 c) (A_eq m  c 5) (after0_5 m  c) t d

/-- What the body is called with at point `t`, the windows one by one, -/
def bodyPre (c : Dev nD) (t : Fin cfg0.N) : sProp 𝕄 :=
  iprop((dats m  0 c).Φ t.castSucc ∗ (dats m  0 c).owesAt () t.castSucc
    ∗ (∃ d, owns (c : Thread nD τ) (st0_0 t) fullShare ((dats m  0 c).before 0 t d))
    ∗ (∃ d, owns (c : Thread nD τ) (st0_1 t) fullShare ((dats m  0 c).before 1 t d))
    ∗ (∃ d, owns (c : Thread nD τ) (st0_2 t) fullShare ((dats m  0 c).before 2 t d))
    ∗ (∃ d, owns (c : Thread nD τ) (st0_3 t) fullShare ((dats m  0 c).before 3 t d))
    ∗ (∃ d, owns (c : Thread nD τ) (st0_4 t) fullShare ((dats m  0 c).before 4 t d))
    ∗ (∃ d, owns (c : Thread nD τ) (st0_5 t) fullShare ((dats m  0 c).before 5 t d))
    ∗ (∃ X, owns (c : Thread nD τ) (st0_6 t) fullShare X))

/-- and what it returns. -/
def bodyPost (c : Dev nD) (t : Fin cfg0.N) : sProp 𝕄 :=
  iprop((dats m  0 c).Φ t.succ ∗ (dats m  0 c).owesAt () t.succ
    ∗ owns (c : Thread nD τ) (st0_0 t) fullShare ((dats m  0 c).after 0 t)
    ∗ owns (c : Thread nD τ) (st0_1 t) fullShare ((dats m  0 c).after 1 t)
    ∗ owns (c : Thread nD τ) (st0_2 t) fullShare ((dats m  0 c).after 2 t)
    ∗ owns (c : Thread nD τ) (st0_3 t) fullShare ((dats m  0 c).after 3 t)
    ∗ owns (c : Thread nD τ) (st0_4 t) fullShare ((dats m  0 c).after 4 t)
    ∗ owns (c : Thread nD τ) (st0_5 t) fullShare ((dats m  0 c).after 5 t)
    ∗ (∃ X, owns (c : Thread nD τ) (st0_6 t) fullShare X))

/-- The body at any point. -/
theorem sound_body (c : Dev nD) (t : Fin cfg0.N) :
    bodyPre m  c t ⊢ wp frame (wpE (defs₀ (F := F)) Variants.none c none) Set.univ (bodyAt0 t) (fun _ => bodyPost m  c t) := by
  unfold bodyPre bodyPost bodyAt0
  simp only [before0_0, before0_1, before0_2, before0_3, before0_4, before0_5]
  rw [show (dats m  0 c).Φ t.castSucc = Pipeline.ΦA spec0 c from rfl, show (dats m  0 c).Φ t.succ = Pipeline.ΦA spec0 c from rfl,
    show (dats m  0 c).owesAt () t.succ = (dats m  0 c).owesAt () t.castSucc from rfl,
    after0_0, after0_1, after0_2, after0_3, after0_4, after0_5]
  unfold Pipeline.ΦA
  rw [scopedRest_owns]
  iintro ⟨⟨⟨G9, G10, G11, G12, G13⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (Memref.whole cc0_scratch0) _ (Memref.whole cc0_scratch1) _ (Memref.whole cc0_scratch2) _ (Memref.whole cc0_scratch3) _ (Memref.whole cc0_scratch4) _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [G9]; · iexact G9
  isplitl [G10]; · iexact G10
  isplitl [G11]; · iexact G11
  isplitl [G12]; · iexact G12
  isplitl [G13]; · iexact G13
  iintro ⟨H0, H1, H2, H3, H4, H5, ⟨%y, %hy, H6⟩, G9, G10, G11, G12, G13⟩
  isplitl [Hp G9 G10 G11 G12 G13]
  · isplitl [G9 G10 G11 G12 G13]
    · isplitl [G9]; · iexact G9
      isplitl [G10]; · iexact G10
      isplitl [G11]; · iexact G11
      isplitl [G12]; · iexact G12
      iexact G13
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists y; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The windows whose contents the run forgets: the result's. -/
abbrev fgt (w : Fin cfg0.W) : Bool := match w with | ⟨6, _⟩ => true | _ => false

theorem body_obligation (c : Dev nD) : BodyObligationLoose (dats m  (F := F) 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- THE LAUNCH: every run ends with each operand's array as the region found it, and every counter at zero. -/
theorem run_main : θ_run defs (onTc (τ := τ) (main (F := F))) (s₀ m ρ) (fun r => RDat.FramePost cfg0 (fun c => (dats m  0 c).toRForget fgt) (V m) r ∧ r.2.sem = fun _ => 0) :=
  Pipeline.θ_run_frame_forget (Q' := _) cfgs (dats m ) (0 : Fin 1) launch0 defs₀ Variants.none fgt m ρ main
    (hbody := body_obligation m) (hshare := fun c => (dats m  0 c).share_full fun _ => rfl)
    (howed := fun _ _ => rfl) (V := V m) (hmain := hmain m Variants.none) (hA := A_eq m) (hΦ := fun _ _ => rfl)

/-- THE FRAME: every run ends, with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((RDat.FramePost.arr_in h.1 c 0 rfl).trans (A_eq m c 0)).trans (V_main_arg0 m c),
      ((h.1 c).2 main_arg1 (Pipeline.mem_restRefs_of main_arg1 (by decide) (by decide))).trans (V_main_arg1 m c),
      ((RDat.FramePost.arr_in h.1 c 2 rfl).trans (A_eq m c 2)).trans (V_main_arg2 m c),
      ((h.1 c).2 main_arg3 (Pipeline.mem_restRefs_of main_arg3 (by decide) (by decide))).trans (V_main_arg3 m c),
      ((RDat.FramePost.arr_in h.1 c 4 rfl).trans (A_eq m c 4)).trans (V_main_arg4 m c),
      ((RDat.FramePost.arr_in h.1 c 5 rfl).trans (A_eq m c 5)).trans (V_main_arg5 m c)⟩, h.2⟩) (run_main m ρ)

end Cert.KernelIdeal.Frame

end
-- ==== Proof.RunKernelIdeal.lean ====
/- The run of the whole program from the run of the body: every block of the result is what the body leaves in it, and the
   arguments end as they were. -/
module

public import proofs.«01_k».proof.Proof.BodyKernelIdeal
public import Idealize.ShloMosaic.Lib.Pipeline.FrameBody
public import Idealize.ShloMosaic.Lib.Claim
public import Idealize.ShloMosaic.Lib.Ring
public import Idealize.ShloMosaic.Lib.Tactic

@[expose] public section

set_option maxRecDepth 16384
set_option maxHeartbeats 1600000

noncomputable section

namespace Cert.KernelIdeal.Run

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

/-- The body on whole staging memrefs, the operands' at read contents `x·` and the rest at anything: the operands end as they
   were, and the output block as `bodyRun` says. -/
theorem sound_kernel (c : Dev nD) (E : Set ℕ) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole) (x2 : Vec F S1x1x192x8192 .fp8e4m3) (x3 : Vec F S1x1x1x8192 .f32) (x4 : Vec F S1x1x8192x256 .fp8e4m3) (x5 : Vec F S1x1x1x8192 .f32) (x6 : Vec F S1x1x128x8192 .fp8e4m3) (x7 : Vec F S9x8 .f32)  (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ g : Vec F S8192x512 .f32, owns (c : Thread nD τ) arg9 fullShare g) ∗ (∃ g : Vec F S512x512 .fp8e4m3, owns (c : Thread nD τ) arg10 fullShare g) ∗ (∃ g : Vec F S256x512 .fp8e4m3, owns (c : Thread nD τ) arg11 fullShare g) ∗ (∃ g : Vec F S128x512 .f32, owns (c : Thread nD τ) arg12 fullShare g) ∗ (∃ g : Vec F S8192x128 .f32, owns (c : Thread nD τ) arg13 fullShare g)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ y : Vec F S1x1x8192x128 .bf16, ⌜∃ (d2 : BufTy.Contents (Elt F) arg2.view.ty) (d3 : BufTy.Contents (Elt F) arg3.view.ty) (d4 : BufTy.Contents (Elt F) arg4.view.ty) (d5 : BufTy.Contents (Elt F) arg5.view.ty) (d6 : BufTy.Contents (Elt F) arg6.view.ty) (d7 : BufTy.Contents (Elt F) arg7.view.ty) (d8 : BufTy.Contents (Elt F) arg8.view.ty) (d9 : BufTy.Contents (Elt F) arg9.view.ty) (d10 : BufTy.Contents (Elt F) arg10.view.ty) (d11 : BufTy.Contents (Elt F) arg11.view.ty) (d12 : BufTy.Contents (Elt F) arg12.view.ty) (d13 : BufTy.Contents (Elt F) arg13.view.ty), arg2.view.read (Elt F) d2 = x2 ∧ arg3.view.read (Elt F) d3 = x3 ∧ arg4.view.read (Elt F) d4 = x4 ∧ arg5.view.read (Elt F) d5 = x5 ∧ arg6.view.read (Elt F) d6 = x6 ∧ arg7.view.read (Elt F) d7 = x7 ∧ y = arg8.view.read (Elt F) ((bodyRun (F := F) c i arg2 harg2 arg3 harg3 arg4 harg4 arg5 harg5 arg6 harg6 arg7 harg7 arg8 harg8 arg9 harg9 arg10 harg10 arg11 harg11 arg12 harg12 arg13 harg13).1 d2 d3 d4 d5 d6 d7 d8 d9 d10 d11 d12 d13)⌝ ∗ owns (c : Thread nD τ) arg8 fullShare y) ∗ (∃ g : Vec F S8192x512 .f32, owns (c : Thread nD τ) arg9 fullShare g) ∗ (∃ g : Vec F S512x512 .fp8e4m3, owns (c : Thread nD τ) arg10 fullShare g) ∗ (∃ g : Vec F S256x512 .fp8e4m3, owns (c : Thread nD τ) arg11 fullShare g) ∗ (∃ g : Vec F S128x512 .f32, owns (c : Thread nD τ) arg12 fullShare g) ∗ (∃ g : Vec F S8192x128 .f32, owns (c : Thread nD τ) arg13 fullShare g)) -∗ K ⟨⟩))
      ⊢ wp frame (wpE (defs₀ (F := F)) Variants.none c none) E (cc0_mla_attn i arg2 harg2 arg3 harg3 arg4 harg4 arg5 harg5 arg6 harg6 arg7 harg7 arg8 harg8 arg9 harg9 arg10 harg10 arg11 harg11 arg12 harg12 arg13 harg13) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%x9, %f9, -, H9⟩, ⟨%x10, %f10, -, H10⟩, ⟨%x11, %f11, -, H11⟩, ⟨%x12, %f12, -, H12⟩, ⟨%x13, %f13, -, H13⟩, Hk⟩
  subst hf2 hf3 hf4 hf5 hf6 hf7
  iapply ((bodyRun (F := F) c i arg2 harg2 arg3 harg3 arg4 harg4 arg5 harg5 arg6 harg6 arg7 harg7 arg8 harg8 arg9 harg9 arg10 harg10 arg11 harg11 arg12 harg12 arg13 harg13).2 E f2 f3 f4 f5 f6 f7 f8 f9 f10 f11 f12 f13 K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, H7, H8, H9, H10, H11, H12, H13⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists (arg8.view.read (Elt F) ((bodyRun (F := F) c i arg2 harg2 arg3 harg3 arg4 harg4 arg5 harg5 arg6 harg6 arg7 harg7 arg8 harg8 arg9 harg9 arg10 harg10 arg11 harg11 arg12 harg12 arg13 harg13).1 f2 f3 f4 f5 f6 f7 f8 f9 f10 f11 f12 f13))
    isplitr
    · ipureintro; exact ⟨f2, f3, f4, f5, f6, f7, f8, f9, f10, f11, f12, f13, rfl, rfl, rfl, rfl, rfl, rfl, rfl⟩
    · iexists ((bodyRun (F := F) c i arg2 harg2 arg3 harg3 arg4 harg4 arg5 harg5 arg6 harg6 arg7 harg7 arg8 harg8 arg9 harg9 arg10 harg10 arg11 harg11 arg12 harg12 arg13 harg13).1 f2 f3 f4 f5 f6 f7 f8 f9 f10 f11 f12 f13); isplitr
      · ipureintro; rfl
      · iexact H8
  isplitl [H9]; · icases H9 with ⟨%k, H9⟩; iexists _; iexists k; isplitr <;> first | iexact H9 | (ipureintro; rfl)
  isplitl [H10]; · icases H10 with ⟨%k, H10⟩; iexists _; iexists k; isplitr <;> first | iexact H10 | (ipureintro; rfl)
  isplitl [H11]; · icases H11 with ⟨%k, H11⟩; iexists _; iexists k; isplitr <;> first | iexact H11 | (ipureintro; rfl)
  isplitl [H12]; · icases H12 with ⟨%k, H12⟩; iexists _; iexists k; isplitr <;> first | iexact H12 | (ipureintro; rfl)
  icases H13 with ⟨%k, H13⟩; iexists _; iexists k; isplitr <;> first | iexact H13 | (ipureintro; rfl)

/-- The region's own scratch, each buffer whole at some contents, in the words of memrefs. -/
theorem scopedRest_owns (c : Dev nD) :
    (Pipeline.scopedRest (Ix := Unit) (Name := ℕ) (U := UR sig nD τ) (Lvl := ℕ) (Val := Elt F) spec0 c : sProp 𝕄)
      = iprop((∃ g : Vec F S8192x512 .f32, owns (c : Thread nD τ) (Memref.whole cc0_scratch0) fullShare g) ∗ (∃ g : Vec F S512x512 .fp8e4m3, owns (c : Thread nD τ) (Memref.whole cc0_scratch1) fullShare g) ∗ (∃ g : Vec F S256x512 .fp8e4m3, owns (c : Thread nD τ) (Memref.whole cc0_scratch2) fullShare g) ∗ (∃ g : Vec F S128x512 .f32, owns (c : Thread nD τ) (Memref.whole cc0_scratch3) fullShare g) ∗ (∃ g : Vec F S8192x128 .f32, owns (c : Thread nD τ) (Memref.whole cc0_scratch4) fullShare g)) := by
  rw [scopedRest0_eq]
  simp only [owns_whole]
  rfl

variable (m : (ℓ : Loc nD τ sig) → Buf (Elt F) ℓ) (ρ : Dev nD → PrngReg)

/- What the body leaves in the output block, as a function of the grid point and of the operands' blocks: the value that
   this module's run takes as given, with the proof that it is so. -/
variable (OUT : grid0.Coords → Vec F S1x1x192x8192 .fp8e4m3 → Vec F S1x1x1x8192 .f32 → Vec F S1x1x8192x256 .fp8e4m3 → Vec F S1x1x1x8192 .f32 → Vec F S1x1x128x8192 .fp8e4m3 → Vec F S9x8 .f32 → Vec F S1x1x8192x128 .bf16)
variable (hOUT : ∀ (c : Dev nD) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole) (d2 : BufTy.Contents (Elt F) arg2.view.ty) (d3 : BufTy.Contents (Elt F) arg3.view.ty) (d4 : BufTy.Contents (Elt F) arg4.view.ty) (d5 : BufTy.Contents (Elt F) arg5.view.ty) (d6 : BufTy.Contents (Elt F) arg6.view.ty) (d7 : BufTy.Contents (Elt F) arg7.view.ty) (d8 : BufTy.Contents (Elt F) arg8.view.ty) (d9 : BufTy.Contents (Elt F) arg9.view.ty) (d10 : BufTy.Contents (Elt F) arg10.view.ty) (d11 : BufTy.Contents (Elt F) arg11.view.ty) (d12 : BufTy.Contents (Elt F) arg12.view.ty) (d13 : BufTy.Contents (Elt F) arg13.view.ty),
  arg8.view.read (Elt F) ((bodyRun (F := F) c i arg2 harg2 arg3 harg3 arg4 harg4 arg5 harg5 arg6 harg6 arg7 harg7 arg8 harg8 arg9 harg9 arg10 harg10 arg11 harg11 arg12 harg12 arg13 harg13).1 d2 d3 d4 d5 d6 d7 d8 d9 d10 d11 d12 d13) = OUT i (arg2.view.read (Elt F) d2) (arg3.view.read (Elt F) d3) (arg4.view.read (Elt F) d4) (arg5.view.read (Elt F) d5) (arg6.view.read (Elt F) d6) (arg7.view.read (Elt F) d7))

/-- The proof data of the pipeline: each window's array as the region finds it, and what the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m OUT  0 c).A w = V m c (Pipeline.arrRef spec0 w) := by
  dsimp only [dats]

theorem after0_0 (c : Dev nD) (t : Fin cfg0.N) : (dats m OUT  0 c).after 0 t = iblk m c 0 t := by dsimp only [dats]
theorem after0_1 (c : Dev nD) (t : Fin cfg0.N) : (dats m OUT  0 c).after 1 t = iblk m c 1 t := by dsimp only [dats]
theorem after0_2 (c : Dev nD) (t : Fin cfg0.N) : (dats m OUT  0 c).after 2 t = iblk m c 2 t := by dsimp only [dats]
theorem after0_3 (c : Dev nD) (t : Fin cfg0.N) : (dats m OUT  0 c).after 3 t = iblk m c 3 t := by dsimp only [dats]
theorem after0_4 (c : Dev nD) (t : Fin cfg0.N) : (dats m OUT  0 c).after 4 t = iblk m c 4 t := by dsimp only [dats]
theorem after0_5 (c : Dev nD) (t : Fin cfg0.N) : (dats m OUT  0 c).after 5 t = iblk m c 5 t := by dsimp only [dats]
theorem after0_6 (c : Dev nD) (t : Fin cfg0.N) : (dats m OUT  0 c).after 6 t = OUT (grid0.coords t) (iblk m c 0 t) (iblk m c 1 t) (iblk m c 2 t) (iblk m c 3 t) (iblk m c 4 t) (iblk m c 5 t) := by dsimp only [dats]

theorem before0_0 (c : Dev nD) (t : Fin cfg0.N) (d) : (dats m OUT  0 c).before 0 t d = iblk m c 0 t :=
  before0_0_of m (dats m OUT  0 c) (A_eq m OUT  c 0) (after0_0 m OUT  c) t d
theorem before0_1 (c : Dev nD) (t : Fin cfg0.N) (d) : (dats m OUT  0 c).before 1 t d = iblk m c 1 t :=
  before0_1_of m (dats m OUT  0 c) (A_eq m OUT  c 1) (after0_1 m OUT  c) t d
theorem before0_2 (c : Dev nD) (t : Fin cfg0.N) (d) : (dats m OUT  0 c).before 2 t d = iblk m c 2 t :=
  before0_2_of m (dats m OUT  0 c) (A_eq m OUT  c 2) (after0_2 m OUT  c) t d
theorem before0_3 (c : Dev nD) (t : Fin cfg0.N) (d) : (dats m OUT  0 c).before 3 t d = iblk m c 3 t :=
  before0_3_of m (dats m OUT  0 c) (A_eq m OUT  c 3) (after0_3 m OUT  c) t d
theorem before0_4 (c : Dev nD) (t : Fin cfg0.N) (d) : (dats m OUT  0 c).before 4 t d = iblk m c 4 t :=
  before0_4_of m (dats m OUT  0 c) (A_eq m OUT  c 4) (after0_4 m OUT  c) t d
theorem before0_5 (c : Dev nD) (t : Fin cfg0.N) (d) : (dats m OUT  0 c).before 5 t d = iblk m c 5 t :=
  before0_5_of m (dats m OUT  0 c) (A_eq m OUT  c 5) (after0_5 m OUT  c) t d

/-- What the body is called with at point `t`, the windows one by one, -/
def bodyPre (c : Dev nD) (t : Fin cfg0.N) : sProp 𝕄 :=
  iprop((dats m OUT  0 c).Φ t.castSucc ∗ (dats m OUT  0 c).owesAt () t.castSucc
    ∗ (∃ d, owns (c : Thread nD τ) (st0_0 t) fullShare ((dats m OUT  0 c).before 0 t d))
    ∗ (∃ d, owns (c : Thread nD τ) (st0_1 t) fullShare ((dats m OUT  0 c).before 1 t d))
    ∗ (∃ d, owns (c : Thread nD τ) (st0_2 t) fullShare ((dats m OUT  0 c).before 2 t d))
    ∗ (∃ d, owns (c : Thread nD τ) (st0_3 t) fullShare ((dats m OUT  0 c).before 3 t d))
    ∗ (∃ d, owns (c : Thread nD τ) (st0_4 t) fullShare ((dats m OUT  0 c).before 4 t d))
    ∗ (∃ d, owns (c : Thread nD τ) (st0_5 t) fullShare ((dats m OUT  0 c).before 5 t d))
    ∗ (∃ d, owns (c : Thread nD τ) (st0_6 t) fullShare ((dats m OUT  0 c).before 6 t d))
)

/-- and what it returns. -/
def bodyPost (c : Dev nD) (t : Fin cfg0.N) : sProp 𝕄 :=
  iprop((dats m OUT  0 c).Φ t.succ ∗ (dats m OUT  0 c).owesAt () t.succ
    ∗ owns (c : Thread nD τ) (st0_0 t) fullShare ((dats m OUT  0 c).after 0 t)
    ∗ owns (c : Thread nD τ) (st0_1 t) fullShare ((dats m OUT  0 c).after 1 t)
    ∗ owns (c : Thread nD τ) (st0_2 t) fullShare ((dats m OUT  0 c).after 2 t)
    ∗ owns (c : Thread nD τ) (st0_3 t) fullShare ((dats m OUT  0 c).after 3 t)
    ∗ owns (c : Thread nD τ) (st0_4 t) fullShare ((dats m OUT  0 c).after 4 t)
    ∗ owns (c : Thread nD τ) (st0_5 t) fullShare ((dats m OUT  0 c).after 5 t)
    ∗ owns (c : Thread nD τ) (st0_6 t) fullShare ((dats m OUT  0 c).after 6 t)
)

include hOUT in
/-- The body at any point. -/
theorem sound_body (c : Dev nD) (t : Fin cfg0.N) :
    bodyPre m OUT  c t ⊢ wp frame (wpE (defs₀ (F := F)) Variants.none c none) Set.univ (bodyAt0 t) (fun _ => bodyPost m OUT  c t) := by
  unfold bodyPre bodyPost bodyAt0
  simp only [before0_0, before0_1, before0_2, before0_3, before0_4, before0_5]
  rw [show (dats m OUT  0 c).Φ t.castSucc = Pipeline.ΦA spec0 c from rfl, show (dats m OUT  0 c).Φ t.succ = Pipeline.ΦA spec0 c from rfl,
    show (dats m OUT  0 c).owesAt () t.succ = (dats m OUT  0 c).owesAt () t.castSucc from rfl,
    after0_0, after0_1, after0_2, after0_3, after0_4, after0_5, after0_6]
  unfold Pipeline.ΦA
  rw [scopedRest_owns]
  iintro ⟨⟨⟨G9, G10, G11, G12, G13⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (Memref.whole cc0_scratch0) _ (Memref.whole cc0_scratch1) _ (Memref.whole cc0_scratch2) _ (Memref.whole cc0_scratch3) _ (Memref.whole cc0_scratch4) _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [G9]; · iexact G9
  isplitl [G10]; · iexact G10
  isplitl [G11]; · iexact G11
  isplitl [G12]; · iexact G12
  isplitl [G13]; · iexact G13
  iintro ⟨H0, H1, H2, H3, H4, H5, ⟨%y, %hy, H6⟩, G9, G10, G11, G12, G13⟩
  isplitl [Hp G9 G10 G11 G12 G13]
  · isplitl [G9 G10 G11 G12 G13]
    · isplitl [G9]; · iexact G9
      isplitl [G10]; · iexact G10
      isplitl [G11]; · iexact G11
      isplitl [G12]; · iexact G12
      iexact G13
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  obtain ⟨e2, e3, e4, e5, e6, e7, e8, e9, e10, e11, e12, e13, he2, he3, he4, he5, he6, he7, he⟩ := hy
  rw [hOUT, he2, he3, he4, he5, he6, he7] at he
  subst he
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

include hOUT in
theorem body_obligation (c : Dev nD) : BodyObligation (dats m OUT  (F := F) 0 c) (defs₀ (F := F)) Variants.none () Set.univ := fun t => by
  rw [bigSep_W0, bigSep_W0, defs₀_row]
  exact triple_restated (sound_body m OUT hOUT c t) rfl .rfl fun _ => .rfl

include hOUT in
set_option backward.isDefEq.respectTransparency.types false in
/-- THE LAUNCH: every run ends with each window's array at what the proof data computes, and every counter at zero. -/
theorem run_main : θ_run defs (onTc (τ := τ) (main (F := F))) (s₀ m ρ) (fun r => (Pipeline.FramePost cfgs (dats m OUT ) 0 (V m)) r ∧ r.2.sem = fun _ => 0) :=
  Pipeline.θ_run_frame (Q' := _) cfgs (dats m OUT ) (0 : Fin 1) launch0 defs₀ Variants.none m ρ main
    (hbody := fun c => (body_obligation m OUT hOUT c).loose) (hshare := fun c => (dats m OUT  0 c).share_full fun _ => rfl)
    (howed := fun _ _ => rfl) (V := V m) (hmain := hmain m Variants.none) (hA := A_eq m OUT) (hΦ := fun _ _ => rfl)

end Cert.KernelIdeal.Run

end
-- ==== Proof.Payload.lean ====
/- The kernel's payloads over the extended reals, read at an index: what one store, or one carried value, of the attention
   body holds in terms of what was loaded for it. -/
module

public import proofs.«01_k».proof.Proof.Gen.KernelIdeal.Skeleton
public import proofs.«01_k».proof.Proof.Gen.KernelIdeal
public import Idealize.ShloMosaic.Lib.Pointwise
public import Idealize.ShloMosaic.Lib.WordCmp

@[expose] public section

set_option maxRecDepth 16384
set_option maxHeartbeats 1000000

noncomputable section

namespace Cert.KernelIdeal.Value

open Cert.KernelIdeal Cert.KernelIdeal.Gen
open Idealize.ShloMosaic Idealize.ShloMosaic.Pointwise

theorem ofBits_zero : Ideal.ofBits .f32 0x00000000#32 = 0 := by simp [Ideal.ofBits, Ideal.ieee]
theorem ofBits_zero8 : Ideal.ofBits .fp8e4m3 0x00#8 = 0 := by simp [Ideal.ofBits, Ideal.e4m3fn]
theorem ofBits_bot : Ideal.ofBits .f32 0xFF800000#32 = ⊥ := by simp [Ideal.ofBits, Ideal.ieee]

/-- Row `a` of group `g`, of a block of 512 rows folded over eight groups. -/
def grow (a : Fin 64) (g : Fin 8) : Fin 512 := ⟨a.val * 8 + g.val, by omega⟩

/-- The base-two logarithm of `e`, as the ideal program names it. -/
def log2e : EReal := (((Real.log 2)⁻¹ : ℝ) : EReal)

/-- The factor of the scores, as the program writes it. -/
def csc : EReal := Ideal.ofBits .f32 0x3D93CD3A#32

theorem named_log2e : (Named.named (F := Ideal) κ "log2e" 0x3FB8AA3B#32 : Ideal .f32) = log2e :=
  IdealRules.named_const.ideal_named_scalar _ _ _ _ rfl

theorem fold_max_bot {n : ℕ} (f : Fin n → EReal) :
    Finset.fold max (⊥ : EReal) f Finset.univ = Finset.univ.sup f := rfl

/-- A causal mask: the comparison of two positions, then the choice between a score and minus infinity. -/
theorem mask_at (x : EReal) (r c : ℕ) (hr : r < 8192) (hc : c < 8192) :
    Scalar.select (IntOp.cmpi CmpIPredicate.sle (BitVec.ofNat 32 r) (BitVec.ofNat 32 c)) x (Ideal.ofBits .f32 0xFF800000#32)
      = if r ≤ c then x else ⊥ := by
  rw [WordCmp.cmpi_sle_ofNat (by omega) (by omega), ofBits_bot]
  by_cases h : r ≤ c <;> simp [h, Scalar.select]

theorem pay2_at (a : Vec Ideal S128x512 .f32) (p : Vec Ideal S512x512 .fp8e4m3) (v : Vec Ideal S1x1x128x512 .fp8e4m3) (r : Fin 128) (c : Fin 512) :
    k0_pay2 (F := Ideal) a p v (ix2 r c) = a (ix2 r c) + ∑ k : Fin 512, v (ix4 0 0 r k) * p (ix2 k c) := by
  unfold k0_pay2
  pointwise

theorem pay49_at (a : Vec Ideal S128x512 .f32) (p : Vec Ideal S512x512 .fp8e4m3) (v : Vec Ideal S1x1x128x512 .fp8e4m3) (r : Fin 128) (c : Fin 512) :
    k0_pay49 (F := Ideal) a p v (ix2 r c) = a (ix2 r c) + ∑ k : Fin 512, v (ix4 0 0 r k) * p (ix2 k c) := by
  unfold k0_pay49
  pointwise

theorem pay25_at (a : Vec Ideal S128x512 .f32) (p : Vec Ideal S512x512 .fp8e4m3) (v : Vec Ideal S1x1x128x512 .fp8e4m3) (r : Fin 128) (c : Fin 512) :
    k0_pay25 (F := Ideal) a p v (ix2 r c) = a (ix2 r c) + ∑ k : Fin 512, v (ix4 0 0 r k) * p (ix2 k c) := by
  unfold k0_pay25
  pointwise

theorem pay3_at (m a : Vec Ideal S1x512 .f32) (t : Vec Ideal S512x512 .f32) (r c : Fin 512) :
    k0_pay3 (F := Ideal) m a t (ix2 r c) = Ideal.exp2 ((t (ix2 r c) - m (ix2 0 c)) * a (ix2 0 c)) := by
  unfold k0_pay3
  pointwise
  rfl

theorem pay4_at (m a : Vec Ideal S1x512 .f32) (t : Vec Ideal S512x512 .f32) (r c : Fin 512) :
    k0_pay4 (F := Ideal) m a t (ix2 r c) = Ideal.exp2 ((t (ix2 r c) - m (ix2 0 c)) * a (ix2 0 c)) := by
  unfold k0_pay4 k0_pay3
  pointwise
  rfl

theorem pay26_at (m a : Vec Ideal S1x512 .f32) (t : Vec Ideal S512x512 .f32) (r c : Fin 512) :
    k0_pay26 (F := Ideal) m a t (ix2 r c) = Ideal.exp2 ((t (ix2 r c) - m (ix2 0 c)) * a (ix2 0 c)) := by
  unfold k0_pay26
  pointwise
  rfl

theorem pay27_at (m a : Vec Ideal S1x512 .f32) (t : Vec Ideal S512x512 .f32) (r c : Fin 512) :
    k0_pay27 (F := Ideal) m a t (ix2 r c) = Ideal.exp2 ((t (ix2 r c) - m (ix2 0 c)) * a (ix2 0 c)) := by
  unfold k0_pay27 k0_pay26
  pointwise
  rfl

theorem pay5_at (m a : Vec Ideal S1x512 .f32) (l : Vec Ideal S8x512 .f32) (t : Vec Ideal S512x512 .f32) (g : Fin 8) (c : Fin 512) :
    k0_pay5 (F := Ideal) m a l t (ix2 g c) = l (ix2 g c) + ∑ a' : Fin 64, Ideal.exp2 ((t (ix2 (grow a' g) c) - m (ix2 0 c)) * a (ix2 0 c)) := by
  unfold k0_pay5
  pointwise
  simp only [pay3_at]
  rfl

theorem pay28_at (m a : Vec Ideal S1x512 .f32) (l : Vec Ideal S8x512 .f32) (t : Vec Ideal S512x512 .f32) (g : Fin 8) (c : Fin 512) :
    k0_pay28 (F := Ideal) m a l t (ix2 g c) = l (ix2 g c) + ∑ a' : Fin 64, Ideal.exp2 ((t (ix2 (grow a' g) c) - m (ix2 0 c)) * a (ix2 0 c)) := by
  unfold k0_pay28
  pointwise
  simp only [pay26_at]
  rfl

theorem pay6_at (k : Vec Ideal S1x1x512x256 .fp8e4m3) (q : Vec Ideal S256x512 .fp8e4m3) (r c : Fin 512) :
    k0_pay6 (F := Ideal) k q (ix2 r c) = ∑ d : Fin 256, k (ix4 0 0 r d) * q (ix2 d c) := by
  unfold k0_pay6
  pointwise

theorem pay12_at (m : Vec Ideal S8x512 .f32) (c : Fin 512) :
    k0_pay12 (F := Ideal) m (ix2 0 c) = Finset.univ.sup fun g : Fin 8 => m (ix2 g c) := by
  unfold k0_pay12
  pointwise
  rw [ofBits_bot]
  rfl

theorem pay45_at (m : Vec Ideal S8x512 .f32) (c : Fin 512) :
    k0_pay45 (F := Ideal) m (ix2 0 c) = Finset.univ.sup fun g : Fin 8 => m (ix2 g c) := by
  unfold k0_pay45
  pointwise
  rw [ofBits_bot]
  rfl

theorem pay13_at (q : Vec Ideal S1x1x1x512 .f32) (c : Fin 512) :
    k0_pay13 (F := Ideal) q (ix2 0 c) = q (ix4 0 0 0 c) * log2e := by
  unfold k0_pay13
  pointwise
  rw [named_log2e]

theorem pay46_at (q : Vec Ideal S1x1x1x512 .f32) (c : Fin 512) :
    k0_pay46 (F := Ideal) q (ix2 0 c) = q (ix4 0 0 0 c) * log2e := by
  unfold k0_pay46
  pointwise
  rw [named_log2e]

theorem pay14_at (q : Vec Ideal S1x1x192x512 .fp8e4m3) (r : Fin 192) (c : Fin 512) :
    k0_pay14 (F := Ideal) q (ix2 r c) = q (ix4 0 0 r c) := by
  unfold k0_pay14
  pointwise

theorem pay38_at (q : Vec Ideal S1x1x192x512 .fp8e4m3) (r : Fin 192) (c : Fin 512) :
    k0_pay38 (F := Ideal) q (ix2 r c) = q (ix4 0 0 r c) := by
  unfold k0_pay38
  pointwise

theorem pay15_at (r : Fin 128) (c : Fin 512) :
    (k0_pay15 (F := Ideal)) (ix2 r c) = 0 := by
  unfold k0_pay15
  pointwise

theorem pay47_at (r : Fin 128) (c : Fin 512) :
    (k0_pay47 (F := Ideal)) (ix2 r c) = 0 := by
  unfold k0_pay47
  pointwise

theorem pay16_at (r c : Fin 512) :
    (k0_pay16 (F := Ideal)) (ix2 r c) = 0 := by
  unfold k0_pay16
  pointwise
  exact ofBits_zero8

theorem pay48_at (r c : Fin 512) :
    (k0_pay48 (F := Ideal)) (ix2 r c) = 0 := by
  unfold k0_pay48
  pointwise
  exact ofBits_zero8

theorem pay35_at (r : Fin 256) (c : Fin 512) :
    (k0_pay35 (F := Ideal)) (ix2 r c) = 0 := by
  unfold k0_pay35
  pointwise
  exact ofBits_zero8

theorem pay36_at (r : Fin 8) (c : Fin 512) :
    (k0_pay36 (F := Ideal)) (ix2 r c) = ⊥ := by
  unfold k0_pay36
  pointwise
  exact ofBits_bot

theorem pay37_at (r : Fin 8) (c : Fin 512) :
    (k0_pay37 (F := Ideal)) (ix2 r c) = 0 := by
  unfold k0_pay37
  pointwise

theorem pay17_at (s : Vec Ideal S512x512 .f32) (b : Vec Ideal S512x128 .f32) (kv : Fin 512 → EReal) (hb : ∀ r l, b (ix2 r l) = kv r) (r c : Fin 512) :
    k0_pay17 (F := Ideal) s b (ix2 r c) = s (ix2 r c) * kv r := by
  unfold k0_pay17
  pointwise
  simp only [hb, dite_eq_ite, ite_self]

theorem pay19_at (s : Vec Ideal S512x512 .f32) (b : Vec Ideal S512x128 .f32) (kv : Fin 512 → EReal) (hb : ∀ r l, b (ix2 r l) = kv r) (r c : Fin 512) :
    k0_pay19 (F := Ideal) s b (ix2 r c) = s (ix2 r c) * kv r := by
  rw [← pay17_at s b kv hb]
  unfold k0_pay19
  pointwise

theorem pay18_at (m : Vec Ideal S8x512 .f32) (s : Vec Ideal S512x512 .f32) (b : Vec Ideal S512x128 .f32) (kv : Fin 512 → EReal) (hb : ∀ r l, b (ix2 r l) = kv r) (g : Fin 8) (c : Fin 512) :
    k0_pay18 (F := Ideal) m s b (ix2 g c) = max (m (ix2 g c)) (Finset.univ.sup fun a : Fin 64 => s (ix2 (grow a g) c) * kv (grow a g)) := by
  unfold k0_pay18
  pointwise
  simp only [pay17_at s b kv hb, ofBits_bot]
  rfl

theorem pay20_at (p : Vec Ideal S512x512 .fp8e4m3) (j : S512x512.Idx) :
    k0_pay20 (F := Ideal) p j = p j := by
  idx_vars j
  unfold k0_pay20
  pointwise

theorem pay29_at (k : Vec Ideal S1x1x512x256 .fp8e4m3) (q : Vec Ideal S256x512 .fp8e4m3) (b : Vec Ideal S512x128 .f32) (kv : Fin 512 → EReal) (hb : ∀ r l, b (ix2 r l) = kv r) (r c : Fin 512) :
    k0_pay29 (F := Ideal) k q b (ix2 r c) = (∑ d : Fin 256, k (ix4 0 0 r d) * q (ix2 d c)) * kv r := by
  unfold k0_pay29
  pointwise
  simp only [hb, dite_eq_ite, ite_self]

theorem pay39_at (k : Vec Ideal S1x1x512x256 .fp8e4m3) (q : Vec Ideal S256x512 .fp8e4m3) (b : Vec Ideal S512x128 .f32) (kv : Fin 512 → EReal) (hb : ∀ r l, b (ix2 r l) = kv r) (r c : Fin 512) :
    k0_pay39 (F := Ideal) k q b (ix2 r c) = (∑ d : Fin 256, k (ix4 0 0 r d) * q (ix2 d c)) * kv r := by
  unfold k0_pay39
  pointwise
  simp only [hb, dite_eq_ite, ite_self]

theorem pay30_at (p : Vec Ideal S512x512 .f32) (j : S512x512.Idx) :
    k0_pay30 (F := Ideal) p j = p j := by
  idx_vars j
  unfold k0_pay30
  pointwise

theorem pay31_at (k : Vec Ideal S1x1x512x256 .fp8e4m3) (q : Vec Ideal S256x512 .fp8e4m3) (b : Vec Ideal S512x128 .f32) (kv : Fin 512 → EReal) (hb : ∀ r l, b (ix2 r l) = kv r) (r c : Fin 512) :
    k0_pay31 (F := Ideal) k q b (ix2 r c) = if r.val ≤ c.val then (∑ d : Fin 256, k (ix4 0 0 r d) * q (ix2 d c)) * kv r else ⊥ := by
  unfold k0_pay31
  pointwise
  simp only [hb, dite_eq_ite, ite_self]
  exact mask_at _ _ _ (by omega) (by omega)

theorem pay33_at (k : Vec Ideal S1x1x512x256 .fp8e4m3) (q : Vec Ideal S256x512 .fp8e4m3) (b : Vec Ideal S512x128 .f32) (j : S512x512.Idx) :
    k0_pay33 (F := Ideal) k q b j = k0_pay31 (F := Ideal) k q b j := by
  idx_vars j
  unfold k0_pay33
  pointwise

theorem pay32_at (m : Vec Ideal S8x512 .f32) (s : Vec Ideal S512x512 .f32) (k : Vec Ideal S1x1x512x256 .fp8e4m3) (q : Vec Ideal S256x512 .fp8e4m3) (b : Vec Ideal S512x128 .f32) (g : Fin 8) (c : Fin 512) :
    k0_pay32 (F := Ideal) m s k q b (ix2 g c) = max (max (m (ix2 g c)) (Finset.univ.sup fun a : Fin 64 => s (ix2 (grow a g) c))) (Finset.univ.sup fun a : Fin 64 => k0_pay31 (F := Ideal) k q b (ix2 (grow a g) c)) := by
  unfold k0_pay32
  pointwise
  rw [ofBits_bot]
  rfl

theorem pay34_at (k : Vec Ideal S1x1x1x128 .f32) (r l : Fin 128) :
    k0_pay34 (F := Ideal) k (ix2 r l) = k (ix4 0 0 0 r) * csc := by
  unfold k0_pay34
  pointwise
  rfl

theorem pay41_at (s : Vec Ideal S512x512 .f32) (r c : Fin 512) :
    k0_pay41 (F := Ideal) s k0_pay40 (ix2 r c) = if r.val ≤ c.val then s (ix2 r c) else ⊥ := by
  unfold k0_pay41 k0_pay40
  pointwise
  exact mask_at _ _ _ (by omega) (by omega)

theorem pay43_at (s : Vec Ideal S512x512 .f32) (j : S512x512.Idx) :
    k0_pay43 (F := Ideal) s k0_pay40 j = k0_pay41 (F := Ideal) s k0_pay40 j := by
  idx_vars j
  unfold k0_pay43
  pointwise

theorem pay42_at (m : Vec Ideal S8x512 .f32) (s : Vec Ideal S512x512 .f32) (g : Fin 8) (c : Fin 512) :
    k0_pay42 (F := Ideal) m s k0_pay40 (ix2 g c) = max (m (ix2 g c)) (Finset.univ.sup fun a : Fin 64 => k0_pay41 (F := Ideal) s k0_pay40 (ix2 (grow a g) c)) := by
  unfold k0_pay42
  pointwise
  rw [ofBits_bot]
  rfl

theorem pay44_at (w : Elt Ideal .f32) (a : Vec Ideal S128x512 .f32) (p : Vec Ideal S512x512 .fp8e4m3) (l : Vec Ideal S8x512 .f32) (v : Vec Ideal S1x1x128x512 .fp8e4m3) (r : Fin 512) (c : Fin 128) :
    k0_pay44 (F := Ideal) w a p l v (ix4 0 0 r c) = Ideal.div ((a (ix2 c r) + ∑ k : Fin 512, v (ix4 0 0 c k) * p (ix2 k r)) * w) (∑ g : Fin 8, l (ix2 g r)) := by
  unfold k0_pay44
  pointwise

theorem pay50_at (m : Vec Ideal S8x512 .f32) (q : Vec Ideal S1x1x1x512 .f32) (t : Vec Ideal S512x512 .f32) (r c : Fin 512) :
    k0_pay50 (F := Ideal) m q t (ix2 r c) = Ideal.exp2 ((t (ix2 r c) - Finset.univ.sup fun g : Fin 8 => m (ix2 g c)) * (q (ix4 0 0 0 c) * log2e)) := by
  unfold k0_pay50
  pointwise
  rw [pay45_at, pay46_at]
  rfl

theorem pay52_at (m : Vec Ideal S8x512 .f32) (q : Vec Ideal S1x1x1x512 .f32) (t : Vec Ideal S512x512 .f32) (r c : Fin 512) :
    k0_pay52 (F := Ideal) m q t (ix2 r c) = Ideal.exp2 ((t (ix2 r c) - Finset.univ.sup fun g : Fin 8 => m (ix2 g c)) * (q (ix4 0 0 0 c) * log2e)) := by
  rw [← pay50_at]
  unfold k0_pay52
  pointwise

theorem pay51_at (m : Vec Ideal S8x512 .f32) (q : Vec Ideal S1x1x1x512 .f32) (l : Vec Ideal S8x512 .f32) (t : Vec Ideal S512x512 .f32) (g : Fin 8) (c : Fin 512) :
    k0_pay51 (F := Ideal) m q l t (ix2 g c) = l (ix2 g c) + ∑ a' : Fin 64, Ideal.exp2 ((t (ix2 (grow a' g) c) - Finset.univ.sup fun g : Fin 8 => m (ix2 g c)) * (q (ix4 0 0 0 c) * log2e)) := by
  unfold k0_pay51
  pointwise
  simp only [pay50_at]
  rfl

theorem pay53_at (w : Elt Ideal .f32) (m x : Vec Ideal S1x512 .f32) (l : Vec Ideal S8x512 .f32) (a : Vec Ideal S128x512 .f32) (p : Vec Ideal S512x512 .fp8e4m3) (v : Vec Ideal S1x1x128x512 .fp8e4m3) (t : Vec Ideal S512x512 .f32) (v' : Vec Ideal S1x1x128x512 .fp8e4m3) (r : Fin 512) (c : Fin 128) :
    k0_pay1 (F := Ideal) (k0_pay53 (F := Ideal) w m x l a p v t v') (ix4 0 0 r c) = Ideal.div
      ((a (ix2 c r) + (∑ k : Fin 512, v (ix4 0 0 c k) * p (ix2 k r))
        + ∑ k : Fin 512, v' (ix4 0 0 c k) * Ideal.exp2 ((t (ix2 k r) - m (ix2 0 r)) * x (ix2 0 r))) * w)
      (∑ g : Fin 8, (l (ix2 g r) + ∑ a' : Fin 64, Ideal.exp2 ((t (ix2 (grow a' g) r) - m (ix2 0 r)) * x (ix2 0 r)))) := by
  unfold k0_pay1 k0_pay53
  pointwise
  rfl

end Cert.KernelIdeal.Value

end
-- ==== Proof.Model.lean ====
/- What the attention of one head computes, written over the extended reals as the kernel arranges it: the positions go by
   blocks of 512, each folded over eight groups of 64 rows. Nothing here speaks of buffers. -/
module

public import proofs.«01_k».proof.Proof.Payload

@[expose] public section

noncomputable section

namespace Cert.KernelIdeal.Value

open Idealize.ShloMosaic

/-- The operands of one head, by position: queries (columns of 256 features, the last 64 zero), keys, the keys' scales times
    the factor of the scores, the queries' scales, values, and the scale of the values. -/
structure Head where
  Q : Fin 256 → ℕ → EReal
  K : ℕ → Fin 256 → EReal
  ks : ℕ → EReal
  qs : ℕ → EReal
  V : Fin 128 → ℕ → EReal
  w : EReal

namespace Head

variable (h : Head)

/-- The score of key `r` against query `q`, without the query's scale. -/
def T (r q : ℕ) : EReal := (∑ d : Fin 256, h.K r d * h.Q d q) * h.ks r

/-- The score, minus infinity where the key comes after the query. -/
def Tm (r q : ℕ) : EReal := if r ≤ q then h.T r q else ⊥

/-- The greatest score of query `q` over group `g` of the first `n` blocks of keys. -/
def mg (n : ℕ) (g : Fin 8) (q : ℕ) : EReal :=
  (Finset.range n).sup fun j => Finset.univ.sup fun a : Fin 64 => h.Tm (512 * j + (grow a g).val) q

/-- The greatest score of query `q`, which lies in block `i`. -/
def M (i q : ℕ) : EReal := Finset.univ.sup fun g : Fin 8 => h.mg (i + 1) g q

/-- The weight of key `r` for query `q` of block `i`. -/
def P (i r q : ℕ) : EReal := Ideal.exp2 ((h.Tm r q - h.M i q) * (h.qs q * log2e))

/-- The sum of the weights over group `g` of the first `n` blocks of keys. -/
def lg (i n : ℕ) (g : Fin 8) (q : ℕ) : EReal :=
  ∑ j ∈ Finset.range n, ∑ a : Fin 64, h.P i (512 * j + (grow a g).val) q

/-- The weighted sum of the values over the first `n` blocks of keys. -/
def acc (i n : ℕ) (c : Fin 128) (q : ℕ) : EReal :=
  ∑ j ∈ Finset.range n, ∑ k : Fin 512, h.V c (512 * j + k.val) * h.P i (512 * j + k.val) q

/-- The attention of query `q` of block `i`, at feature `c` of the values. -/
def out (i q : ℕ) (c : Fin 128) : EReal :=
  Ideal.div (h.acc i (i + 1) c q * h.w) (∑ g : Fin 8, h.lg i (i + 1) g q)

theorem mg_zero (g : Fin 8) (q : ℕ) : h.mg 0 g q = ⊥ := rfl

theorem mg_succ (n : ℕ) (g : Fin 8) (q : ℕ) :
    h.mg (n + 1) g q = max (h.mg n g q) (Finset.univ.sup fun a : Fin 64 => h.Tm (512 * n + (grow a g).val) q) := by
  unfold mg
  rw [Finset.range_add_one, Finset.sup_insert, sup_comm]

theorem lg_zero (i : ℕ) (g : Fin 8) (q : ℕ) : h.lg i 0 g q = 0 := rfl

theorem lg_succ (i n : ℕ) (g : Fin 8) (q : ℕ) :
    h.lg i (n + 1) g q = h.lg i n g q + ∑ a : Fin 64, h.P i (512 * n + (grow a g).val) q :=
  Finset.sum_range_succ _ _

theorem acc_zero (i : ℕ) (c : Fin 128) (q : ℕ) : h.acc i 0 c q = 0 := rfl

theorem acc_succ (i n : ℕ) (c : Fin 128) (q : ℕ) :
    h.acc i (n + 1) c q = h.acc i n c q + ∑ k : Fin 512, h.V c (512 * n + k.val) * h.P i (512 * n + k.val) q :=
  Finset.sum_range_succ _ _

theorem Tm_of_le {r q : ℕ} (hr : r ≤ q) : h.Tm r q = h.T r q := if_pos hr

end Head

end Cert.KernelIdeal.Value

end
-- ==== Proof.Reads.lean ====
/- Loads and stores of the kernel's blocks, read at coordinates: a load of 512 rows, or of 512 columns, from position `o` on
   reads the buffer at the position counted from `o`. -/
module

public import proofs.«01_k».proof.Proof.Gen.KernelIdeal.Skeleton
public import proofs.«01_k».proof.Proof.Gen.KernelIdeal
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.Pointwise

/-- A load through a rectangle of stride one, read at the place that its coordinates name. -/
theorem ld_at {s : Shape} {e : EltTy} {sp : Space} (A : Memref sig .tc sp s e) (X : BufTy.Contents (Elt Ideal) A.view.ty)
    {off off' size : Fin s.rank → ℕ} (inb : ∀ a, off a + size a ≤ s.size a) (heq : off = off')
    (j : (Rect.unit off size inb).shape.Idx) (y : s.Idx) (hy : ∀ a, (y a).val = off' a + (j a).val) :
    A.view.readAt (Elt Ideal) (Rect.unit off size inb).toLoadRect X j = A.view.read (Elt Ideal) X y := by
  subst heq
  show A.view.read (Elt Ideal) X _ = _
  congr 1
  refine funext fun a => Fin.ext ?_
  show off a + 1 * (j a).val = (y a).val
  rw [hy a, Nat.one_mul]

/-- Queries. -/
theorem ldQ (A : Memref sig .tc .vmem S1x1x192x8192 .fp8e4m3) (X : BufTy.Contents (Elt Ideal) A.view.ty) {off : Fin S1x1x192x8192.rank → ℕ} {o : ℕ}
    (hoff : off = ![0, 0, 0, o]) (inb : ∀ a, off a + S1x1x192x512.size a ≤ S1x1x192x8192.size a) (d : Fin 192) (c : Fin 512) (hc : o + c.val < 8192) :
    A.view.readAt (Elt Ideal) (Rect.unit off S1x1x192x512.size inb).toLoadRect X (ix4 0 0 d c) = A.view.read (Elt Ideal) X (ix4 0 0 d ⟨o + c.val, hc⟩) := by
  refine ld_at A X inb hoff (ix4 0 0 d c) (ix4 0 0 d ⟨o + c.val, hc⟩) ?_
  intro a
  fin_cases a
  · exact (Nat.zero_add _).symm
  · exact (Nat.zero_add _).symm
  · exact (Nat.zero_add _).symm
  · exact rfl

/-- Scales of queries. -/
theorem ldR (A : Memref sig .tc .vmem S1x1x1x8192 .f32) (X : BufTy.Contents (Elt Ideal) A.view.ty) {off : Fin S1x1x1x8192.rank → ℕ} {o : ℕ}
    (hoff : off = ![0, 0, 0, o]) (inb : ∀ a, off a + S1x1x1x512.size a ≤ S1x1x1x8192.size a) (c : Fin 512) (hc : o + c.val < 8192) :
    A.view.readAt (Elt Ideal) (Rect.unit off S1x1x1x512.size inb).toLoadRect X (ix4 0 0 0 c) = A.view.read (Elt Ideal) X (ix4 0 0 0 ⟨o + c.val, hc⟩) := by
  refine ld_at A X inb hoff (ix4 0 0 0 c) (ix4 0 0 0 ⟨o + c.val, hc⟩) ?_
  intro a
  fin_cases a
  · exact (Nat.zero_add _).symm
  · exact (Nat.zero_add _).symm
  · exact (Nat.zero_add _).symm
  · exact rfl

/-- Keys. -/
theorem ldK (A : Memref sig .tc .vmem S1x1x8192x256 .fp8e4m3) (X : BufTy.Contents (Elt Ideal) A.view.ty) {off : Fin S1x1x8192x256.rank → ℕ} {o : ℕ}
    (hoff : off = ![0, 0, o, 0]) (inb : ∀ a, off a + S1x1x512x256.size a ≤ S1x1x8192x256.size a) (r : Fin 512) (d : Fin 256) (hr : o + r.val < 8192) :
    A.view.readAt (Elt Ideal) (Rect.unit off S1x1x512x256.size inb).toLoadRect X (ix4 0 0 r d) = A.view.read (Elt Ideal) X (ix4 0 0 ⟨o + r.val, hr⟩ d) := by
  refine ld_at A X inb hoff (ix4 0 0 r d) (ix4 0 0 ⟨o + r.val, hr⟩ d) ?_
  intro a
  fin_cases a
  · exact (Nat.zero_add _).symm
  · exact (Nat.zero_add _).symm
  · exact rfl
  · exact (Nat.zero_add _).symm

/-- Scales of keys. -/
theorem ldS (A : Memref sig .tc .vmem S1x1x1x8192 .f32) (X : BufTy.Contents (Elt Ideal) A.view.ty) {off : Fin S1x1x1x8192.rank → ℕ} {o : ℕ}
    (hoff : off = ![0, 0, 0, o]) (inb : ∀ a, off a + S1x1x1x128.size a ≤ S1x1x1x8192.size a) (c : Fin 128) (hc : o + c.val < 8192) :
    A.view.readAt (Elt Ideal) (Rect.unit off S1x1x1x128.size inb).toLoadRect X (ix4 0 0 0 c) = A.view.read (Elt Ideal) X (ix4 0 0 0 ⟨o + c.val, hc⟩) := by
  refine ld_at A X inb hoff (ix4 0 0 0 c) (ix4 0 0 0 ⟨o + c.val, hc⟩) ?_
  intro a
  fin_cases a
  · exact (Nat.zero_add _).symm
  · exact (Nat.zero_add _).symm
  · exact (Nat.zero_add _).symm
  · exact rfl

/-- Values. -/
theorem ldV (A : Memref sig .tc .vmem S1x1x128x8192 .fp8e4m3) (X : BufTy.Contents (Elt Ideal) A.view.ty) {off : Fin S1x1x128x8192.rank → ℕ} {o : ℕ}
    (hoff : off = ![0, 0, 0, o]) (inb : ∀ a, off a + S1x1x128x512.size a ≤ S1x1x128x8192.size a) (d : Fin 128) (c : Fin 512) (hc : o + c.val < 8192) :
    A.view.readAt (Elt Ideal) (Rect.unit off S1x1x128x512.size inb).toLoadRect X (ix4 0 0 d c) = A.view.read (Elt Ideal) X (ix4 0 0 d ⟨o + c.val, hc⟩) := by
  refine ld_at A X inb hoff (ix4 0 0 d c) (ix4 0 0 d ⟨o + c.val, hc⟩) ?_
  intro a
  fin_cases a
  · exact (Nat.zero_add _).symm
  · exact (Nat.zero_add _).symm
  · exact (Nat.zero_add _).symm
  · exact rfl

/-- Scores. -/
theorem ldT (A : Memref sig .tc .vmem S8192x512 .f32) (X : BufTy.Contents (Elt Ideal) A.view.ty) {off : Fin S8192x512.rank → ℕ} {o : ℕ}
    (hoff : off = ![o, 0]) (inb : ∀ a, off a + S512x512.size a ≤ S8192x512.size a) (r c : Fin 512) (hr : o + r.val < 8192) :
    A.view.readAt (Elt Ideal) (Rect.unit off S512x512.size inb).toLoadRect X (ix2 r c) = A.view.read (Elt Ideal) X (ix2 ⟨o + r.val, hr⟩ c) := by
  refine ld_at A X inb hoff (ix2 r c) (ix2 ⟨o + r.val, hr⟩ c) ?_
  intro a
  fin_cases a
  · exact rfl
  · exact (Nat.zero_add _).symm

/-- Scales of keys, a row each. -/
theorem ldB (A : Memref sig .tc .vmem S8192x128 .f32) (X : BufTy.Contents (Elt Ideal) A.view.ty) {off : Fin S8192x128.rank → ℕ} {o : ℕ}
    (hoff : off = ![o, 0]) (inb : ∀ a, off a + S512x128.size a ≤ S8192x128.size a) (r : Fin 512) (c : Fin 128) (hr : o + r.val < 8192) :
    A.view.readAt (Elt Ideal) (Rect.unit off S512x128.size inb).toLoadRect X (ix2 r c) = A.view.read (Elt Ideal) X (ix2 ⟨o + r.val, hr⟩ c) := by
  refine ld_at A X inb hoff (ix2 r c) (ix2 ⟨o + r.val, hr⟩ c) ?_
  intro a
  fin_cases a
  · exact rfl
  · exact (Nat.zero_add _).symm

/-- A whole buffer. -/
theorem ldP (A : Memref sig .tc .vmem S512x512 .fp8e4m3) (X : BufTy.Contents (Elt Ideal) A.view.ty) {off : Fin S512x512.rank → ℕ}
    (hoff : off = ![0, 0]) (inb : ∀ a, off a + S512x512.size a ≤ S512x512.size a) (r : Fin 512) (c : Fin 512) :
    A.view.readAt (Elt Ideal) (Rect.unit off S512x512.size inb).toLoadRect X (ix2 r c) = A.view.read (Elt Ideal) X (ix2 r c) := by
  refine ld_at A X inb hoff (ix2 r c) (ix2 r c) ?_
  intro a
  fin_cases a
  · exact (Nat.zero_add _).symm
  · exact (Nat.zero_add _).symm

/-- A whole buffer. -/
theorem ldA (A : Memref sig .tc .vmem S128x512 .f32) (X : BufTy.Contents (Elt Ideal) A.view.ty) {off : Fin S128x512.rank → ℕ}
    (hoff : off = ![0, 0]) (inb : ∀ a, off a + S128x512.size a ≤ S128x512.size a) (r : Fin 128) (c : Fin 512) :
    A.view.readAt (Elt Ideal) (Rect.unit off S128x512.size inb).toLoadRect X (ix2 r c) = A.view.read (Elt Ideal) X (ix2 r c) := by
  refine ld_at A X inb hoff (ix2 r c) (ix2 r c) ?_
  intro a
  fin_cases a
  · exact (Nat.zero_add _).symm
  · exact (Nat.zero_add _).symm

/-- A whole buffer. -/
theorem ldW (A : Memref sig .tc .vmem S256x512 .fp8e4m3) (X : BufTy.Contents (Elt Ideal) A.view.ty) {off : Fin S256x512.rank → ℕ}
    (hoff : off = ![0, 0]) (inb : ∀ a, off a + S256x512.size a ≤ S256x512.size a) (r : Fin 256) (c : Fin 512) :
    A.view.readAt (Elt Ideal) (Rect.unit off S256x512.size inb).toLoadRect X (ix2 r c) = A.view.read (Elt Ideal) X (ix2 r c) := by
  refine ld_at A X inb hoff (ix2 r c) (ix2 r c) ?_
  intro a
  fin_cases a
  · exact (Nat.zero_add _).symm
  · exact (Nat.zero_add _).symm

end Cert.KernelIdeal.Value

end
-- ==== Proof.Inner.lean ====
/- The inner loops of the attention body. A trip adds to the running sum of the weighted values what the previous trip's
   weights give, computes the weights of its own block of keys, and (in all but the last outer trip) replaces that block's
   scores by the next queries' scores. Here: what the loop has done after `n` trips. -/
module

public import Idealize.ShloMosaic.Lib.WritesUnit
public import proofs.«01_k».proof.Proof.TripKernelIdeal
public import proofs.«01_k».proof.Proof.Model
public import proofs.«01_k».proof.Proof.Reads

@[expose] public section

set_option maxRecDepth 16384

noncomputable section

namespace Cert.KernelIdeal.Value

open Cert.KernelIdeal Cert.KernelIdeal.Gen Cert.KernelIdeal.Hand
open Idealize.ShloMosaic Idealize.ShloMosaic.Pointwise Idealize.ShloMosaic.TcCoe

theorem trips3 : ∀ k : Fin k0_t2_loop.trips, (k0_t3_loop k).trips = k.val := by decide +kernel
theorem trips4 : ∀ k : Fin k0_t2_loop.trips, (k0_t4_loop k).trips = 0 := by decide +kernel
theorem trips2_lt : ∀ k : Fin k0_t2_loop.trips, k.val < 15 := by decide +kernel
theorem trips5 : k0_t5_loop.trips = 15 := by decide +kernel
theorem trips5_lt (k : Fin k0_t5_loop.trips) : k.val < 15 := Nat.lt_of_lt_of_le k.isLt (Nat.le_of_eq trips5)

/-- A store of a block of 512 rows of scores, read at a row of the block, -/
theorem stT_hit (A : Memref sig .tc .vmem S8192x512 .f32) (f : BufTy.Contents (Elt Ideal) A.view.ty) {off : Fin S8192x512.rank → ℕ} {o : ℕ}
    (hoff : off = ![o, 0]) (inb : ∀ a, off a + S512x512.size a ≤ S8192x512.size a) (w : Vec Ideal S512x512 .f32)
    (r : Fin 8192) (c : Fin 512) (x : Fin 512) (hx : r.val = o + x.val) :
    A.view.read (Elt Ideal) (A.view.writes (Elt Ideal) f [⟨Rect.unit off S512x512.size inb, w⟩]) (ix2 r c) = w (ix2 x c) := by
  refine View.read_writes_cons_unit_of_mem A.view f inb w [] (ix2 r c) (ix2 x c) hoff ?_
  intro a
  fin_cases a
  · exact hx
  · exact (Nat.zero_add _).symm

/-- and at a row outside it. -/
theorem stT_miss (A : Memref sig .tc .vmem S8192x512 .f32) (f : BufTy.Contents (Elt Ideal) A.view.ty) {off : Fin S8192x512.rank → ℕ} {o : ℕ}
    (hoff : off = ![o, 0]) (inb : ∀ a, off a + S512x512.size a ≤ S8192x512.size a) (w : Vec Ideal S512x512 .f32)
    (r : Fin 8192) (c : Fin 512) (hx : r.val < o ∨ o + 512 ≤ r.val) :
    A.view.read (Elt Ideal) (A.view.writes (Elt Ideal) f [⟨Rect.unit off S512x512.size inb, w⟩]) (ix2 r c) = A.view.read (Elt Ideal) f (ix2 r c) :=
  View.read_writes_cons_unit_of_not_mem A.view f inb w [] (ix2 r c) hoff (0 : Fin 2) hx

/-- A whole store of the weights, -/
theorem stP (A : Memref sig .tc .vmem S512x512 .fp8e4m3) (f : BufTy.Contents (Elt Ideal) A.view.ty) (inb : ∀ a, (![0, 0] : Fin 2 → ℕ) a + S512x512.size a ≤ S512x512.size a)
    (w : Vec Ideal S512x512 .fp8e4m3) (L) (r c : Fin 512) :
    A.view.read (Elt Ideal) (A.view.writes (Elt Ideal) f (⟨Rect.unit ![0, 0] S512x512.size inb, w⟩ :: L)) (ix2 r c) = w (ix2 r c) := by
  refine View.read_writes_cons_unit_of_mem A.view f inb w L (ix2 r c) (ix2 r c) rfl ?_
  intro a
  fin_cases a
  · exact (Nat.zero_add _).symm
  · exact (Nat.zero_add _).symm

/-- and of the weighted values. -/
theorem stA (A : Memref sig .tc .vmem S128x512 .f32) (f : BufTy.Contents (Elt Ideal) A.view.ty) (inb : ∀ a, (![0, 0] : Fin 2 → ℕ) a + S128x512.size a ≤ S128x512.size a)
    (w : Vec Ideal S128x512 .f32) (L) (r : Fin 128) (c : Fin 512) :
    A.view.read (Elt Ideal) (A.view.writes (Elt Ideal) f (⟨Rect.unit ![0, 0] S128x512.size inb, w⟩ :: L)) (ix2 r c) = w (ix2 r c) := by
  refine View.read_writes_cons_unit_of_mem A.view f inb w L (ix2 r c) (ix2 r c) rfl ?_
  intro a
  fin_cases a
  · exact (Nat.zero_add _).symm
  · exact (Nat.zero_add _).symm

section
variable (𝒱 : Variants) (dv : Dev nD) (bd : Option 𝒱.V) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole)

/-- The running sum of the weighted values, one block on: the weights in `arg10` are those of block `j - 1`, or zeros. -/
theorem acc_step (h : Head) (X6 : BufTy.Contents (Elt Ideal) arg6.view.ty) (hv : ∀ (d : Fin 128) (r : Fin 8192), arg6.view.read (Elt Ideal) X6 (ix4 0 0 d r) = h.V d r.val)
    (i0 j : ℕ) (hj : j ≤ 16) (f10 : BufTy.Contents (Elt Ideal) arg10.view.ty) (q : Fin 512 → ℕ)
    (hp : ∀ r c : Fin 512, arg10.view.read (Elt Ideal) f10 (ix2 r c) = if j = 0 then 0 else h.P i0 (512 * (j - 1) + r.val) (q c))
    {off : Fin S1x1x128x8192.rank → ℕ} (hoff : off = ![0, 0, 0, 512 * (j - 1)]) (inb) (inb') (d : Fin 128) (c : Fin 512) :
    h.acc i0 (j - 1) d (q c) + (∑ k : Fin 512, arg6.view.readAt (Elt Ideal) (Rect.unit off S1x1x128x512.size inb).toLoadRect X6 (ix4 0 0 d k)
      * arg10.view.readAt (Elt Ideal) (Rect.unit (s := S512x512) ![0, 0] S512x512.size inb').toLoadRect f10 (ix2 k c)) = h.acc i0 j d (q c) := by
  cases j with
  | zero =>
    rw [Finset.sum_eq_zero fun k _ => by rw [ldP arg10 f10 rfl inb' k c, hp, if_pos rfl, mul_zero], add_zero]
  | succ j =>
    show h.acc i0 j d (q c) + _ = _
    rw [h.acc_succ]
    congr 1
    refine Finset.sum_congr rfl fun k _ => ?_
    rw [ldP arg10 f10 rfl inb' k c, hp, if_neg (Nat.succ_ne_zero j), ldV arg6 X6 hoff inb d k (by have := k.isLt; simp only [Nat.add_sub_cancel] at *; omega), hv]
    rfl

/-- What is known of the operands' blocks: they hold the head `h`. -/
structure Holds (h : Head) (X2 : BufTy.Contents (Elt Ideal) arg2.view.ty) (X3 : BufTy.Contents (Elt Ideal) arg3.view.ty) (X4 : BufTy.Contents (Elt Ideal) arg4.view.ty) (X6 : BufTy.Contents (Elt Ideal) arg6.view.ty) : Prop where
  q : ∀ (d : Fin 192) (r : Fin 8192), arg2.view.read (Elt Ideal) X2 (ix4 0 0 d r) = h.Q ⟨d.val, by omega⟩ r.val
  q0 : ∀ (d : Fin 256) (n : ℕ), 192 ≤ d.val → h.Q d n = 0
  qs : ∀ r : Fin 8192, arg3.view.read (Elt Ideal) X3 (ix4 0 0 0 r) = h.qs r.val
  k : ∀ (r : Fin 8192) (d : Fin 256), arg4.view.read (Elt Ideal) X4 (ix4 0 0 r d) = h.K r.val d
  v : ∀ (d : Fin 128) (r : Fin 8192), arg6.view.read (Elt Ideal) X6 (ix4 0 0 d r) = h.V d r.val

section
variable (h : Head) (X2 : BufTy.Contents (Elt Ideal) arg2.view.ty) (X3 : BufTy.Contents (Elt Ideal) arg3.view.ty) (X4 : BufTy.Contents (Elt Ideal) arg4.view.ty) (X6 : BufTy.Contents (Elt Ideal) arg6.view.ty)
  (H : Holds arg2 arg3 arg4 arg6 h X2 X3 X4 X6)

include H in
/-- A block of keys times the queries in `arg11`: the scores before their scaling. -/
theorem score_at (X11 : BufTy.Contents (Elt Ideal) arg11.view.ty) (q : Fin 512 → ℕ) (H11 : ∀ (d : Fin 256) (c : Fin 512), arg11.view.read (Elt Ideal) X11 (ix2 d c) = h.Q d (q c))
    {off : Fin S1x1x8192x256.rank → ℕ} {o : ℕ} (hoff : off = ![0, 0, o, 0]) (ho : o + 512 ≤ 8192) (inb) (inb') (r c : Fin 512) :
    (∑ d : Fin 256, arg4.view.readAt (Elt Ideal) (Rect.unit off S1x1x512x256.size inb).toLoadRect X4 (ix4 0 0 r d)
      * arg11.view.readAt (Elt Ideal) (Rect.unit (s := S256x512) ![0, 0] S256x512.size inb').toLoadRect X11 (ix2 d c))
      = ∑ d : Fin 256, h.K (o + r.val) d * h.Q d (q c) :=
  Finset.sum_congr rfl fun d _ => by
    rw [ldK arg4 X4 hoff inb r d (by omega), ldW arg11 X11 rfl inb' d c, H.k, H11]

variable (v8 v9 : FVec Ideal S8x512 .f32) (c0 c1 : BitVec 32) (k0_t2 : Fin k0_t2_loop.trips) (arg15 : FVec Ideal S8x512 .f32)
  (v107 : Vec Ideal S1x1x1x512 .f32) (X11 : BufTy.Contents (Elt Ideal) arg11.view.ty) (X13 : BufTy.Contents (Elt Ideal) arg13.view.ty)

/-- The inner loop after `n` trips of the outer trip `i`: the carried maximum and sum, and the three buffers. -/
structure Inv3 (i n : ℕ) (acc : FVec Ideal S8x512 .f32 × FVec Ideal S8x512 .f32) (f9 : BufTy.Contents (Elt Ideal) arg9.view.ty) (f10 : BufTy.Contents (Elt Ideal) arg10.view.ty) (f12 : BufTy.Contents (Elt Ideal) arg12.view.ty) : Prop where
  m : ∀ (g : Fin 8) (c : Fin 512), acc.1 (ix2 g c) = h.mg n g (512 * i + 512 + c.val)
  l : ∀ (g : Fin 8) (c : Fin 512), acc.2 (ix2 g c) = h.lg i n g (512 * i + c.val)
  t : ∀ (r : Fin 8192) (c : Fin 512), r.val < 512 * (i + 1) → arg9.view.read (Elt Ideal) f9 (ix2 r c)
        = if r.val < 512 * n then h.T r.val (512 * i + 512 + c.val) else h.Tm r.val (512 * i + c.val)
  p : ∀ r c : Fin 512, arg10.view.read (Elt Ideal) f10 (ix2 r c) = if n = 0 then 0 else h.P i (512 * (n - 1) + r.val) (512 * i + c.val)
  a : ∀ (d : Fin 128) (c : Fin 512), arg12.view.read (Elt Ideal) f12 (ix2 d c) = h.acc i (n - 1) d (512 * i + c.val)

set_option maxHeartbeats 1000000 in
include H in
/-- ONE TRIP of the inner loop. -/
theorem step3 (H11 : ∀ (d : Fin 256) (c : Fin 512), arg11.view.read (Elt Ideal) X11 (ix2 d c) = h.Q d (512 * k0_t2.val + 512 + c.val))
    (H13 : ∀ (r : Fin 8192) (l : Fin 128), arg13.view.read (Elt Ideal) X13 (ix2 r l) = h.ks r.val)
    (H15 : ∀ c : Fin 512, (Finset.univ.sup fun g : Fin 8 => arg15 (ix2 g c)) = h.M k0_t2.val (512 * k0_t2.val + c.val))
    (H107 : ∀ c : Fin 512, v107 (ix4 0 0 0 c) = h.qs (512 * k0_t2.val + c.val))
    (k : Fin (k0_t3_loop k0_t2).trips) (acc : FVec Ideal S8x512 .f32 × FVec Ideal S8x512 .f32) (f9 : BufTy.Contents (Elt Ideal) arg9.view.ty) (f10 : BufTy.Contents (Elt Ideal) arg10.view.ty) (f12 : BufTy.Contents (Elt Ideal) arg12.view.ty)
    (I : Inv3 arg9 arg10 arg12 h k0_t2.val k.val acc f9 f10 f12) :
    Inv3 arg9 arg10 arg12 h k0_t2.val (k.val + 1) (tripR_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 k acc f9 f10 f12)
      (arg9.view.writes (Elt Ideal) f9 (tripL_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 k acc f9 f10 f12).1)
      (arg10.view.writes (Elt Ideal) f10 (tripL_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 k acc f9 f10 f12).2.1)
      (arg12.view.writes (Elt Ideal) f12 (tripL_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 k acc f9 f10 f12).2.2) := by
  have hk : k.val < k0_t2.val := Nat.lt_of_lt_of_le k.isLt (Nat.le_of_eq (trips3 k0_t2))
  have hi := trips2_lt k0_t2
  set j := k.val with hj
  set i0 := k0_t2.val with hi0
  -- the scores of the next queries
  have hs : ∀ r c : Fin 512, k0_pay6 (F := Ideal) (arg4.view.readAt (Elt Ideal) (Rect.unit (s := S1x1x8192x256) (k0_off8 k0_t2 k) S1x1x512x256.size (k0_off8_inb k0_t2 k)).toLoadRect X4)
      (arg11.view.readAt (Elt Ideal) (Rect.unit (s := S256x512) ![0, 0] S256x512.size inb_S256x512_S256x512_0_0).toLoadRect X11) (ix2 r c)
      = ∑ d : Fin 256, h.K (512 * j + r.val) d * h.Q d (512 * i0 + 512 + c.val) := fun r c => by
    rw [pay6_at]
    exact score_at arg2 arg3 arg4 arg6 arg11 h X2 X3 X4 X6 H X11 (fun c => 512 * i0 + 512 + c.val) H11 (k0_off8_eq k0_t2 k) (by omega) _ _ r c
  have hb : ∀ (r : Fin 512) (l : Fin 128), arg13.view.readAt (Elt Ideal) (Rect.unit (s := S8192x128) (k0_off9 k0_t2 k) S512x128.size (k0_off9_inb k0_t2 k)).toLoadRect X13 (ix2 r l)
      = h.ks (512 * j + r.val) := fun r l => by
    rw [ldB arg13 X13 (k0_off9_eq k0_t2 k) _ r l (by omega), H13]
  -- the weights of this block
  have ht : ∀ r c : Fin 512, arg9.view.readAt (Elt Ideal) (Rect.unit (s := S8192x512) (k0_off7 k0_t2 k) S512x512.size (k0_off7_inb k0_t2 k)).toLoadRect f9 (ix2 r c)
      = h.Tm (512 * j + r.val) (512 * i0 + c.val) := fun r c => by
    rw [ldT arg9 f9 (k0_off7_eq k0_t2 k) _ r c (by omega), I.t _ _ (show 512 * j + r.val < 512 * (i0 + 1) by omega), if_neg (show ¬ 512 * j + r.val < 512 * j by omega)]
  have hp : ∀ r c : Fin 512, Ideal.exp2 ((arg9.view.readAt (Elt Ideal) (Rect.unit (s := S8192x512) (k0_off7 k0_t2 k) S512x512.size (k0_off7_inb k0_t2 k)).toLoadRect f9 (ix2 r c)
      - (k0_pay12 (F := Ideal) arg15) (ix2 0 c)) * (k0_pay13 (F := Ideal) v107) (ix2 0 c)) = h.P i0 (512 * j + r.val) (512 * i0 + c.val) := fun r c => by
    rw [ht, pay12_at, pay13_at, H15, H107]
    rfl
  refine ⟨fun g c => ?_, fun g c => ?_, fun r c hr => ?_, fun r c => ?_, fun d c => ?_⟩
  · have e : (tripR_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 k acc f9 f10 f12).1
        = k0_pay18 acc.1 (k0_pay6 (arg4.view.readAt (Elt Ideal) (Rect.unit (s := S1x1x8192x256) (k0_off8 k0_t2 k) S1x1x512x256.size (k0_off8_inb k0_t2 k)).toLoadRect X4)
            (arg11.view.readAt (Elt Ideal) (Rect.unit (s := S256x512) ![0, 0] S256x512.size inb_S256x512_S256x512_0_0).toLoadRect X11))
          (arg13.view.readAt (Elt Ideal) (Rect.unit (s := S8192x128) (k0_off9 k0_t2 k) S512x128.size (k0_off9_inb k0_t2 k)).toLoadRect X13) := by
      unfold tripR_k0_t3 trip_k0_t3; rfl
    rw [e, pay18_at _ _ _ (fun r => h.ks (512 * j + r.val)) hb, h.mg_succ, I.m]
    congr 1
    refine Finset.sup_congr rfl fun a _ => ?_
    rw [hs, h.Tm_of_le (by have := (grow a g).isLt; omega)]
    rfl
  · have e : (tripR_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 k acc f9 f10 f12).2
        = k0_pay5 (k0_pay12 arg15) (k0_pay13 v107) acc.2
          (arg9.view.readAt (Elt Ideal) (Rect.unit (s := S8192x512) (k0_off7 k0_t2 k) S512x512.size (k0_off7_inb k0_t2 k)).toLoadRect f9) := by
      unfold tripR_k0_t3 trip_k0_t3; rfl
    rw [e, pay5_at, h.lg_succ, I.l]
    congr 1
    exact Finset.sum_congr rfl fun a _ => hp _ _
  · have e : (tripL_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 k acc f9 f10 f12).1
        = [⟨Rect.unit (s := S8192x512) (k0_off7 k0_t2 k) S512x512.size (k0_off7_inb k0_t2 k), k0_pay19 (k0_pay6 (arg4.view.readAt (Elt Ideal) (Rect.unit (s := S1x1x8192x256) (k0_off8 k0_t2 k) S1x1x512x256.size (k0_off8_inb k0_t2 k)).toLoadRect X4)
            (arg11.view.readAt (Elt Ideal) (Rect.unit (s := S256x512) ![0, 0] S256x512.size inb_S256x512_S256x512_0_0).toLoadRect X11))
          (arg13.view.readAt (Elt Ideal) (Rect.unit (s := S8192x128) (k0_off9 k0_t2 k) S512x128.size (k0_off9_inb k0_t2 k)).toLoadRect X13)⟩] := by
      unfold tripL_k0_t3 trip_k0_t3; rfl
    rw [e]
    by_cases hr1 : r.val < 512 * j
    · rw [stT_miss arg9 f9 (k0_off7_eq k0_t2 k) _ _ r c (Or.inl hr1), I.t r c hr, if_pos hr1, if_pos (by omega)]
    · by_cases hr2 : r.val < 512 * (j + 1)
      · rw [stT_hit arg9 f9 (k0_off7_eq k0_t2 k) _ _ r c ⟨r.val - 512 * j, by omega⟩ (show r.val = 512 * k.val + (r.val - 512 * j) by omega),
          pay19_at _ _ (fun r => h.ks (512 * j + r.val)) hb, hs, if_pos hr2]
        show _ = h.T _ _
        rw [show 512 * j + (r.val - 512 * j) = r.val by omega]
        rfl
      · rw [stT_miss arg9 f9 (k0_off7_eq k0_t2 k) _ _ r c (Or.inr (by omega)), I.t r c hr, if_neg hr1, if_neg hr2]
  · have e : (tripL_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 k acc f9 f10 f12).2.1
        = [⟨Rect.unit ![0, 0] S512x512.size inb_S512x512_S512x512_0_0, k0_pay20 (k0_pay4 (k0_pay12 arg15) (k0_pay13 v107)
          (arg9.view.readAt (Elt Ideal) (Rect.unit (s := S8192x512) (k0_off7 k0_t2 k) S512x512.size (k0_off7_inb k0_t2 k)).toLoadRect f9))⟩] := by
      unfold tripL_k0_t3 trip_k0_t3; rfl
    rw [e, stP, pay20_at, pay4_at, hp, if_neg (Nat.succ_ne_zero j)]
    rfl
  · have e : (tripL_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 k acc f9 f10 f12).2.2
        = [⟨Rect.unit ![0, 0] S128x512.size inb_S128x512_S128x512_0_0, k0_pay2 (arg12.view.readAt (Elt Ideal) (Rect.unit (s := S128x512) ![0, 0] S128x512.size inb_S128x512_S128x512_0_0).toLoadRect f12)
          (arg10.view.readAt (Elt Ideal) (Rect.unit (s := S512x512) ![0, 0] S512x512.size inb_S512x512_S512x512_0_0).toLoadRect f10)
          (arg6.view.readAt (Elt Ideal) (Rect.unit (s := S1x1x128x8192) (k0_off6 k0_t2 k) S1x1x128x512.size (k0_off6_inb k0_t2 k)).toLoadRect X6)⟩] := by
      unfold tripL_k0_t3 trip_k0_t3; rfl
    rw [e, stA, pay2_at, ldA arg12 f12 rfl _ d c, I.a]
    exact acc_step arg6 arg10 h X6 H.v i0 j (by omega) f10 (fun c => 512 * i0 + c.val) I.p (off6_eq k0_t2 k) _ _ d c

set_option maxHeartbeats 1000000 in
include H in
/-- The inner loop after `n` trips. -/
theorem run3 (H11 : ∀ (d : Fin 256) (c : Fin 512), arg11.view.read (Elt Ideal) X11 (ix2 d c) = h.Q d (512 * k0_t2.val + 512 + c.val))
    (H13 : ∀ (r : Fin 8192) (l : Fin 128), arg13.view.read (Elt Ideal) X13 (ix2 r l) = h.ks r.val)
    (H15 : ∀ c : Fin 512, (Finset.univ.sup fun g : Fin 8 => arg15 (ix2 g c)) = h.M k0_t2.val (512 * k0_t2.val + c.val))
    (H107 : ∀ c : Fin 512, v107 (ix4 0 0 0 c) = h.qs (512 * k0_t2.val + c.val))
    (g9 : BufTy.Contents (Elt Ideal) arg9.view.ty) (g10 : BufTy.Contents (Elt Ideal) arg10.view.ty) (g12 : BufTy.Contents (Elt Ideal) arg12.view.ty) (init : FVec Ideal S8x512 .f32 × FVec Ideal S8x512 .f32)
    (I : Inv3 arg9 arg10 arg12 h k0_t2.val 0 init g9 g10 g12) (n : ℕ) (hn : n ≤ (k0_t3_loop k0_t2).trips) :
    Inv3 arg9 arg10 arg12 h k0_t2.val n (st_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 g9 g10 g12 init n).1
      (arg9.view.writes (Elt Ideal) g9 (st_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 g9 g10 g12 init n).2.1)
      (arg10.view.writes (Elt Ideal) g10 (st_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 g9 g10 g12 init n).2.2.1)
      (arg12.view.writes (Elt Ideal) g12 (st_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 g9 g10 g12 init n).2.2.2) := by
  induction n with
  | zero => exact I
  | succ n ih =>
    have e := st_k0_t3_succ (F := Ideal) 𝒱 dv bd i arg2 harg2 arg3 harg3 arg4 harg4 arg5 harg5 arg6 harg6 arg7 harg7 arg8 harg8 arg9 harg9 arg10 harg10 arg11 harg11 arg12 harg12 arg13 harg13 v8 v9 c0 c1 k0_t2 arg15 v107 X4 X6 X11 X13 g9 g10 g12 init ⟨n, hn⟩
    rw [show n + 1 = (⟨n, hn⟩ : Fin (k0_t3_loop k0_t2).trips).val + 1 from rfl, e]
    dsimp only
    rw [View.writes_append, View.writes_append, View.writes_append]
    exact step3 𝒱 dv bd i arg2 harg2 arg3 harg3 arg4 harg4 arg5 harg5 arg6 harg6 arg7 harg7 arg8 harg8 arg9 harg9 arg10 harg10 arg11 harg11 arg12 harg12 arg13 harg13 h X2 X3 X4 X6 H v8 v9 c0 c1 k0_t2 arg15 v107 X11 X13 H11 H13 H15 H107 ⟨n, hn⟩ _ _ _ _ (ih (by omega))

end

end

end Cert.KernelIdeal.Value

end
-- ==== Proof.Last.lean ====
/- The first loop of the attention body, which lays the keys' scales out in columns, and the loop of the last queries:
   what each has done after `n` trips. -/
module

public import Idealize.ShloMosaic.Lib.WritesUnit
public import proofs.«01_k».proof.Proof.Inner

@[expose] public section

set_option maxRecDepth 16384

noncomputable section

namespace Cert.KernelIdeal.Value

open Cert.KernelIdeal Cert.KernelIdeal.Gen Cert.KernelIdeal.Hand
open Idealize.ShloMosaic Idealize.ShloMosaic.Pointwise Idealize.ShloMosaic.TcCoe

theorem trips1 : k0_t1_loop.trips = 64 := by decide +kernel

section
variable (𝒱 : Variants) (dv : Dev nD) (bd : Option 𝒱.V) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole)

/-- After `n` trips of the first loop `arg13` holds the scaled scales of the first `128 n` keys, each along its row. -/
theorem run1 (X5 : BufTy.Contents (Elt Ideal) arg5.view.ty) (g13 : BufTy.Contents (Elt Ideal) arg13.view.ty) (n : ℕ) (hn : n ≤ k0_t1_loop.trips) (r : Fin 8192) (l : Fin 128) (hr : r.val < 128 * n) :
    arg13.view.read (Elt Ideal) (arg13.view.writes (Elt Ideal) g13 (pb_k0_t1 (F := Ideal) 𝒱 dv bd i arg2 harg2 arg3 harg3 arg4 harg4 arg5 harg5 arg6 harg6 arg7 harg7 arg8 harg8 arg9 harg9 arg10 harg10 arg11 harg11 arg12 harg12 arg13 harg13 X5 n)) (ix2 r l)
      = arg5.view.read (Elt Ideal) X5 (ix4 0 0 0 r) * csc := by
  induction n with
  | zero => exact absurd hr (by omega)
  | succ n ih =>
    have e := pb_k0_t1_succ (F := Ideal) 𝒱 dv bd i arg2 harg2 arg3 harg3 arg4 harg4 arg5 harg5 arg6 harg6 arg7 harg7 arg8 harg8 arg9 harg9 arg10 harg10 arg11 harg11 arg12 harg12 arg13 harg13 X5 ⟨n, hn⟩
    have e1 : tripL_k0_t1 (F := Ideal) 𝒱 dv bd i arg2 harg2 arg3 harg3 arg4 harg4 arg5 harg5 arg6 harg6 arg7 harg7 arg8 harg8 arg9 harg9 arg10 harg10 arg11 harg11 arg12 harg12 arg13 harg13 X5 ⟨n, hn⟩ = [⟨Rect.unit (s := S8192x128) (k0_off3 ⟨n, hn⟩) S128x128.size (k0_off3_inb ⟨n, hn⟩),
        k0_pay34 (arg5.view.readAt (Elt Ideal) (Rect.unit (s := S1x1x1x8192) (k0_off2 ⟨n, hn⟩) S1x1x1x128.size (k0_off2_inb ⟨n, hn⟩)).toLoadRect X5)⟩] := by
      unfold tripL_k0_t1 trip_k0_t1; rfl
    rw [show n + 1 = (⟨n, hn⟩ : Fin k0_t1_loop.trips).val + 1 from rfl, e, e1, View.writes_append]
    by_cases h1 : r.val < 128 * n
    · rw [← ih (by omega) h1]
      exact View.read_writes_cons_unit_of_not_mem arg13.view _ _ _ [] (ix2 r l) (k0_off3_eq ⟨n, hn⟩) (0 : Fin 2) (Or.inl h1)
    · have hx : r.val - 128 * n < 128 := by omega
      refine (View.read_writes_cons_unit_of_mem arg13.view _ _ _ [] (ix2 r l) (ix2 ⟨r.val - 128 * n, hx⟩ l) (k0_off3_eq ⟨n, hn⟩) ?_).trans ?_
      · intro a
        fin_cases a
        · show r.val = 128 * n + (r.val - 128 * n)
          omega
        · exact (Nat.zero_add _).symm
      · rw [pay34_at, ldS arg5 X5 (k0_off2_eq ⟨n, hn⟩) _ ⟨r.val - 128 * n, hx⟩ (show 128 * n + (r.val - 128 * n) < 8192 by omega)]
        congr 3
        exact Fin.ext (show 128 * n + (r.val - 128 * n) = r.val by omega)

section
variable (h : Head) (X2 : BufTy.Contents (Elt Ideal) arg2.view.ty) (X3 : BufTy.Contents (Elt Ideal) arg3.view.ty) (X4 : BufTy.Contents (Elt Ideal) arg4.view.ty) (X6 : BufTy.Contents (Elt Ideal) arg6.view.ty)
  (H : Holds arg2 arg3 arg4 arg6 h X2 X3 X4 X6)
  (v2 : Elt Ideal .f32) (v8 v9 : FVec Ideal S8x512 .f32) (v27 : FVec Ideal S512x512 .f32) (v30 : IVec S512x512 1) (v42 : FVec Ideal S8x512 .f32) (v47 : Vec Ideal S1x1x1x512 .f32) (X9 : BufTy.Contents (Elt Ideal) arg9.view.ty)

/-- The loop of the last queries after `n` trips: the carried sum and the two buffers. -/
structure Inv5 (i n : ℕ) (acc : FVec Ideal S8x512 .f32) (f10 : BufTy.Contents (Elt Ideal) arg10.view.ty) (f12 : BufTy.Contents (Elt Ideal) arg12.view.ty) : Prop where
  l : ∀ (g : Fin 8) (c : Fin 512), acc (ix2 g c) = h.lg i n g (512 * i + c.val)
  p : ∀ r c : Fin 512, arg10.view.read (Elt Ideal) f10 (ix2 r c) = if n = 0 then 0 else h.P i (512 * (n - 1) + r.val) (512 * i + c.val)
  a : ∀ (d : Fin 128) (c : Fin 512), arg12.view.read (Elt Ideal) f12 (ix2 d c) = h.acc i (n - 1) d (512 * i + c.val)

set_option maxHeartbeats 1000000 in
include H in
/-- ONE TRIP of that loop. -/
theorem step5 (H9 : ∀ (r : Fin 8192) (c : Fin 512), arg9.view.read (Elt Ideal) X9 (ix2 r c) = h.Tm r.val (512 * 15 + c.val))
    (H42 : ∀ c : Fin 512, (Finset.univ.sup fun g : Fin 8 => v42 (ix2 g c)) = h.M 15 (512 * 15 + c.val))
    (H47 : ∀ c : Fin 512, v47 (ix4 0 0 0 c) = h.qs (512 * 15 + c.val))
    (k : Fin k0_t5_loop.trips) (acc : FVec Ideal S8x512 .f32) (f10 : BufTy.Contents (Elt Ideal) arg10.view.ty) (f12 : BufTy.Contents (Elt Ideal) arg12.view.ty)
    (I : Inv5 arg10 arg12 h 15 k.val acc f10 f12) :
    Inv5 arg10 arg12 h 15 (k.val + 1) (tripR_k0_t5 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 v42 v47 X6 X9 k acc f10 f12)
      (arg10.view.writes (Elt Ideal) f10 (tripL_k0_t5 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 v42 v47 X6 X9 k acc f10 f12).1)
      (arg12.view.writes (Elt Ideal) f12 (tripL_k0_t5 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 v42 v47 X6 X9 k acc f10 f12).2) := by
  have hk := trips5_lt k
  have hp : ∀ r c : Fin 512, Ideal.exp2 (((arg9.view.readAt (Elt Ideal) (Rect.unit (s := S8192x512) (k0_off24 k) S512x512.size (k0_off24_inb k)).toLoadRect X9) (ix2 r c)
      - Finset.univ.sup fun g : Fin 8 => v42 (ix2 g c)) * (v47 (ix4 0 0 0 c) * log2e)) = h.P 15 (512 * k.val + r.val) (512 * 15 + c.val) := fun r c => by
    rw [ldT arg9 X9 (k0_off24_eq k) _ r c (by omega), H9, H42, H47]
    rfl
  refine ⟨fun g c => ?_, fun r c => ?_, fun d c => ?_⟩
  · have e : tripR_k0_t5 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 v42 v47 X6 X9 k acc f10 f12 = k0_pay51 v42 v47 acc (arg9.view.readAt (Elt Ideal) (Rect.unit (s := S8192x512) (k0_off24 k) S512x512.size (k0_off24_inb k)).toLoadRect X9) := by
      unfold tripR_k0_t5 trip_k0_t5; rfl
    rw [e, pay51_at, h.lg_succ, I.l]
    congr 1
    exact Finset.sum_congr rfl fun a _ => hp _ _
  · have e : (tripL_k0_t5 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 v42 v47 X6 X9 k acc f10 f12).1
        = [⟨Rect.unit ![0, 0] S512x512.size inb_S512x512_S512x512_0_0, k0_pay52 v42 v47 (arg9.view.readAt (Elt Ideal) (Rect.unit (s := S8192x512) (k0_off24 k) S512x512.size (k0_off24_inb k)).toLoadRect X9)⟩] := by
      unfold tripL_k0_t5 trip_k0_t5; rfl
    rw [e, stP, pay52_at, hp, if_neg (Nat.succ_ne_zero k.val)]
    rfl
  · have e : (tripL_k0_t5 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 v42 v47 X6 X9 k acc f10 f12).2
        = [⟨Rect.unit ![0, 0] S128x512.size inb_S128x512_S128x512_0_0, k0_pay49 (arg12.view.readAt (Elt Ideal) (Rect.unit (s := S128x512) ![0, 0] S128x512.size inb_S128x512_S128x512_0_0).toLoadRect f12)
          (arg10.view.readAt (Elt Ideal) (Rect.unit (s := S512x512) ![0, 0] S512x512.size inb_S512x512_S512x512_0_0).toLoadRect f10)
          (arg6.view.readAt (Elt Ideal) (Rect.unit (s := S1x1x128x8192) (k0_off23 k) S1x1x128x512.size (k0_off23_inb k)).toLoadRect X6)⟩] := by
      unfold tripL_k0_t5 trip_k0_t5; rfl
    rw [e, stA, pay49_at, ldA arg12 f12 rfl _ d c, I.a]
    exact acc_step arg6 arg10 h X6 H.v 15 k.val (by omega) f10 (fun c => 512 * 15 + c.val) I.p (off23_eq k) _ _ d c

set_option maxHeartbeats 1000000 in
include H in
/-- That loop after `n` trips. -/
theorem run5 (H9 : ∀ (r : Fin 8192) (c : Fin 512), arg9.view.read (Elt Ideal) X9 (ix2 r c) = h.Tm r.val (512 * 15 + c.val))
    (H42 : ∀ c : Fin 512, (Finset.univ.sup fun g : Fin 8 => v42 (ix2 g c)) = h.M 15 (512 * 15 + c.val))
    (H47 : ∀ c : Fin 512, v47 (ix4 0 0 0 c) = h.qs (512 * 15 + c.val))
    (g10 : BufTy.Contents (Elt Ideal) arg10.view.ty) (g12 : BufTy.Contents (Elt Ideal) arg12.view.ty) (init : FVec Ideal S8x512 .f32)
    (I : Inv5 arg10 arg12 h 15 0 init g10 g12) (n : ℕ) (hn : n ≤ k0_t5_loop.trips) :
    Inv5 arg10 arg12 h 15 n (st_k0_t5 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 v42 v47 X6 X9 g10 g12 init n).1
      (arg10.view.writes (Elt Ideal) g10 (st_k0_t5 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 v42 v47 X6 X9 g10 g12 init n).2.1)
      (arg12.view.writes (Elt Ideal) g12 (st_k0_t5 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 v42 v47 X6 X9 g10 g12 init n).2.2) := by
  induction n with
  | zero => exact I
  | succ n ih =>
    have e := st_k0_t5_succ (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 v42 v47 X6 X9 g10 g12 init ⟨n, hn⟩
    rw [show n + 1 = (⟨n, hn⟩ : Fin k0_t5_loop.trips).val + 1 from rfl, e]
    dsimp only
    rw [View.writes_append, View.writes_append]
    exact step5 𝒱 dv bd i arg2 harg2 arg3 harg3 arg4 harg4 arg5 harg5 arg6 harg6 arg7 harg7 arg8 harg8 arg9 harg9 arg10 harg10 arg11 harg11 arg12 harg12 arg13 harg13 h X2 X3 X4 X6 H v2 v8 v9 v27 v30 v42 v47 X9 H9 H42 H47 ⟨n, hn⟩ _ _ _ (ih (by omega))

end

end

end Cert.KernelIdeal.Value

end
-- ==== Proof.Outer.lean ====
/- One outer trip of the attention body: it finishes the queries of block `i` (their output) and leaves the masked scores of the
   queries of block `i + 1`. Here: what the outer loop has done after `n` trips. -/
module

public import Idealize.ShloMosaic.Lib.WritesUnit
public import proofs.«01_k».proof.Proof.Last

@[expose] public section

set_option maxRecDepth 16384

noncomputable section

namespace Cert.KernelIdeal.Value

open Cert.KernelIdeal Cert.KernelIdeal.Gen Cert.KernelIdeal.Hand
open Idealize.ShloMosaic Idealize.ShloMosaic.Pointwise Idealize.ShloMosaic.TcCoe

/-- The queries in `arg11` once the next block of queries is stored over its first 192 rows. -/
def W11 (arg2 : Memref sig .tc .vmem S1x1x192x8192 .fp8e4m3) (arg11 : Memref sig .tc .vmem S256x512 .fp8e4m3) (X2 : BufTy.Contents (Elt Ideal) arg2.view.ty) (f11 : BufTy.Contents (Elt Ideal) arg11.view.ty) (k : Fin k0_t2_loop.trips) : BufTy.Contents (Elt Ideal) arg11.view.ty :=
  arg11.view.writes (Elt Ideal) f11 [⟨Rect.unit (s := S256x512) ![0, 0] S192x512.size inb_S256x512_S192x512_0_0,
    k0_pay14 (F := Ideal) (arg2.view.readAt (Elt Ideal) (Rect.unit (s := S1x1x192x8192) (k0_off5 k) S1x1x192x512.size (k0_off5_inb k)).toLoadRect X2)⟩]

section
variable (𝒱 : Variants) (dv : Dev nD) (bd : Option 𝒱.V) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole)
  (v2 : Elt Ideal .f32) (v8 v9 : FVec Ideal S8x512 .f32) (v27 : FVec Ideal S512x512 .f32) (v30 : IVec S512x512 1) (X2 : BufTy.Contents (Elt Ideal) arg2.view.ty) (X3 : BufTy.Contents (Elt Ideal) arg3.view.ty) (X4 : BufTy.Contents (Elt Ideal) arg4.view.ty) (X6 : BufTy.Contents (Elt Ideal) arg6.view.ty) (X13 : BufTy.Contents (Elt Ideal) arg13.view.ty) (acc : FVec Ideal S8x512 .f32) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (k : Fin k0_t2_loop.trips)

/-- The inner loop of trip `k`, run whole. -/
def S3 := st_k0_t3 (F := Ideal) 𝒱 dv bd i arg2 harg2 arg3 harg3 arg4 harg4 arg5 harg5 arg6 harg6 arg7 harg7 arg8 harg8 arg9 harg9 arg10 harg10 arg11 harg11 arg12 harg12 arg13 harg13 v8 v9 (0#32) (1#32) k acc (arg3.view.readAt (Elt Ideal) (Rect.unit (s := S1x1x1x8192) (k0_off4 k) S1x1x1x512.size (k0_off4_inb k)).toLoadRect X3) X4 X6 (W11 arg2 arg11 X2 f11 k) X13 f9 (arg10.view.writes (Elt Ideal) arg10.view.junk [⟨Rect.unit ![0, 0] S512x512.size inb_S512x512_S512x512_0_0, k0_pay16 (F := Ideal)⟩]) (arg12.view.writes (Elt Ideal) arg12.view.junk [⟨Rect.unit ![0, 0] S128x512.size inb_S128x512_S128x512_0_0, k0_pay15 (F := Ideal)⟩]) (v8, v9) (k0_t3_loop k).trips

/-- The remainder loop behind it, which makes no trip. -/
def S4 := st_k0_t4 (F := Ideal) 𝒱 dv bd i arg2 harg2 arg3 harg3 arg4 harg4 arg5 harg5 arg6 harg6 arg7 harg7 arg8 harg8 arg9 harg9 arg10 harg10 arg11 harg11 arg12 harg12 arg13 harg13 v8 v9 (0#32) (1#32) k acc (arg3.view.readAt (Elt Ideal) (Rect.unit (s := S1x1x1x8192) (k0_off4 k) S1x1x1x512.size (k0_off4_inb k)).toLoadRect X3) (Scalar.addi (0#32) (trip2.sl.v131 k)) X4 X6 (W11 arg2 arg11 X2 f11 k) X13
  (arg9.view.writes (Elt Ideal) f9 (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1) (arg10.view.writes (Elt Ideal) arg10.view.junk ((S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.1 ++ [⟨Rect.unit ![0, 0] S512x512.size inb_S512x512_S512x512_0_0, k0_pay16 (F := Ideal)⟩])) (arg12.view.writes (Elt Ideal) arg12.view.junk ((S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.2 ++ [⟨Rect.unit ![0, 0] S128x512.size inb_S128x512_S128x512_0_0, k0_pay15 (F := Ideal)⟩])) ((S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).1.1, (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).1.2) (k0_t4_loop k).trips

theorem S4_eq : (S4 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k) = ((S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).1, [], [], []) := by
  unfold S4
  rw [trips4]
  rfl

set_option maxHeartbeats 1000000 in
/-- The carried maximum that trip `k` yields, -/
theorem trip2_m : (trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).1 acc f8 f9 f10 f11 f12 = k0_pay32 (F := Ideal) (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).1.1 (k0_pay29 (arg4.view.readAt (Elt Ideal) (Rect.unit (s := S1x1x8192x256) (k0_off16 k) S1x1x512x256.size (k0_off16_inb k)).toLoadRect X4) (arg11.view.readAt (Elt Ideal) (Rect.unit (s := S256x512) ![0, 0] S256x512.size inb_S256x512_S256x512_0_0).toLoadRect (W11 arg2 arg11 X2 f11 k)) (arg13.view.readAt (Elt Ideal) (Rect.unit (s := S8192x128) (k0_off17 k) S512x128.size (k0_off17_inb k)).toLoadRect X13)) (arg4.view.readAt (Elt Ideal) (Rect.unit (s := S1x1x8192x256) (k0_off18 k) S1x1x512x256.size (k0_off18_inb k)).toLoadRect X4) (arg11.view.readAt (Elt Ideal) (Rect.unit (s := S256x512) ![0, 0] S256x512.size inb_S256x512_S256x512_0_0).toLoadRect (W11 arg2 arg11 X2 f11 k)) (arg13.view.readAt (Elt Ideal) (Rect.unit (s := S8192x128) (k0_off19 k) S512x128.size (k0_off19_inb k)).toLoadRect X13) := by
  have e : (trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).1 acc f8 f9 f10 f11 f12 = k0_pay32 (F := Ideal) (S4 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).1.1 (k0_pay29 (arg4.view.readAt (Elt Ideal) (Rect.unit (s := S1x1x8192x256) (k0_off16 k) S1x1x512x256.size (k0_off16_inb k)).toLoadRect X4) (arg11.view.readAt (Elt Ideal) (Rect.unit (s := S256x512) ![0, 0] S256x512.size inb_S256x512_S256x512_0_0).toLoadRect (W11 arg2 arg11 X2 f11 k)) (arg13.view.readAt (Elt Ideal) (Rect.unit (s := S8192x128) (k0_off17 k) S512x128.size (k0_off17_inb k)).toLoadRect X13)) (arg4.view.readAt (Elt Ideal) (Rect.unit (s := S1x1x8192x256) (k0_off18 k) S1x1x512x256.size (k0_off18_inb k)).toLoadRect X4) (arg11.view.readAt (Elt Ideal) (Rect.unit (s := S256x512) ![0, 0] S256x512.size inb_S256x512_S256x512_0_0).toLoadRect (W11 arg2 arg11 X2 f11 k)) (arg13.view.readAt (Elt Ideal) (Rect.unit (s := S8192x128) (k0_off19 k) S512x128.size (k0_off19_inb k)).toLoadRect X13) := by
    unfold trip2; rfl
  rw [e, S4_eq]

/-- the weighted values that the output is made of, -/
theorem trip2_a : trip2.sl.v145 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 k acc f9 f11 = k0_pay25 (F := Ideal) (arg12.view.readAt (Elt Ideal) (Rect.unit (s := S128x512) ![0, 0] S128x512.size inb_S128x512_S128x512_0_0).toLoadRect (arg12.view.writes (Elt Ideal) (arg12.view.writes (Elt Ideal) arg12.view.junk [⟨Rect.unit ![0, 0] S128x512.size inb_S128x512_S128x512_0_0, k0_pay15 (F := Ideal)⟩]) (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.2)) (arg10.view.readAt (Elt Ideal) (Rect.unit (s := S512x512) ![0, 0] S512x512.size inb_S512x512_S512x512_0_0).toLoadRect (arg10.view.writes (Elt Ideal) (arg10.view.writes (Elt Ideal) arg10.view.junk [⟨Rect.unit ![0, 0] S512x512.size inb_S512x512_S512x512_0_0, k0_pay16 (F := Ideal)⟩]) (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.1)) (arg6.view.readAt (Elt Ideal) (Rect.unit (s := S1x1x128x8192) (k0_off14 k) S1x1x128x512.size (k0_off14_inb k)).toLoadRect X6) := by
  have e : trip2.sl.v145 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 k acc f9 f11 = k0_pay25 (F := Ideal) (arg12.view.readAt (Elt Ideal) (Rect.unit (s := S128x512) ![0, 0] S128x512.size inb_S128x512_S128x512_0_0).toLoadRect (arg12.view.writes (Elt Ideal) arg12.view.junk ((S4 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.2 ++ ((S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.2 ++ [⟨Rect.unit ![0, 0] S128x512.size inb_S128x512_S128x512_0_0, k0_pay15 (F := Ideal)⟩]))))
      (arg10.view.readAt (Elt Ideal) (Rect.unit (s := S512x512) ![0, 0] S512x512.size inb_S512x512_S512x512_0_0).toLoadRect (arg10.view.writes (Elt Ideal) arg10.view.junk ((S4 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.1 ++ ((S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.1 ++ [⟨Rect.unit ![0, 0] S512x512.size inb_S512x512_S512x512_0_0, k0_pay16 (F := Ideal)⟩])))) (arg6.view.readAt (Elt Ideal) (Rect.unit (s := S1x1x128x8192) (k0_off14 k) S1x1x128x512.size (k0_off14_inb k)).toLoadRect X6) := by
    rfl
  rw [e, S4_eq]
  simp only [List.nil_append, View.writes_append]

/-- its last weights, -/
theorem trip2_p : trip2.sl.v155 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 k acc f9 f11 = k0_pay27 (F := Ideal) (k0_pay12 acc) (k0_pay13 (arg3.view.readAt (Elt Ideal) (Rect.unit (s := S1x1x1x8192) (k0_off4 k) S1x1x1x512.size (k0_off4_inb k)).toLoadRect X3)) (arg9.view.readAt (Elt Ideal) (Rect.unit (s := S8192x512) (k0_off15 k) S512x512.size (k0_off15_inb k)).toLoadRect (arg9.view.writes (Elt Ideal) f9 (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1)) := by
  have e : trip2.sl.v155 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 k acc f9 f11 = k0_pay27 (F := Ideal) (k0_pay12 acc) (k0_pay13 (arg3.view.readAt (Elt Ideal) (Rect.unit (s := S1x1x1x8192) (k0_off4 k) S1x1x1x512.size (k0_off4_inb k)).toLoadRect X3)) (arg9.view.readAt (Elt Ideal) (Rect.unit (s := S8192x512) (k0_off15 k) S512x512.size (k0_off15_inb k)).toLoadRect (arg9.view.writes (Elt Ideal) f9 ((S4 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1 ++ (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1))) := by
    rfl
  rw [e, S4_eq]
  rfl

/-- and the sum of its weights; -/
theorem trip2_l : trip2.sl.v158 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 k acc f9 f11 = k0_pay28 (F := Ideal) (k0_pay12 acc) (k0_pay13 (arg3.view.readAt (Elt Ideal) (Rect.unit (s := S1x1x1x8192) (k0_off4 k) S1x1x1x512.size (k0_off4_inb k)).toLoadRect X3)) (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).1.2 (arg9.view.readAt (Elt Ideal) (Rect.unit (s := S8192x512) (k0_off15 k) S512x512.size (k0_off15_inb k)).toLoadRect (arg9.view.writes (Elt Ideal) f9 (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1)) := by
  have e : trip2.sl.v158 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 k acc f9 f11 = k0_pay28 (F := Ideal) (k0_pay12 acc) (k0_pay13 (arg3.view.readAt (Elt Ideal) (Rect.unit (s := S1x1x1x8192) (k0_off4 k) S1x1x1x512.size (k0_off4_inb k)).toLoadRect X3)) (S4 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).1.2 (arg9.view.readAt (Elt Ideal) (Rect.unit (s := S8192x512) (k0_off15 k) S512x512.size (k0_off15_inb k)).toLoadRect (arg9.view.writes (Elt Ideal) f9 ((S4 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1 ++ (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1))) := by
    rfl
  rw [e, S4_eq]
  rfl

/-- the output block, -/
theorem trip2_o : (trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).2.1 acc f8 f9 f10 f11 f12 = arg8.view.writes (Elt Ideal) f8 [⟨Rect.unit (s := S1x1x8192x128) (k0_off22 k) S1x1x512x128.size (k0_off22_inb k),
    k0_pay44 (F := Ideal) v2 (k0_pay25 (arg12.view.readAt (Elt Ideal) (Rect.unit (s := S128x512) ![0, 0] S128x512.size inb_S128x512_S128x512_0_0).toLoadRect (arg12.view.writes (Elt Ideal) (arg12.view.writes (Elt Ideal) arg12.view.junk [⟨Rect.unit ![0, 0] S128x512.size inb_S128x512_S128x512_0_0, k0_pay15 (F := Ideal)⟩]) (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.2)) (arg10.view.readAt (Elt Ideal) (Rect.unit (s := S512x512) ![0, 0] S512x512.size inb_S512x512_S512x512_0_0).toLoadRect (arg10.view.writes (Elt Ideal) (arg10.view.writes (Elt Ideal) arg10.view.junk [⟨Rect.unit ![0, 0] S512x512.size inb_S512x512_S512x512_0_0, k0_pay16 (F := Ideal)⟩]) (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.1)) (arg6.view.readAt (Elt Ideal) (Rect.unit (s := S1x1x128x8192) (k0_off14 k) S1x1x128x512.size (k0_off14_inb k)).toLoadRect X6)) (k0_pay27 (k0_pay12 acc) (k0_pay13 (arg3.view.readAt (Elt Ideal) (Rect.unit (s := S1x1x1x8192) (k0_off4 k) S1x1x1x512.size (k0_off4_inb k)).toLoadRect X3)) (arg9.view.readAt (Elt Ideal) (Rect.unit (s := S8192x512) (k0_off15 k) S512x512.size (k0_off15_inb k)).toLoadRect (arg9.view.writes (Elt Ideal) f9 (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1))) (k0_pay28 (k0_pay12 acc) (k0_pay13 (arg3.view.readAt (Elt Ideal) (Rect.unit (s := S1x1x1x8192) (k0_off4 k) S1x1x1x512.size (k0_off4_inb k)).toLoadRect X3)) (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).1.2 (arg9.view.readAt (Elt Ideal) (Rect.unit (s := S8192x512) (k0_off15 k) S512x512.size (k0_off15_inb k)).toLoadRect (arg9.view.writes (Elt Ideal) f9 (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1))) (arg6.view.readAt (Elt Ideal) (Rect.unit (s := S1x1x128x8192) (k0_off21 k) S1x1x128x512.size (k0_off21_inb k)).toLoadRect X6)⟩] := by
  have e : (trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).2.1 acc f8 f9 f10 f11 f12 = arg8.view.writes (Elt Ideal) f8 [⟨Rect.unit (s := S1x1x8192x128) (k0_off22 k) S1x1x512x128.size (k0_off22_inb k),
    k0_pay44 (F := Ideal) v2 (trip2.sl.v145 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 k acc f9 f11) (trip2.sl.v155 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 k acc f9 f11) (trip2.sl.v158 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 k acc f9 f11) (arg6.view.readAt (Elt Ideal) (Rect.unit (s := S1x1x128x8192) (k0_off21 k) S1x1x128x512.size (k0_off21_inb k)).toLoadRect X6)⟩] := by
    unfold trip2
    dsimp only
  rw [e, trip2_a, trip2_p, trip2_l]

set_option maxHeartbeats 1000000 in
/-- the scores, -/
theorem trip2_t : (trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).2.2.1 acc f8 f9 f10 f11 f12 = arg9.view.writes (Elt Ideal) f9 (⟨Rect.unit (s := S8192x512) (k0_off20 k) S512x512.size (k0_off20_inb k), k0_pay33 (F := Ideal) (arg4.view.readAt (Elt Ideal) (Rect.unit (s := S1x1x8192x256) (k0_off18 k) S1x1x512x256.size (k0_off18_inb k)).toLoadRect X4) (arg11.view.readAt (Elt Ideal) (Rect.unit (s := S256x512) ![0, 0] S256x512.size inb_S256x512_S256x512_0_0).toLoadRect (W11 arg2 arg11 X2 f11 k)) (arg13.view.readAt (Elt Ideal) (Rect.unit (s := S8192x128) (k0_off19 k) S512x128.size (k0_off19_inb k)).toLoadRect X13)⟩ :: ⟨Rect.unit (s := S8192x512) (k0_off15 k) S512x512.size (k0_off15_inb k), k0_pay30 (F := Ideal) (k0_pay29 (arg4.view.readAt (Elt Ideal) (Rect.unit (s := S1x1x8192x256) (k0_off16 k) S1x1x512x256.size (k0_off16_inb k)).toLoadRect X4) (arg11.view.readAt (Elt Ideal) (Rect.unit (s := S256x512) ![0, 0] S256x512.size inb_S256x512_S256x512_0_0).toLoadRect (W11 arg2 arg11 X2 f11 k)) (arg13.view.readAt (Elt Ideal) (Rect.unit (s := S8192x128) (k0_off17 k) S512x128.size (k0_off17_inb k)).toLoadRect X13))⟩ :: (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1) := by
  have e : (trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).2.2.1 acc f8 f9 f10 f11 f12 = arg9.view.writes (Elt Ideal) f9 (⟨Rect.unit (s := S8192x512) (k0_off20 k) S512x512.size (k0_off20_inb k), k0_pay33 (F := Ideal) (arg4.view.readAt (Elt Ideal) (Rect.unit (s := S1x1x8192x256) (k0_off18 k) S1x1x512x256.size (k0_off18_inb k)).toLoadRect X4) (arg11.view.readAt (Elt Ideal) (Rect.unit (s := S256x512) ![0, 0] S256x512.size inb_S256x512_S256x512_0_0).toLoadRect (W11 arg2 arg11 X2 f11 k)) (arg13.view.readAt (Elt Ideal) (Rect.unit (s := S8192x128) (k0_off19 k) S512x128.size (k0_off19_inb k)).toLoadRect X13)⟩ :: ⟨Rect.unit (s := S8192x512) (k0_off15 k) S512x512.size (k0_off15_inb k), k0_pay30 (F := Ideal) (k0_pay29 (arg4.view.readAt (Elt Ideal) (Rect.unit (s := S1x1x8192x256) (k0_off16 k) S1x1x512x256.size (k0_off16_inb k)).toLoadRect X4) (arg11.view.readAt (Elt Ideal) (Rect.unit (s := S256x512) ![0, 0] S256x512.size inb_S256x512_S256x512_0_0).toLoadRect (W11 arg2 arg11 X2 f11 k)) (arg13.view.readAt (Elt Ideal) (Rect.unit (s := S8192x128) (k0_off17 k) S512x128.size (k0_off17_inb k)).toLoadRect X13))⟩ :: ((S4 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1 ++ (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1)) := by
    unfold trip2; rfl
  rw [e, S4_eq]
  rfl

/-- and the queries. -/
theorem trip2_q : (trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).2.2.2.2.1 acc f8 f9 f10 f11 f12 = (W11 arg2 arg11 X2 f11 k) := by
  unfold trip2; rfl

end

/-- A store of a block of 512 rows of scores in front of other stores, read at a row of the block, -/
theorem stT_hit' (A : Memref sig .tc .vmem S8192x512 .f32) (f : BufTy.Contents (Elt Ideal) A.view.ty) {off : Fin S8192x512.rank → ℕ} {o : ℕ}
    (hoff : off = ![o, 0]) (inb : ∀ a, off a + S512x512.size a ≤ S8192x512.size a) (w : Vec Ideal S512x512 .f32) (L)
    (r : Fin 8192) (c : Fin 512) (x : Fin 512) (hx : r.val = o + x.val) :
    A.view.read (Elt Ideal) (A.view.writes (Elt Ideal) f (⟨Rect.unit off S512x512.size inb, w⟩ :: L)) (ix2 r c) = w (ix2 x c) := by
  refine View.read_writes_cons_unit_of_mem A.view f inb w L (ix2 r c) (ix2 x c) hoff ?_
  intro a
  fin_cases a
  · exact hx
  · exact (Nat.zero_add _).symm

/-- and at a row outside it. -/
theorem stT_miss' (A : Memref sig .tc .vmem S8192x512 .f32) (f : BufTy.Contents (Elt Ideal) A.view.ty) {off : Fin S8192x512.rank → ℕ} {o : ℕ}
    (hoff : off = ![o, 0]) (inb : ∀ a, off a + S512x512.size a ≤ S8192x512.size a) (w : Vec Ideal S512x512 .f32) (L)
    (r : Fin 8192) (c : Fin 512) (hx : r.val < o ∨ o + 512 ≤ r.val) :
    A.view.read (Elt Ideal) (A.view.writes (Elt Ideal) f (⟨Rect.unit off S512x512.size inb, w⟩ :: L)) (ix2 r c)
      = A.view.read (Elt Ideal) (A.view.writes (Elt Ideal) f L) (ix2 r c) :=
  View.read_writes_cons_unit_of_not_mem A.view f inb w L (ix2 r c) hoff (0 : Fin 2) hx

/-- A store of a block of 512 rows of the output, read at a row of the block, -/
theorem stO_hit (A : Memref sig .tc .vmem S1x1x8192x128 .bf16) (f : BufTy.Contents (Elt Ideal) A.view.ty) {off : Fin S1x1x8192x128.rank → ℕ} {o : ℕ}
    (hoff : off = ![0, 0, o, 0]) (inb : ∀ a, off a + S1x1x512x128.size a ≤ S1x1x8192x128.size a) (w : Vec Ideal S1x1x512x128 .bf16) (L)
    (r : Fin 8192) (d : Fin 128) (x : Fin 512) (hx : r.val = o + x.val) :
    A.view.read (Elt Ideal) (A.view.writes (Elt Ideal) f (⟨Rect.unit off S1x1x512x128.size inb, w⟩ :: L)) (ix4 0 0 r d) = w (ix4 0 0 x d) := by
  refine View.read_writes_cons_unit_of_mem A.view f inb w L (ix4 0 0 r d) (ix4 0 0 x d) hoff ?_
  intro a
  fin_cases a
  · rfl
  · rfl
  · exact hx
  · exact (Nat.zero_add _).symm

/-- and at a row outside it. -/
theorem stO_miss (A : Memref sig .tc .vmem S1x1x8192x128 .bf16) (f : BufTy.Contents (Elt Ideal) A.view.ty) {off : Fin S1x1x8192x128.rank → ℕ} {o : ℕ}
    (hoff : off = ![0, 0, o, 0]) (inb : ∀ a, off a + S1x1x512x128.size a ≤ S1x1x8192x128.size a) (w : Vec Ideal S1x1x512x128 .bf16) (L)
    (r : Fin 8192) (d : Fin 128) (hx : r.val < o ∨ o + 512 ≤ r.val) :
    A.view.read (Elt Ideal) (A.view.writes (Elt Ideal) f (⟨Rect.unit off S1x1x512x128.size inb, w⟩ :: L)) (ix4 0 0 r d)
      = A.view.read (Elt Ideal) (A.view.writes (Elt Ideal) f L) (ix4 0 0 r d) :=
  View.read_writes_cons_unit_of_not_mem A.view f inb w L (ix4 0 0 r d) hoff (2 : Fin 4) hx

end Cert.KernelIdeal.Value

end
-- ==== Proof.OuterRun.lean ====
/- The outer loop of the attention body: what it has done after `n` trips. -/
module

public import Idealize.ShloMosaic.Lib.WritesUnit
public import proofs.«01_k».proof.Proof.Outer

@[expose] public section

set_option maxRecDepth 16384

noncomputable section

namespace Cert.KernelIdeal.Value

open Cert.KernelIdeal Cert.KernelIdeal.Gen Cert.KernelIdeal.Hand
open Idealize.ShloMosaic Idealize.ShloMosaic.Pointwise Idealize.ShloMosaic.TcCoe

section
variable (𝒱 : Variants) (dv : Dev nD) (bd : Option 𝒱.V) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole)
  (h : Head) (X2 : BufTy.Contents (Elt Ideal) arg2.view.ty) (X3 : BufTy.Contents (Elt Ideal) arg3.view.ty) (X4 : BufTy.Contents (Elt Ideal) arg4.view.ty) (X6 : BufTy.Contents (Elt Ideal) arg6.view.ty) (X13 : BufTy.Contents (Elt Ideal) arg13.view.ty) (H : Holds arg2 arg3 arg4 arg6 h X2 X3 X4 X6)
  (v2 : Elt Ideal .f32) (v8 v9 : FVec Ideal S8x512 .f32) (v27 : FVec Ideal S512x512 .f32) (v30 : IVec S512x512 1)

/-- The outer loop after `n` trips: the carried maximum, the output's finished rows, the masked scores of the queries of
block `n`, and those queries. -/
structure Inv2 (n : ℕ) (s : FVec Ideal S8x512 .f32 × BufTy.Contents (Elt Ideal) arg8.view.ty × BufTy.Contents (Elt Ideal) arg9.view.ty × BufTy.Contents (Elt Ideal) arg10.view.ty × BufTy.Contents (Elt Ideal) arg11.view.ty × BufTy.Contents (Elt Ideal) arg12.view.ty) : Prop where
  m : ∀ (g : Fin 8) (c : Fin 512), s.1 (ix2 g c) = h.mg (n + 1) g (512 * n + c.val)
  o : ∀ (r : Fin 8192) (d : Fin 128), r.val < 512 * n → arg8.view.read (Elt Ideal) s.2.1 (ix4 0 0 r d) = h.out (r.val / 512) r.val d
  t : ∀ (r : Fin 8192) (c : Fin 512), r.val < 512 * (n + 1) → arg9.view.read (Elt Ideal) s.2.2.1 (ix2 r c) = h.Tm r.val (512 * n + c.val)
  q : ∀ (d : Fin 256) (c : Fin 512), arg11.view.read (Elt Ideal) s.2.2.2.2.1 (ix2 d c) = h.Q d (512 * n + c.val)

include H in
/-- The queries after the store of the next block of them. -/
theorem W11_at (f11 : BufTy.Contents (Elt Ideal) arg11.view.ty) (k : Fin k0_t2_loop.trips) (n : ℕ) (hq : ∀ (d : Fin 256) (c : Fin 512), arg11.view.read (Elt Ideal) f11 (ix2 d c) = h.Q d (n + c.val))
    (d : Fin 256) (c : Fin 512) : arg11.view.read (Elt Ideal) (W11 arg2 arg11 X2 f11 k) (ix2 d c) = h.Q d (512 * k.val + 512 + c.val) := by
  have hi := trips2_lt k
  unfold W11
  by_cases hd : d.val < 192
  · refine (View.read_writes_cons_unit_of_mem arg11.view _ _ _ [] (ix2 d c) (ix2 (⟨d.val, hd⟩ : Fin 192) c) rfl ?_).trans ?_
    · intro a
      fin_cases a
      · exact (Nat.zero_add _).symm
      · exact (Nat.zero_add _).symm
    · rw [pay14_at, ldQ arg2 X2 (k0_off5_eq k) _ ⟨d.val, hd⟩ c (by omega), H.q]
  · refine (View.read_writes_cons_unit_of_not_mem arg11.view _ _ _ [] (ix2 d c) rfl (0 : Fin 2) (Or.inr (show 0 + 192 ≤ d.val by omega))).trans ?_
    show arg11.view.read (Elt Ideal) f11 (ix2 d c) = _
    rw [hq, H.q0 d _ (by omega), H.q0 d _ (by omega)]

set_option maxHeartbeats 2000000 in
include H in
/-- ONE OUTER TRIP. -/
theorem step2 (hw : v2 = h.w) (h8 : ∀ (g : Fin 8) (c : Fin 512), v8 (ix2 g c) = ⊥) (h9 : ∀ (g : Fin 8) (c : Fin 512), v9 (ix2 g c) = 0)
    (H13 : ∀ (r : Fin 8192) (l : Fin 128), arg13.view.read (Elt Ideal) X13 (ix2 r l) = h.ks r.val)
    (k : Fin k0_t2_loop.trips) (s : FVec Ideal S8x512 .f32 × BufTy.Contents (Elt Ideal) arg8.view.ty × BufTy.Contents (Elt Ideal) arg9.view.ty × BufTy.Contents (Elt Ideal) arg10.view.ty × BufTy.Contents (Elt Ideal) arg11.view.ty × BufTy.Contents (Elt Ideal) arg12.view.ty) (I : Inv2 arg8 arg9 arg10 arg11 arg12 h k.val s) :
    Inv2 arg8 arg9 arg10 arg11 arg12 h (k.val + 1) (next2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k s) := by
  obtain ⟨acc, f8, f9, f10, f11, f12⟩ := s
  obtain ⟨Im, Io, It, Iq⟩ := I
  dsimp only at Im Io It Iq
  have hi := trips2_lt k
  have hq : ∀ (d : Fin 256) (c : Fin 512), arg11.view.read (Elt Ideal) (W11 arg2 arg11 X2 f11 k) (ix2 d c) = h.Q d (512 * k.val + 512 + c.val) :=
    W11_at arg2 arg3 arg4 arg6 arg11 h X2 X3 X4 X6 H f11 k _ Iq
  have h107 : ∀ c : Fin 512, (arg3.view.readAt (Elt Ideal) (Rect.unit (s := S1x1x1x8192) (k0_off4 k) S1x1x1x512.size (k0_off4_inb k)).toLoadRect X3) (ix4 0 0 0 c) = h.qs (512 * k.val + c.val) := fun c => by
    rw [ldR arg3 X3 (k0_off4_eq k) _ c (by omega), H.qs]
  have h15 : ∀ c : Fin 512, (Finset.univ.sup fun g : Fin 8 => acc (ix2 g c)) = h.M k.val (512 * k.val + c.val) := fun c =>
    Finset.sup_congr rfl fun g _ => Im g c
  have I3 : Inv3 arg9 arg10 arg12 h k.val k.val (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).1 (arg9.view.writes (Elt Ideal) f9 (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1) (arg10.view.writes (Elt Ideal) (arg10.view.writes (Elt Ideal) arg10.view.junk [⟨Rect.unit ![0, 0] S512x512.size inb_S512x512_S512x512_0_0, k0_pay16 (F := Ideal)⟩]) (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.1) (arg12.view.writes (Elt Ideal) (arg12.view.writes (Elt Ideal) arg12.view.junk [⟨Rect.unit ![0, 0] S128x512.size inb_S128x512_S128x512_0_0, k0_pay15 (F := Ideal)⟩]) (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.2.2) := by
    have := run3 𝒱 dv bd i arg2 harg2 arg3 harg3 arg4 harg4 arg5 harg5 arg6 harg6 arg7 harg7 arg8 harg8 arg9 harg9 arg10 harg10 arg11 harg11 arg12 harg12 arg13 harg13 h X2 X3 X4 X6 H v8 v9 (0#32) (1#32) k acc (arg3.view.readAt (Elt Ideal) (Rect.unit (s := S1x1x1x8192) (k0_off4 k) S1x1x1x512.size (k0_off4_inb k)).toLoadRect X3) (W11 arg2 arg11 X2 f11 k) X13 hq H13 h15 h107 f9 (arg10.view.writes (Elt Ideal) arg10.view.junk [⟨Rect.unit ![0, 0] S512x512.size inb_S512x512_S512x512_0_0, k0_pay16 (F := Ideal)⟩]) (arg12.view.writes (Elt Ideal) arg12.view.junk [⟨Rect.unit ![0, 0] S128x512.size inb_S128x512_S128x512_0_0, k0_pay15 (F := Ideal)⟩]) (v8, v9)
      ⟨fun g c => (h8 g c).trans (h.mg_zero g _).symm, fun g c => (h9 g c).trans (h.lg_zero _ g _).symm,
        fun r c hr => (It r c hr).trans (if_neg (by omega)).symm,
        fun r c => by rw [stP, pay16_at, if_pos rfl], fun d c => by rw [stA, pay15_at]; exact (h.acc_zero _ d _).symm⟩
      (k0_t3_loop k).trips le_rfl
    have e := trips3 k
    unfold S3
    rw [e] at this ⊢
    exact this
  -- the last weights of this block of queries
  have hP : ∀ r c : Fin 512, Ideal.exp2 (((arg9.view.readAt (Elt Ideal) (Rect.unit (s := S8192x512) (k0_off15 k) S512x512.size (k0_off15_inb k)).toLoadRect (arg9.view.writes (Elt Ideal) f9 (S3 𝒱 dv bd i arg2 harg2 arg3 harg3 arg4 harg4 arg5 harg5 arg6 harg6 arg7 harg7 arg8 harg8 arg9 harg9 arg10 harg10 arg11 harg11 arg12 harg12 arg13 harg13 v8 v9 X2 X3 X4 X6 X13 acc f9 f11 k).2.1)) (ix2 r c) - (k0_pay12 (F := Ideal) acc) (ix2 0 c)) * (k0_pay13 (F := Ideal) (arg3.view.readAt (Elt Ideal) (Rect.unit (s := S1x1x1x8192) (k0_off4 k) S1x1x1x512.size (k0_off4_inb k)).toLoadRect X3)) (ix2 0 c))
      = h.P k.val (512 * k.val + r.val) (512 * k.val + c.val) := fun r c => by
    rw [ldT arg9 _ (k0_off15_eq k) _ r c (by omega), I3.t _ _ (show 512 * k.val + r.val < 512 * (k.val + 1) by omega),
      if_neg (show ¬ 512 * k.val + r.val < 512 * k.val by omega), pay12_at, pay13_at, h15, h107]
    rfl
  have hb17 : ∀ (r : Fin 512) (l : Fin 128), (arg13.view.readAt (Elt Ideal) (Rect.unit (s := S8192x128) (k0_off17 k) S512x128.size (k0_off17_inb k)).toLoadRect X13) (ix2 r l) = h.ks (512 * k.val + r.val) := fun r l => by
    rw [ldB arg13 X13 (k0_off17_eq k) _ r l (by omega), H13]
  have hb19 : ∀ (r : Fin 512) (l : Fin 128), (arg13.view.readAt (Elt Ideal) (Rect.unit (s := S8192x128) (k0_off19 k) S512x128.size (k0_off19_inb k)).toLoadRect X13) (ix2 r l) = h.ks (512 * k.val + 512 + r.val) := fun r l => by
    rw [ldB arg13 X13 (k0_off19_eq k) _ r l (by omega), H13]
  -- the next queries' scores against the block before the last, and against the last
  have hs16 : ∀ r c : Fin 512, k0_pay29 (F := Ideal) (arg4.view.readAt (Elt Ideal) (Rect.unit (s := S1x1x8192x256) (k0_off16 k) S1x1x512x256.size (k0_off16_inb k)).toLoadRect X4) (arg11.view.readAt (Elt Ideal) (Rect.unit (s := S256x512) ![0, 0] S256x512.size inb_S256x512_S256x512_0_0).toLoadRect (W11 arg2 arg11 X2 f11 k)) (arg13.view.readAt (Elt Ideal) (Rect.unit (s := S8192x128) (k0_off17 k) S512x128.size (k0_off17_inb k)).toLoadRect X13) (ix2 r c) = h.Tm (512 * k.val + r.val) (512 * (k.val + 1) + c.val) := fun r c => by
    rw [pay29_at _ _ _ (fun r => h.ks (512 * k.val + r.val)) hb17, h.Tm_of_le (by omega),
      score_at arg2 arg3 arg4 arg6 arg11 h X2 X3 X4 X6 H _ (fun c => 512 * k.val + 512 + c.val) hq (k0_off16_eq k) (by omega) _ _ r c]
    rfl
  have hs18 : ∀ r c : Fin 512, k0_pay31 (F := Ideal) (arg4.view.readAt (Elt Ideal) (Rect.unit (s := S1x1x8192x256) (k0_off18 k) S1x1x512x256.size (k0_off18_inb k)).toLoadRect X4) (arg11.view.readAt (Elt Ideal) (Rect.unit (s := S256x512) ![0, 0] S256x512.size inb_S256x512_S256x512_0_0).toLoadRect (W11 arg2 arg11 X2 f11 k)) (arg13.view.readAt (Elt Ideal) (Rect.unit (s := S8192x128) (k0_off19 k) S512x128.size (k0_off19_inb k)).toLoadRect X13) (ix2 r c) = h.Tm (512 * (k.val + 1) + r.val) (512 * (k.val + 1) + c.val) := fun r c => by
    rw [pay31_at _ _ _ (fun r => h.ks (512 * k.val + 512 + r.val)) hb19,
      score_at arg2 arg3 arg4 arg6 arg11 h X2 X3 X4 X6 H _ (fun c => 512 * k.val + 512 + c.val) hq (k0_off18_eq k) (by omega) _ _ r c]
    exact if_congr (by omega) rfl rfl
  refine ⟨fun g c => ?_, fun r d hr => ?_, fun r c hr => ?_, fun d c => ?_⟩
  · show (trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).1 acc f8 f9 f10 f11 f12 (ix2 g c) = _
    rw [trip2_m, pay32_at, I3.m, h.mg_succ, h.mg_succ]
    congr 1
    · congr 1
      exact Finset.sup_congr rfl fun a _ => hs16 _ _
    · exact Finset.sup_congr rfl fun a _ => hs18 _ _
  · show arg8.view.read (Elt Ideal) ((trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).2.1 acc f8 f9 f10 f11 f12) (ix4 0 0 r d) = _
    rw [trip2_o]
    by_cases h1 : r.val < 512 * k.val
    · rw [stO_miss arg8 f8 (k0_off22_eq k) _ _ [] r d (Or.inl h1)]
      exact Io r d h1
    · rw [stO_hit arg8 f8 (k0_off22_eq k) _ _ [] r d ⟨r.val - 512 * k.val, by omega⟩ (show r.val = 512 * k.val + (r.val - 512 * k.val) by omega), pay44_at,
        show r.val / 512 = k.val by omega]
      unfold Head.out
      have er : 512 * k.val + (r.val - 512 * k.val) = r.val := by omega
      rw [h.acc_succ]
      refine congrArg₂ Ideal.div (congrArg₂ (· * ·) (congrArg₂ (· + ·) ?_ ?_) hw) ?_
      · rw [pay25_at, ldA arg12 _ rfl _ d _, I3.a]
        refine (acc_step arg6 arg10 h X6 H.v k.val k.val (by omega) _ (fun c => 512 * k.val + c.val) I3.p (off14_eq k) _ _ d _).trans ?_
        rw [er]
      · refine Finset.sum_congr rfl fun x _ => ?_
        rw [ldV arg6 X6 (k0_off21_eq k) _ d x (by omega), H.v, pay27_at, hP, er]
      · refine Finset.sum_congr rfl fun g _ => ?_
        rw [pay28_at, I3.l, h.lg_succ, er]
        congr 1
        refine Finset.sum_congr rfl fun a _ => ?_
        rw [hP, er]
  · show arg9.view.read (Elt Ideal) ((trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).2.2.1 acc f8 f9 f10 f11 f12) (ix2 r c) = _
    rw [trip2_t]
    by_cases h1 : r.val < 512 * k.val
    · rw [stT_miss' arg9 _ (k0_off20_eq k) _ _ _ r c (Or.inl (by omega)), stT_miss' arg9 _ (k0_off15_eq k) _ _ _ r c (Or.inl h1),
        I3.t r c (by omega), if_pos h1, h.Tm_of_le (by omega)]
      rfl
    · by_cases h2 : r.val < 512 * (k.val + 1)
      · rw [stT_miss' arg9 _ (k0_off20_eq k) _ _ _ r c (Or.inl (by omega)),
          stT_hit' arg9 _ (k0_off15_eq k) _ _ _ r c ⟨r.val - 512 * k.val, by omega⟩ (show r.val = 512 * k.val + (r.val - 512 * k.val) by omega), pay30_at, hs16]
        rw [show 512 * k.val + (r.val - 512 * k.val) = r.val by omega]
      · rw [stT_hit' arg9 _ (k0_off20_eq k) _ _ _ r c ⟨r.val - 512 * (k.val + 1), by omega⟩ (show r.val = 512 * k.val + 512 + (r.val - 512 * (k.val + 1)) by omega),
          pay33_at, hs18]
        rw [show 512 * (k.val + 1) + (r.val - 512 * (k.val + 1)) = r.val by omega]
  · show arg11.view.read (Elt Ideal) ((trip2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 k).2.2.2.2.1 acc f8 f9 f10 f11 f12) (ix2 d c) = _
    rw [trip2_q, hq]
    rfl

include H in
/-- The outer loop after `n` trips. -/
theorem run2 (hw : v2 = h.w) (h8 : ∀ (g : Fin 8) (c : Fin 512), v8 (ix2 g c) = ⊥) (h9 : ∀ (g : Fin 8) (c : Fin 512), v9 (ix2 g c) = 0)
    (H13 : ∀ (r : Fin 8192) (l : Fin 128), arg13.view.read (Elt Ideal) X13 (ix2 r l) = h.ks r.val)
    (g8 : BufTy.Contents (Elt Ideal) arg8.view.ty) (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (init : FVec Ideal S8x512 .f32)
    (I : Inv2 arg8 arg9 arg10 arg11 arg12 h 0 (init, g8, g9, g10, g11, g12)) (n : ℕ) (hn : n ≤ k0_t2_loop.trips) :
    Inv2 arg8 arg9 arg10 arg11 arg12 h n (st2 (F := Ideal) 𝒱 dv bd i arg2 harg2 arg3 harg3 arg4 harg4 arg5 harg5 arg6 harg6 arg7 harg7 arg8 harg8 arg9 harg9 arg10 harg10 arg11 harg11 arg12 harg12 arg13 harg13 v2 v8 v9 v27 v30 X2 X3 X4 X6 X13 g8 g9 g10 g11 g12 init n) := by
  induction n with
  | zero => exact I
  | succ n ih =>
    rw [show n + 1 = (⟨n, hn⟩ : Fin k0_t2_loop.trips).val + 1 from rfl, st2_succ]
    exact step2 𝒱 dv bd i arg2 harg2 arg3 harg3 arg4 harg4 arg5 harg5 arg6 harg6 arg7 harg7 arg8 harg8 arg9 harg9 arg10 harg10 arg11 harg11 arg12 harg12 arg13 harg13 h X2 X3 X4 X6 X13 H v2 v8 v9 v27 v30 hw h8 h9 H13 ⟨n, hn⟩ _ (ih (by omega))

end

end Cert.KernelIdeal.Value

end
-- ==== Proof.Block.lean ====
/- The attention body as a whole: at the end the output block holds the attention of the head that the operands' blocks hold,
   whatever the output block and the scratch held before. -/
module

public import Idealize.ShloMosaic.Lib.WritesUnit
public import proofs.«01_k».proof.Proof.OuterRun
public import proofs.«01_k».proof.Proof.BodyKernelIdeal

@[expose] public section

set_option maxRecDepth 16384

noncomputable section

namespace Cert.KernelIdeal.Value

open Cert.KernelIdeal Cert.KernelIdeal.Gen Cert.KernelIdeal.Hand
open Idealize.ShloMosaic Idealize.ShloMosaic.Pointwise Idealize.ShloMosaic.TcCoe

theorem trips2 : k0_t2_loop.trips = 15 := by decide +kernel

theorem off1_eq : ∀ i : grid0.Coords, k0_off1 i = ![(i 0).val, (i 1).val] := by decide +kernel

/-- The head's scale of the values. -/
def w0 (arg7 : Memref sig .tc .smem S9x8 .f32) (i : grid0.Coords) (X7 : BufTy.Contents (Elt Ideal) arg7.view.ty) : Elt Ideal .f32 :=
  arg7.view.readAt (Elt Ideal) (Rect.unit (s := S9x8) (k0_off1 i) S1x1.size (k0_off1_inb i)).toLoadRect X7 (Shape.Idx.first (Nat.lt_of_lt_of_eq Nat.one_pos numel1_S1x1.symm))

section
variable (dv : Dev nD) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)

/-- The keys' scales in columns. -/
def X13 : BufTy.Contents (Elt Ideal) arg13.view.ty := arg13.view.writes (Elt Ideal) f13 (pb_k0_t1 (F := Ideal) Variants.none dv none i arg2 harg2 arg3 harg3 arg4 harg4 arg5 harg5 arg6 harg6 arg7 harg7 arg8 harg8 arg9 harg9 arg10 harg10 arg11 harg11 arg12 harg12 arg13 harg13 X5 (Scf.trips k0_t1_loop.lb k0_t1_loop.ub k0_t1_loop.st))

/-- The first block of queries' scores against the first block of keys. -/
def R1 : FVec Ideal S512x512 .f32 := k0_pay39 (F := Ideal) (arg4.view.readAt (Elt Ideal) (Rect.unit (s := S1x1x8192x256) ![0, 0, 0, 0] S1x1x512x256.size inb_S1x1x8192x256_S1x1x512x256_0_0_0_0).toLoadRect X4) (arg11.view.readAt (Elt Ideal) (Rect.unit (s := S256x512) ![0, 0] S256x512.size inb_S256x512_S256x512_0_0).toLoadRect (arg11.view.writes (Elt Ideal) arg11.view.junk [⟨Rect.unit (s := S256x512) ![0, 0] S192x512.size inb_S256x512_S192x512_0_0, k0_pay38 (F := Ideal) (arg2.view.readAt (Elt Ideal) (Rect.unit (s := S1x1x192x8192) ![0, 0, 0, 0] S1x1x192x512.size inb_S1x1x192x8192_S1x1x192x512_0_0_0_0).toLoadRect X2)⟩, ⟨Rect.unit (s := S256x512) ![0, 0] S256x512.size inb_S256x512_S256x512_0_0, k0_pay35 (F := Ideal)⟩])) (arg13.view.readAt (Elt Ideal) (Rect.unit (s := S8192x128) ![0, 0] S512x128.size inb_S8192x128_S512x128_0_0).toLoadRect (X13 dv i arg2 harg2 arg3 harg3 arg4 harg4 arg5 harg5 arg6 harg6 arg7 harg7 arg8 harg8 arg9 harg9 arg10 harg10 arg11 harg11 arg12 harg12 arg13 harg13 X5 f13))

/-- The outer loop before trip `n`. -/
def S2n (n : ℕ) := st2 (F := Ideal) Variants.none dv none i arg2 harg2 arg3 harg3 arg4 harg4 arg5 harg5 arg6 harg6 arg7 harg7 arg8 harg8 arg9 harg9 arg10 harg10 arg11 harg11 arg12 harg12 arg13 harg13 (w0 arg7 i X7) k0_pay36 k0_pay37 (R1 dv i arg2 harg2 arg3 harg3 arg4 harg4 arg5 harg5 arg6 harg6 arg7 harg7 arg8 harg8 arg9 harg9 arg10 harg10 arg11 harg11 arg12 harg12 arg13 harg13 X2 X4 X5 f13) k0_pay40 X2 X3 X4 X6 (X13 dv i arg2 harg2 arg3 harg3 arg4 harg4 arg5 harg5 arg6 harg6 arg7 harg7 arg8 harg8 arg9 harg9 arg10 harg10 arg11 harg11 arg12 harg12 arg13 harg13 X5 f13) f8 (arg9.view.writes (Elt Ideal) f9 [⟨Rect.unit (s := S8192x512) ![0, 0] S512x512.size inb_S8192x512_S512x512_0_0, k0_pay43 (R1 dv i arg2 harg2 arg3 harg3 arg4 harg4 arg5 harg5 arg6 harg6 arg7 harg7 arg8 harg8 arg9 harg9 arg10 harg10 arg11 harg11 arg12 harg12 arg13 harg13 X2 X4 X5 f13) k0_pay40⟩]) f10 (arg11.view.writes (Elt Ideal) arg11.view.junk [⟨Rect.unit (s := S256x512) ![0, 0] S192x512.size inb_S256x512_S192x512_0_0, k0_pay38 (F := Ideal) (arg2.view.readAt (Elt Ideal) (Rect.unit (s := S1x1x192x8192) ![0, 0, 0, 0] S1x1x192x512.size inb_S1x1x192x8192_S1x1x192x512_0_0_0_0).toLoadRect X2)⟩, ⟨Rect.unit (s := S256x512) ![0, 0] S256x512.size inb_S256x512_S256x512_0_0, k0_pay35 (F := Ideal)⟩]) f12 (k0_pay42 k0_pay36 (R1 dv i arg2 harg2 arg3 harg3 arg4 harg4 arg5 harg5 arg6 harg6 arg7 harg7 arg8 harg8 arg9 harg9 arg10 harg10 arg11 harg11 arg12 harg12 arg13 harg13 X2 X4 X5 f13) k0_pay40) n

/-- The outer loop, run whole. -/
def S2 := S2n dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 (Scf.trips k0_t2_loop.lb k0_t2_loop.ub k0_t2_loop.st)

/-- The loop of the last queries, run whole. -/
def T5 := st_k0_t5 (F := Ideal) Variants.none dv none i arg2 harg2 arg3 harg3 arg4 harg4 arg5 harg5 arg6 harg6 arg7 harg7 arg8 harg8 arg9 harg9 arg10 harg10 arg11 harg11 arg12 harg12 arg13 harg13 (w0 arg7 i X7) k0_pay36 k0_pay37 (R1 dv i arg2 harg2 arg3 harg3 arg4 harg4 arg5 harg5 arg6 harg6 arg7 harg7 arg8 harg8 arg9 harg9 arg10 harg10 arg11 harg11 arg12 harg12 arg13 harg13 X2 X4 X5 f13) k0_pay40 (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1 (arg3.view.readAt (Elt Ideal) (Rect.unit (s := S1x1x1x8192) ![0, 0, 0, 7680] S1x1x1x512.size inb_S1x1x1x8192_S1x1x1x512_0_0_0_7680).toLoadRect X3) X6 (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2.1 (arg10.view.writes (Elt Ideal) arg10.view.junk [⟨Rect.unit ![0, 0] S512x512.size inb_S512x512_S512x512_0_0, k0_pay48 (F := Ideal)⟩]) (arg12.view.writes (Elt Ideal) arg12.view.junk [⟨Rect.unit ![0, 0] S128x512.size inb_S128x512_S128x512_0_0, k0_pay47 (F := Ideal)⟩]) k0_pay37 (Scf.trips k0_t5_loop.lb k0_t5_loop.ub k0_t5_loop.st)

theorem rec8 : (Nat.rec (motive := fun _ => BufTy.Contents (Elt Ideal) arg8.view.ty) f8 (fun n _ => (S2n dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 (n + 1)).2.1) (Scf.trips k0_t2_loop.lb k0_t2_loop.ub k0_t2_loop.st) : BufTy.Contents (Elt Ideal) arg8.view.ty) = (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.1 := by
  unfold S2
  exact rec_at f8 (fun n => (S2n dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 n).2.1) (by unfold S2n; rfl) (Scf.trips k0_t2_loop.lb k0_t2_loop.ub k0_t2_loop.st)

theorem rec9 : (Nat.rec (motive := fun _ => BufTy.Contents (Elt Ideal) arg9.view.ty) (arg9.view.writes (Elt Ideal) f9 [⟨Rect.unit (s := S8192x512) ![0, 0] S512x512.size inb_S8192x512_S512x512_0_0, k0_pay43 (R1 dv i arg2 harg2 arg3 harg3 arg4 harg4 arg5 harg5 arg6 harg6 arg7 harg7 arg8 harg8 arg9 harg9 arg10 harg10 arg11 harg11 arg12 harg12 arg13 harg13 X2 X4 X5 f13) k0_pay40⟩]) (fun n _ => (S2n dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 (n + 1)).2.2.1) (Scf.trips k0_t2_loop.lb k0_t2_loop.ub k0_t2_loop.st) : BufTy.Contents (Elt Ideal) arg9.view.ty) = (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2.1 := by
  unfold S2
  exact rec_at (arg9.view.writes (Elt Ideal) f9 [⟨Rect.unit (s := S8192x512) ![0, 0] S512x512.size inb_S8192x512_S512x512_0_0, k0_pay43 (R1 dv i arg2 harg2 arg3 harg3 arg4 harg4 arg5 harg5 arg6 harg6 arg7 harg7 arg8 harg8 arg9 harg9 arg10 harg10 arg11 harg11 arg12 harg12 arg13 harg13 X2 X4 X5 f13) k0_pay40⟩]) (fun n => (S2n dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 n).2.2.1) (by unfold S2n; rfl) (Scf.trips k0_t2_loop.lb k0_t2_loop.ub k0_t2_loop.st)

theorem body_H11 : bodyRun.sl.H11_2 (F := Ideal) arg2 X2 = [⟨Rect.unit (s := S256x512) ![0, 0] S192x512.size inb_S256x512_S192x512_0_0, k0_pay38 (F := Ideal) (arg2.view.readAt (Elt Ideal) (Rect.unit (s := S1x1x192x8192) ![0, 0, 0, 0] S1x1x192x512.size inb_S1x1x192x8192_S1x1x192x512_0_0_0_0).toLoadRect X2)⟩, ⟨Rect.unit (s := S256x512) ![0, 0] S256x512.size inb_S256x512_S256x512_0_0, k0_pay35 (F := Ideal)⟩] := rfl

theorem body_w : bodyRun.sl.r (F := Ideal) i arg7 X7 = (w0 arg7 i X7) := rfl

theorem body_r1 : bodyRun.sl.r_1 (F := Ideal) dv i arg2 harg2 arg3 harg3 arg4 harg4 arg5 harg5 arg6 harg6 arg7 harg7 arg8 harg8 arg9 harg9 arg10 harg10 arg11 harg11 arg12 harg12 arg13 harg13 X2 X4 X5 f13 = (R1 dv i arg2 harg2 arg3 harg3 arg4 harg4 arg5 harg5 arg6 harg6 arg7 harg7 arg8 harg8 arg9 harg9 arg10 harg10 arg11 harg11 arg12 harg12 arg13 harg13 X2 X4 X5 f13) := rfl

theorem body_r4 : bodyRun.sl.r_4 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 = (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1 := by
  unfold T5
  rw [← rec9]
  rfl

theorem body_v61 : bodyRun.sl.v61 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 = (arg12.view.readAt (Elt Ideal) (Rect.unit (s := S128x512) ![0, 0] S128x512.size inb_S128x512_S128x512_0_0).toLoadRect (arg12.view.writes (Elt Ideal) (arg12.view.writes (Elt Ideal) arg12.view.junk [⟨Rect.unit ![0, 0] S128x512.size inb_S128x512_S128x512_0_0, k0_pay47 (F := Ideal)⟩]) (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2)) := by
  unfold T5
  rw [← rec9, ← View.writes_append]
  rfl

theorem body_v63 : bodyRun.sl.v63 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 = (arg10.view.readAt (Elt Ideal) (Rect.unit (s := S512x512) ![0, 0] S512x512.size inb_S512x512_S512x512_0_0).toLoadRect (arg10.view.writes (Elt Ideal) (arg10.view.writes (Elt Ideal) arg10.view.junk [⟨Rect.unit ![0, 0] S512x512.size inb_S512x512_S512x512_0_0, k0_pay48 (F := Ideal)⟩]) (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.1)) := by
  unfold T5
  rw [← rec9, ← View.writes_append]
  rfl

theorem body_v73 : bodyRun.sl.v73 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 = (arg9.view.readAt (Elt Ideal) (Rect.unit (s := S8192x512) ![7680, 0] S512x512.size inb_S8192x512_S512x512_7680_0).toLoadRect (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2.1) := by
  rw [← rec9]
  rfl

/-- The last queries' rows. -/
theorem body_r5 : bodyRun.sl.r_5 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 = k0_pay53 (F := Ideal) (w0 arg7 i X7) (k0_pay45 (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1) (k0_pay46 (arg3.view.readAt (Elt Ideal) (Rect.unit (s := S1x1x1x8192) ![0, 0, 0, 7680] S1x1x1x512.size inb_S1x1x1x8192_S1x1x1x512_0_0_0_7680).toLoadRect X3)) (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1 (arg12.view.readAt (Elt Ideal) (Rect.unit (s := S128x512) ![0, 0] S128x512.size inb_S128x512_S128x512_0_0).toLoadRect (arg12.view.writes (Elt Ideal) (arg12.view.writes (Elt Ideal) arg12.view.junk [⟨Rect.unit ![0, 0] S128x512.size inb_S128x512_S128x512_0_0, k0_pay47 (F := Ideal)⟩]) (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2)) (arg10.view.readAt (Elt Ideal) (Rect.unit (s := S512x512) ![0, 0] S512x512.size inb_S512x512_S512x512_0_0).toLoadRect (arg10.view.writes (Elt Ideal) (arg10.view.writes (Elt Ideal) arg10.view.junk [⟨Rect.unit ![0, 0] S512x512.size inb_S512x512_S512x512_0_0, k0_pay48 (F := Ideal)⟩]) (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.1)) (arg6.view.readAt (Elt Ideal) (Rect.unit (s := S1x1x128x8192) k0_off25 S1x1x128x512.size k0_off25_inb).toLoadRect X6) (arg9.view.readAt (Elt Ideal) (Rect.unit (s := S8192x512) ![7680, 0] S512x512.size inb_S8192x512_S512x512_7680_0).toLoadRect (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2.1) (arg6.view.readAt (Elt Ideal) (Rect.unit (s := S1x1x128x8192) ![0, 0, 0, 7680] S1x1x128x512.size inb_S1x1x128x8192_S1x1x128x512_0_0_0_7680).toLoadRect X6) := by
  have e : bodyRun.sl.r_5 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 = k0_pay53 (F := Ideal) (w0 arg7 i X7) (k0_pay45 (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1) (k0_pay46 (arg3.view.readAt (Elt Ideal) (Rect.unit (s := S1x1x1x8192) ![0, 0, 0, 7680] S1x1x1x512.size inb_S1x1x1x8192_S1x1x1x512_0_0_0_7680).toLoadRect X3)) (bodyRun.sl.r_4 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13) (bodyRun.sl.v61 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13) (bodyRun.sl.v63 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13) (arg6.view.readAt (Elt Ideal) (Rect.unit (s := S1x1x128x8192) k0_off25 S1x1x128x512.size k0_off25_inb).toLoadRect X6) (bodyRun.sl.v73 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13) (arg6.view.readAt (Elt Ideal) (Rect.unit (s := S1x1x128x8192) ![0, 0, 0, 7680] S1x1x128x512.size inb_S1x1x128x8192_S1x1x128x512_0_0_0_7680).toLoadRect X6) := by
    rfl
  rw [e, body_r4, body_v61, body_v63, body_v73]

/-- What the body leaves in the output block: the rows of the outer loop's queries, and the last queries' rows. -/
theorem body_eq : (bodyRun (F := Ideal) dv i arg2 harg2 arg3 harg3 arg4 harg4 arg5 harg5 arg6 harg6 arg7 harg7 arg8 harg8 arg9 harg9 arg10 harg10 arg11 harg11 arg12 harg12 arg13 harg13).1 X2 X3 X4 X5 X6 X7 f8 f9 f10 f11 f12 f13 = arg8.view.writes (Elt Ideal) (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.1 [⟨Rect.unit (s := S1x1x8192x128) ![0, 0, 7680, 0] S1x1x512x128.size inb_S1x1x8192x128_S1x1x512x128_0_0_7680_0, k0_pay1 (F := Ideal) (k0_pay53 (F := Ideal) (w0 arg7 i X7) (k0_pay45 (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1) (k0_pay46 (arg3.view.readAt (Elt Ideal) (Rect.unit (s := S1x1x1x8192) ![0, 0, 0, 7680] S1x1x1x512.size inb_S1x1x1x8192_S1x1x1x512_0_0_0_7680).toLoadRect X3)) (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1 (arg12.view.readAt (Elt Ideal) (Rect.unit (s := S128x512) ![0, 0] S128x512.size inb_S128x512_S128x512_0_0).toLoadRect (arg12.view.writes (Elt Ideal) (arg12.view.writes (Elt Ideal) arg12.view.junk [⟨Rect.unit ![0, 0] S128x512.size inb_S128x512_S128x512_0_0, k0_pay47 (F := Ideal)⟩]) (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2)) (arg10.view.readAt (Elt Ideal) (Rect.unit (s := S512x512) ![0, 0] S512x512.size inb_S512x512_S512x512_0_0).toLoadRect (arg10.view.writes (Elt Ideal) (arg10.view.writes (Elt Ideal) arg10.view.junk [⟨Rect.unit ![0, 0] S512x512.size inb_S512x512_S512x512_0_0, k0_pay48 (F := Ideal)⟩]) (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.1)) (arg6.view.readAt (Elt Ideal) (Rect.unit (s := S1x1x128x8192) k0_off25 S1x1x128x512.size k0_off25_inb).toLoadRect X6) (arg9.view.readAt (Elt Ideal) (Rect.unit (s := S8192x512) ![7680, 0] S512x512.size inb_S8192x512_S512x512_7680_0).toLoadRect (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2.1) (arg6.view.readAt (Elt Ideal) (Rect.unit (s := S1x1x128x8192) ![0, 0, 0, 7680] S1x1x128x512.size inb_S1x1x128x8192_S1x1x128x512_0_0_0_7680).toLoadRect X6))⟩] := by
  have e : (bodyRun (F := Ideal) dv i arg2 harg2 arg3 harg3 arg4 harg4 arg5 harg5 arg6 harg6 arg7 harg7 arg8 harg8 arg9 harg9 arg10 harg10 arg11 harg11 arg12 harg12 arg13 harg13).1 X2 X3 X4 X5 X6 X7 f8 f9 f10 f11 f12 f13 = arg8.view.writes (Elt Ideal) (Nat.rec (motive := fun _ => BufTy.Contents (Elt Ideal) arg8.view.ty) f8 (fun n _ => (S2n dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13 (n + 1)).2.1) (Scf.trips k0_t2_loop.lb k0_t2_loop.ub k0_t2_loop.st))
      [⟨Rect.unit (s := S1x1x8192x128) ![0, 0, 7680, 0] S1x1x512x128.size inb_S1x1x8192x128_S1x1x512x128_0_0_7680_0, k0_pay1 (F := Ideal) (bodyRun.sl.r_5 (F := Ideal) dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13)⟩] := by
    unfold bodyRun S2n X13
    dsimp only
    rw [body_w, body_r1, body_H11]
  rw [e, rec8, body_r5]

end

end Cert.KernelIdeal.Value

end
-- ==== Proof.BlockValue.lean ====
/- What the attention body leaves in the output block, as a function of the operands' blocks alone. -/
module

public import Idealize.ShloMosaic.Lib.WritesUnit
public import proofs.«01_k».proof.Proof.Block

@[expose] public section

set_option maxRecDepth 16384

noncomputable section

namespace Cert.KernelIdeal.Value

open Cert.KernelIdeal Cert.KernelIdeal.Gen Cert.KernelIdeal.Hand
open Idealize.ShloMosaic Idealize.ShloMosaic.Pointwise Idealize.ShloMosaic.TcCoe

theorem V_cast (h : Head) (d : Fin 128) (a b : ℕ) (ha : a < 8192) (e : a = b) : h.V d (⟨a, ha⟩ : Fin 8192).val = h.V d b := by
  subst e
  rfl

section
variable (dv : Dev nD) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole)
  (h : Head) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
  (H : Holds arg2 arg3 arg4 arg6 h X2 X3 X4 X6)

set_option maxHeartbeats 1000000 in
include H in
/-- THE BODY'S VALUE: row `r` of the output block is the attention of query `r`. -/
theorem body_at (Hk : ∀ r : Fin 8192, arg5.view.read (Elt Ideal) X5 (ix4 0 0 0 r) * csc = h.ks r.val) (Hw : (w0 arg7 i X7) = h.w) (r : Fin 8192) (d : Fin 128) :
    arg8.view.read (Elt Ideal) ((bodyRun (F := Ideal) dv i arg2 harg2 arg3 harg3 arg4 harg4 arg5 harg5 arg6 harg6 arg7 harg7 arg8 harg8 arg9 harg9 arg10 harg10 arg11 harg11 arg12 harg12 arg13 harg13).1 X2 X3 X4 X5 X6 X7 f8 f9 f10 f11 f12 f13) (ix4 0 0 r d) = h.out (r.val / 512) r.val d := by
  have h13 : ∀ (r : Fin 8192) (l : Fin 128), arg13.view.read (Elt Ideal) (X13 dv i arg2 harg2 arg3 harg3 arg4 harg4 arg5 harg5 arg6 harg6 arg7 harg7 arg8 harg8 arg9 harg9 arg10 harg10 arg11 harg11 arg12 harg12 arg13 harg13 X5 f13) (ix2 r l) = h.ks r.val := fun r l => by
    unfold X13
    rw [← Hk]
    exact run1 Variants.none dv none i arg2 harg2 arg3 harg3 arg4 harg4 arg5 harg5 arg6 harg6 arg7 harg7 arg8 harg8 arg9 harg9 arg10 harg10 arg11 harg11 arg12 harg12 arg13 harg13 X5 f13 k0_t1_loop.trips le_rfl r l (by rw [trips1]; omega)
  have h11 : ∀ (d : Fin 256) (c : Fin 512), arg11.view.read (Elt Ideal) (arg11.view.writes (Elt Ideal) arg11.view.junk [⟨Rect.unit (s := S256x512) ![0, 0] S192x512.size inb_S256x512_S192x512_0_0, k0_pay38 (F := Ideal) (arg2.view.readAt (Elt Ideal) (Rect.unit (s := S1x1x192x8192) ![0, 0, 0, 0] S1x1x192x512.size inb_S1x1x192x8192_S1x1x192x512_0_0_0_0).toLoadRect X2)⟩, ⟨Rect.unit (s := S256x512) ![0, 0] S256x512.size inb_S256x512_S256x512_0_0, k0_pay35 (F := Ideal)⟩]) (ix2 d c) = h.Q d (512 * 0 + c.val) := fun d c => by
    by_cases hd : d.val < 192
    · refine (View.read_writes_cons_unit_of_mem arg11.view _ _ _ _ (ix2 d c) (ix2 (⟨d.val, hd⟩ : Fin 192) c) rfl ?_).trans ?_
      · intro a
        fin_cases a
        · exact (Nat.zero_add _).symm
        · exact (Nat.zero_add _).symm
      · rw [pay38_at, ldQ arg2 X2 (o := 0) rfl _ ⟨d.val, hd⟩ c (by omega), H.q]
    · refine (View.read_writes_cons_unit_of_not_mem arg11.view _ _ _ _ (ix2 d c) rfl (0 : Fin 2) (Or.inr (show 0 + 192 ≤ d.val by omega))).trans ?_
      refine (View.read_writes_cons_unit_of_mem arg11.view _ _ _ _ (ix2 d c) (ix2 d c) rfl ?_).trans ?_
      · intro a
        fin_cases a
        · exact (Nat.zero_add _).symm
        · exact (Nat.zero_add _).symm
      · rw [pay35_at, H.q0 d _ (by omega)]
  have hR : ∀ r c : Fin 512, (R1 dv i arg2 harg2 arg3 harg3 arg4 harg4 arg5 harg5 arg6 harg6 arg7 harg7 arg8 harg8 arg9 harg9 arg10 harg10 arg11 harg11 arg12 harg12 arg13 harg13 X2 X4 X5 f13) (ix2 r c) = h.T (512 * 0 + r.val) (512 * 0 + c.val) := fun r c => by
    unfold R1
    rw [pay39_at _ _ _ (fun r => h.ks (0 + r.val)) (fun r l => by rw [ldB arg13 _ (o := 0) rfl _ r l (by omega), h13])]
    rw [score_at arg2 arg3 arg4 arg6 arg11 h X2 X3 X4 X6 H _ (fun c => 512 * 0 + c.val) h11 (o := 0) rfl (by omega) _ _ r c]
    rfl
  have hm : ∀ r c : Fin 512, k0_pay41 (F := Ideal) (R1 dv i arg2 harg2 arg3 harg3 arg4 harg4 arg5 harg5 arg6 harg6 arg7 harg7 arg8 harg8 arg9 harg9 arg10 harg10 arg11 harg11 arg12 harg12 arg13 harg13 X2 X4 X5 f13) k0_pay40 (ix2 r c) = h.Tm (512 * 0 + r.val) (512 * 0 + c.val) := fun r c => by
    rw [pay41_at, hR]
    exact if_congr (by omega) rfl rfl
  have I2 : Inv2 arg8 arg9 arg10 arg11 arg12 h 15 (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13) := by
    have := run2 Variants.none dv none i arg2 harg2 arg3 harg3 arg4 harg4 arg5 harg5 arg6 harg6 arg7 harg7 arg8 harg8 arg9 harg9 arg10 harg10 arg11 harg11 arg12 harg12 arg13 harg13 h X2 X3 X4 X6 (X13 dv i arg2 harg2 arg3 harg3 arg4 harg4 arg5 harg5 arg6 harg6 arg7 harg7 arg8 harg8 arg9 harg9 arg10 harg10 arg11 harg11 arg12 harg12 arg13 harg13 X5 f13) H (w0 arg7 i X7) k0_pay36 k0_pay37 (R1 dv i arg2 harg2 arg3 harg3 arg4 harg4 arg5 harg5 arg6 harg6 arg7 harg7 arg8 harg8 arg9 harg9 arg10 harg10 arg11 harg11 arg12 harg12 arg13 harg13 X2 X4 X5 f13) k0_pay40 Hw pay36_at pay37_at h13 f8 (arg9.view.writes (Elt Ideal) f9 [⟨Rect.unit (s := S8192x512) ![0, 0] S512x512.size inb_S8192x512_S512x512_0_0, k0_pay43 (R1 dv i arg2 harg2 arg3 harg3 arg4 harg4 arg5 harg5 arg6 harg6 arg7 harg7 arg8 harg8 arg9 harg9 arg10 harg10 arg11 harg11 arg12 harg12 arg13 harg13 X2 X4 X5 f13) k0_pay40⟩]) f10 (arg11.view.writes (Elt Ideal) arg11.view.junk [⟨Rect.unit (s := S256x512) ![0, 0] S192x512.size inb_S256x512_S192x512_0_0, k0_pay38 (F := Ideal) (arg2.view.readAt (Elt Ideal) (Rect.unit (s := S1x1x192x8192) ![0, 0, 0, 0] S1x1x192x512.size inb_S1x1x192x8192_S1x1x192x512_0_0_0_0).toLoadRect X2)⟩, ⟨Rect.unit (s := S256x512) ![0, 0] S256x512.size inb_S256x512_S256x512_0_0, k0_pay35 (F := Ideal)⟩]) f12 (k0_pay42 k0_pay36 (R1 dv i arg2 harg2 arg3 harg3 arg4 harg4 arg5 harg5 arg6 harg6 arg7 harg7 arg8 harg8 arg9 harg9 arg10 harg10 arg11 harg11 arg12 harg12 arg13 harg13 X2 X4 X5 f13) k0_pay40)
      ⟨fun g c => by
          show k0_pay42 (F := Ideal) k0_pay36 (R1 dv i arg2 harg2 arg3 harg3 arg4 harg4 arg5 harg5 arg6 harg6 arg7 harg7 arg8 harg8 arg9 harg9 arg10 harg10 arg11 harg11 arg12 harg12 arg13 harg13 X2 X4 X5 f13) k0_pay40 (ix2 g c) = _
          rw [pay42_at, h.mg_succ, h.mg_zero, pay36_at]
          exact congrArg₂ max rfl (Finset.sup_congr rfl fun a _ => hm _ _),
        fun r d hr => absurd hr (by omega),
        fun r c hr => by
          refine (stT_hit arg9 f9 (o := 0) rfl _ _ r c ⟨r.val, by omega⟩ (Nat.zero_add _).symm).trans ?_
          rw [pay43_at, hm]
          exact congrArg₂ h.Tm (Nat.zero_add _) rfl,
        h11⟩ k0_t2_loop.trips le_rfl
    unfold S2 S2n
    rw [trips2] at this
    rw [show Scf.trips k0_t2_loop.lb k0_t2_loop.ub k0_t2_loop.st = 15 from trips2]
    exact this
  have h47 : ∀ c : Fin 512, (arg3.view.readAt (Elt Ideal) (Rect.unit (s := S1x1x1x8192) ![0, 0, 0, 7680] S1x1x1x512.size inb_S1x1x1x8192_S1x1x1x512_0_0_0_7680).toLoadRect X3) (ix4 0 0 0 c) = h.qs (512 * 15 + c.val) := fun c => by
    rw [ldR arg3 X3 (o := 7680) rfl _ c (by omega), H.qs]
  have h42 : ∀ c : Fin 512, (Finset.univ.sup fun g : Fin 8 => (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1 (ix2 g c)) = h.M 15 (512 * 15 + c.val) := fun c =>
    Finset.sup_congr rfl fun g _ => I2.m g c
  have h9 : ∀ (r : Fin 8192) (c : Fin 512), arg9.view.read (Elt Ideal) (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2.1 (ix2 r c) = h.Tm r.val (512 * 15 + c.val) := fun r c => I2.t r c (by omega)
  have I5 : Inv5 arg10 arg12 h 15 15 (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1 (arg10.view.writes (Elt Ideal) (arg10.view.writes (Elt Ideal) arg10.view.junk [⟨Rect.unit ![0, 0] S512x512.size inb_S512x512_S512x512_0_0, k0_pay48 (F := Ideal)⟩]) (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.1) (arg12.view.writes (Elt Ideal) (arg12.view.writes (Elt Ideal) arg12.view.junk [⟨Rect.unit ![0, 0] S128x512.size inb_S128x512_S128x512_0_0, k0_pay47 (F := Ideal)⟩]) (T5 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2) := by
    have := run5 Variants.none dv none i arg2 harg2 arg3 harg3 arg4 harg4 arg5 harg5 arg6 harg6 arg7 harg7 arg8 harg8 arg9 harg9 arg10 harg10 arg11 harg11 arg12 harg12 arg13 harg13 h X2 X3 X4 X6 H (w0 arg7 i X7) k0_pay36 k0_pay37 (R1 dv i arg2 harg2 arg3 harg3 arg4 harg4 arg5 harg5 arg6 harg6 arg7 harg7 arg8 harg8 arg9 harg9 arg10 harg10 arg11 harg11 arg12 harg12 arg13 harg13 X2 X4 X5 f13) k0_pay40 (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1 (arg3.view.readAt (Elt Ideal) (Rect.unit (s := S1x1x1x8192) ![0, 0, 0, 7680] S1x1x1x512.size inb_S1x1x1x8192_S1x1x1x512_0_0_0_7680).toLoadRect X3) (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2.1 h9 h42 h47 (arg10.view.writes (Elt Ideal) arg10.view.junk [⟨Rect.unit ![0, 0] S512x512.size inb_S512x512_S512x512_0_0, k0_pay48 (F := Ideal)⟩]) (arg12.view.writes (Elt Ideal) arg12.view.junk [⟨Rect.unit ![0, 0] S128x512.size inb_S128x512_S128x512_0_0, k0_pay47 (F := Ideal)⟩]) k0_pay37
      ⟨fun g c => (pay37_at g c).trans (h.lg_zero _ g _).symm,
        fun r c => by rw [stP, pay48_at, if_pos rfl], fun d c => by rw [stA, pay47_at]; exact (h.acc_zero _ d _).symm⟩ k0_t5_loop.trips le_rfl
    unfold T5
    rw [trips5] at this
    rw [show Scf.trips k0_t5_loop.lb k0_t5_loop.ub k0_t5_loop.st = 15 from trips5]
    exact this
  rw [body_eq]
  by_cases h1 : r.val < 7680
  · rw [stO_miss arg8 _ (o := 7680) rfl _ _ [] r d (Or.inl h1)]
    exact I2.o r d h1
  · rw [stO_hit arg8 _ (o := 7680) rfl _ _ [] r d ⟨r.val - 7680, by omega⟩ (show r.val = 7680 + (r.val - 7680) by omega), pay53_at,
      show r.val / 512 = 15 by omega]
    have er : 512 * 15 + (r.val - 7680) = r.val := by omega
    have hP : ∀ k : Fin 512, Ideal.exp2 (((arg9.view.readAt (Elt Ideal) (Rect.unit (s := S8192x512) ![7680, 0] S512x512.size inb_S8192x512_S512x512_7680_0).toLoadRect (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).2.2.1) (ix2 k ⟨r.val - 7680, by omega⟩) - (k0_pay45 (F := Ideal) (S2 dv i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f12 f13).1) (ix2 0 ⟨r.val - 7680, by omega⟩)) * (k0_pay46 (F := Ideal) (arg3.view.readAt (Elt Ideal) (Rect.unit (s := S1x1x1x8192) ![0, 0, 0, 7680] S1x1x1x512.size inb_S1x1x1x8192_S1x1x1x512_0_0_0_7680).toLoadRect X3)) (ix2 0 ⟨r.val - 7680, by omega⟩))
        = h.P 15 (512 * 15 + k.val) r.val := fun k => by
      rw [ldT arg9 _ (o := 7680) rfl _ k _ (by omega), h9, pay45_at, pay46_at, h42, h47, er]
      rfl
    unfold Head.out
    rw [h.acc_succ 15 15]
    refine congrArg₂ Ideal.div (congrArg₂ (· * ·) (congrArg₂ (· + ·) ?_ ?_) Hw) ?_
    · rw [ldA arg12 _ rfl _ d _, I5.a]
      refine (acc_step arg6 arg10 h X6 H.v 15 15 (by omega) _ (fun c => 512 * 15 + c.val) I5.p (off := k0_off25) (by decide +kernel) _ _ d _).trans ?_
      rw [er]
    · refine Finset.sum_congr rfl fun x _ => ?_
      refine congrArg₂ (· * ·) ((ldV arg6 X6 (o := 7680) rfl _ d x (by omega)).trans ((H.v d _).trans ?_)) (hP x)
      exact V_cast h d _ _ _ (by omega)
    · refine Finset.sum_congr rfl fun g _ => ?_
      rw [I5.l, h.lg_succ 15 15, er]
      exact congrArg₂ (· + ·) rfl (Finset.sum_congr rfl fun a _ => hP (grow a g))

end

/-- The head that the operands' blocks hold. -/
def headOf (i : grid0.Coords) (x2 : Vec Ideal S1x1x192x8192 .fp8e4m3) (x3 : Vec Ideal S1x1x1x8192 .f32) (x4 : Vec Ideal S1x1x8192x256 .fp8e4m3)
    (x5 : Vec Ideal S1x1x1x8192 .f32) (x6 : Vec Ideal S1x1x128x8192 .fp8e4m3) (x7 : Vec Ideal S9x8 .f32) : Head where
  Q d q := if hd : d.val < 192 then if hq : q < 8192 then x2 (ix4 0 0 ⟨d.val, hd⟩ ⟨q, hq⟩) else 0 else 0
  K r d := if hr : r < 8192 then x4 (ix4 0 0 ⟨r, hr⟩ d) else 0
  ks r := if hr : r < 8192 then x5 (ix4 0 0 0 ⟨r, hr⟩) * csc else 0
  qs q := if hq : q < 8192 then x3 (ix4 0 0 0 ⟨q, hq⟩) else 0
  V d r := if hr : r < 8192 then x6 (ix4 0 0 d ⟨r, hr⟩) else 0
  w := x7 (ix2 (i 0) (i 1))

/-- The output block that the operands' blocks give. -/
def OUT (i : grid0.Coords) (x2 : Vec Ideal S1x1x192x8192 .fp8e4m3) (x3 : Vec Ideal S1x1x1x8192 .f32) (x4 : Vec Ideal S1x1x8192x256 .fp8e4m3)
    (x5 : Vec Ideal S1x1x1x8192 .f32) (x6 : Vec Ideal S1x1x128x8192 .fp8e4m3) (x7 : Vec Ideal S9x8 .f32) : Vec Ideal S1x1x8192x128 .bf16 :=
  fun y => (headOf i x2 x3 x4 x5 x6 x7).out ((y 2).val / 512) (y 2).val (y 3)

section
variable (dv : Dev nD) (i : grid0.Coords) (arg2 : Memref sig .tc .vmem S1x1x192x8192 .fp8e4m3) (harg2 : arg2.IsWhole) (arg3 : Memref sig .tc .vmem S1x1x1x8192 .f32) (harg3 : arg3.IsWhole) (arg4 : Memref sig .tc .vmem S1x1x8192x256 .fp8e4m3) (harg4 : arg4.IsWhole) (arg5 : Memref sig .tc .vmem S1x1x1x8192 .f32) (harg5 : arg5.IsWhole) (arg6 : Memref sig .tc .vmem S1x1x128x8192 .fp8e4m3) (harg6 : arg6.IsWhole) (arg7 : Memref sig .tc .smem S9x8 .f32) (harg7 : arg7.IsWhole) (arg8 : Memref sig .tc .vmem S1x1x8192x128 .bf16) (harg8 : arg8.IsWhole) (arg9 : Memref sig .tc .vmem S8192x512 .f32) (harg9 : arg9.IsWhole) (arg10 : Memref sig .tc .vmem S512x512 .fp8e4m3) (harg10 : arg10.IsWhole) (arg11 : Memref sig .tc .vmem S256x512 .fp8e4m3) (harg11 : arg11.IsWhole) (arg12 : Memref sig .tc .vmem S128x512 .f32) (harg12 : arg12.IsWhole) (arg13 : Memref sig .tc .vmem S8192x128 .f32) (harg13 : arg13.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)

/-- The body leaves that block. -/
theorem body_out : arg8.view.read (Elt Ideal) ((bodyRun (F := Ideal) dv i arg2 harg2 arg3 harg3 arg4 harg4 arg5 harg5 arg6 harg6 arg7 harg7 arg8 harg8 arg9 harg9 arg10 harg10 arg11 harg11 arg12 harg12 arg13 harg13).1 X2 X3 X4 X5 X6 X7 f8 f9 f10 f11 f12 f13) = OUT i (arg2.view.read (Elt Ideal) X2) (arg3.view.read (Elt Ideal) X3) (arg4.view.read (Elt Ideal) X4) (arg5.view.read (Elt Ideal) X5) (arg6.view.read (Elt Ideal) X6) (arg7.view.read (Elt Ideal) X7) := by
  funext y
  have hy : y = ix4 0 0 (y 2) (y 3) := by
    funext a
    fin_cases a
    · exact Fin.ext (by have := (y 0).isLt; have e : S1x1x8192x128.size 0 = 1 := rfl; show (y 0).val = 0; omega)
    · exact Fin.ext (by have := (y 1).isLt; have e : S1x1x8192x128.size 1 = 1 := rfl; show (y 1).val = 0; omega)
    · rfl
    · rfl
  rw [hy]
  refine body_at dv i arg2 harg2 arg3 harg3 arg4 harg4 arg5 harg5 arg6 harg6 arg7 harg7 arg8 harg8 arg9 harg9 arg10 harg10 arg11 harg11 arg12 harg12 arg13 harg13 (headOf i (arg2.view.read (Elt Ideal) X2) (arg3.view.read (Elt Ideal) X3) (arg4.view.read (Elt Ideal) X4) (arg5.view.read (Elt Ideal) X5) (arg6.view.read (Elt Ideal) X6) (arg7.view.read (Elt Ideal) X7)) X2 X3 X4 X5 X6 X7 f8 f9 f10 f11 f12 f13 ⟨?_, ?_, ?_, ?_, ?_⟩ ?_ ?_ (y 2) (y 3)
  · intro d r
    exact ((dif_pos d.isLt).trans (dif_pos r.isLt)).symm
  · intro d n hd
    exact dif_neg (by omega)
  · intro r
    unfold headOf
    dsimp only
    rw [dif_pos r.isLt]
  · intro r d
    unfold headOf
    dsimp only
    rw [dif_pos r.isLt]
  · intro d r
    unfold headOf
    dsimp only
    rw [dif_pos r.isLt]
  · intro r
    unfold headOf
    dsimp only
    rw [dif_pos r.isLt]
  · unfold w0
    refine ld_at arg7 X7 (k0_off1_inb i) (off1_eq i) _ (ix2 (i 0) (i 1)) ?_
    intro a
    fin_cases a
    · rfl
    · rfl

end

end Cert.KernelIdeal.Value

end
-- ==== Proof.Array.lean ====
/- What the result array holds after the run: at every batch entry, head, query and feature the attention of that head,
   read off the argument arrays. -/
module

public import proofs.«01_k».proof.Proof.BlockValue
public import proofs.«01_k».proof.Proof.RunKernelIdeal
public import Idealize.ShloMosaic.Lib.Pipeline.Value

@[expose] public section

set_option maxRecDepth 16384
set_option maxHeartbeats 1000000

noncomputable section

namespace Cert.KernelIdeal.Value

open Cert.KernelIdeal Cert.KernelIdeal.Gen Cert.KernelIdeal.Hand
open Idealize.ShloMosaic Idealize.ShloMosaic.TcCoe Idealize.ShloMosaic.Pointwise Idealize.SL.Sem
open Idealize.ShloMosaic.Pipeline (Dat)

/-- The head of batch entry `b` and head index `h`, of the argument arrays. -/
def headAt (a0 : Vec Ideal S9x8x192x8192 .fp8e4m3) (a1 : Vec Ideal S9x8x8192 .f32) (a2 : Vec Ideal S9x8x8192x256 .fp8e4m3)
    (a3 : Vec Ideal S9x8x8192 .f32) (a4 : Vec Ideal S9x8x128x8192 .fp8e4m3) (a5 : Vec Ideal S9x8 .f32) (b : Fin 9) (h : Fin 8) : Head where
  Q d q := if hd : d.val < 192 then if hq : q < 8192 then a0 (ix4 b h ⟨d.val, hd⟩ ⟨q, hq⟩) else 0 else 0
  K r d := if hr : r < 8192 then a2 (ix4 b h ⟨r, hr⟩ d) else 0
  ks r := if hr : r < 8192 then a3 (ix3 b h ⟨r, hr⟩) * csc else 0
  qs q := if hq : q < 8192 then a1 (ix3 b h ⟨q, hq⟩) else 0
  V d r := if hr : r < 8192 then a4 (ix4 b h d ⟨r, hr⟩) else 0
  w := a5 (ix2 b h)

/-- The attention of every head, of the argument arrays. -/
def RES (a0 : Vec Ideal S9x8x192x8192 .fp8e4m3) (a1 : Vec Ideal S9x8x8192 .f32) (a2 : Vec Ideal S9x8x8192x256 .fp8e4m3)
    (a3 : Vec Ideal S9x8x8192 .f32) (a4 : Vec Ideal S9x8x128x8192 .fp8e4m3) (a5 : Vec Ideal S9x8 .f32) : Vec Ideal S9x8x8192x128 .bf16 :=
  fun j => (headAt a0 a1 a2 a3 a4 a5 (j 0) (j 1)).out ((j 2).val / 512) (j 2).val (j 3)

/-- Where window 0's block lies in its array, at every grid point. -/
theorem idx0 : ∀ t : Fin cfg0.N, win0_0.index t (0 : Fin 4) = (grid0.coords t 0).val ∧ win0_0.index t (1 : Fin 4) = (grid0.coords t 1).val ∧ win0_0.index t (2 : Fin 4) = 0 ∧ win0_0.index t (3 : Fin 4) = 0 :=
  (by decide +kernel : ∀ t : Fin grid0.N, _)

theorem emb0 (t : Fin cfg0.N) (y : S1x1x192x8192.Idx) : ((cfg0.win 0).blk t).view.emb y = ix4 (grid0.coords t 0) (grid0.coords t 1) (y 2) (y 3) := by
  obtain ⟨e0, e1, e2, e3⟩ := idx0 t
  funext a; apply Fin.ext
  match a with
  | ⟨0, _⟩ =>
    show win0_0.index t (0 : Fin 4) * 1 + 1 * (y 0).val = (grid0.coords t 0).val
    have h0 : (y 0).val < 1 := (y 0).isLt
    omega
  | ⟨1, _⟩ =>
    show win0_0.index t (1 : Fin 4) * 1 + 1 * (y 1).val = (grid0.coords t 1).val
    have h1 : (y 1).val < 1 := (y 1).isLt
    omega
  | ⟨2, _⟩ => show win0_0.index t (2 : Fin 4) * 192 + 1 * (y 2).val = (y 2).val; omega
  | ⟨3, _⟩ => show win0_0.index t (3 : Fin 4) * 8192 + 1 * (y 3).val = (y 3).val; omega

/-- Where window 1's block lies in its array, at every grid point. -/
theorem idx1 : ∀ t : Fin cfg0.N, win0_1.index t (0 : Fin 4) = (grid0.coords t 0).val ∧ win0_1.index t (1 : Fin 4) = (grid0.coords t 1).val ∧ win0_1.index t (2 : Fin 4) = 0 ∧ win0_1.index t (3 : Fin 4) = 0 :=
  (by decide +kernel : ∀ t : Fin grid0.N, _)

theorem emb1 (t : Fin cfg0.N) (y : S1x1x1x8192.Idx) : ((cfg0.win 1).blk t).view.emb y = ix4 (grid0.coords t 0) (grid0.coords t 1) (y 2) (y 3) := by
  obtain ⟨e0, e1, e2, e3⟩ := idx1 t
  funext a; apply Fin.ext
  match a with
  | ⟨0, _⟩ =>
    show win0_1.index t (0 : Fin 4) * 1 + 1 * (y 0).val = (grid0.coords t 0).val
    have h0 : (y 0).val < 1 := (y 0).isLt
    omega
  | ⟨1, _⟩ =>
    show win0_1.index t (1 : Fin 4) * 1 + 1 * (y 1).val = (grid0.coords t 1).val
    have h1 : (y 1).val < 1 := (y 1).isLt
    omega
  | ⟨2, _⟩ => show win0_1.index t (2 : Fin 4) * 1 + 1 * (y 2).val = (y 2).val; omega
  | ⟨3, _⟩ => show win0_1.index t (3 : Fin 4) * 8192 + 1 * (y 3).val = (y 3).val; omega

/-- Where window 2's block lies in its array, at every grid point. -/
theorem idx2 : ∀ t : Fin cfg0.N, win0_2.index t (0 : Fin 4) = (grid0.coords t 0).val ∧ win0_2.index t (1 : Fin 4) = (grid0.coords t 1).val ∧ win0_2.index t (2 : Fin 4) = 0 ∧ win0_2.index t (3 : Fin 4) = 0 :=
  (by decide +kernel : ∀ t : Fin grid0.N, _)

theorem emb2 (t : Fin cfg0.N) (y : S1x1x8192x256.Idx) : ((cfg0.win 2).blk t).view.emb y = ix4 (grid0.coords t 0) (grid0.coords t 1) (y 2) (y 3) := by
  obtain ⟨e0, e1, e2, e3⟩ := idx2 t
  funext a; apply Fin.ext
  match a with
  | ⟨0, _⟩ =>
    show win0_2.index t (0 : Fin 4) * 1 + 1 * (y 0).val = (grid0.coords t 0).val
    have h0 : (y 0).val < 1 := (y 0).isLt
    omega
  | ⟨1, _⟩ =>
    show win0_2.index t (1 : Fin 4) * 1 + 1 * (y 1).val = (grid0.coords t 1).val
    have h1 : (y 1).val < 1 := (y 1).isLt
    omega
  | ⟨2, _⟩ => show win0_2.index t (2 : Fin 4) * 8192 + 1 * (y 2).val = (y 2).val; omega
  | ⟨3, _⟩ => show win0_2.index t (3 : Fin 4) * 256 + 1 * (y 3).val = (y 3).val; omega

/-- Where window 3's block lies in its array, at every grid point. -/
theorem idx3 : ∀ t : Fin cfg0.N, win0_3.index t (0 : Fin 4) = (grid0.coords t 0).val ∧ win0_3.index t (1 : Fin 4) = (grid0.coords t 1).val ∧ win0_3.index t (2 : Fin 4) = 0 ∧ win0_3.index t (3 : Fin 4) = 0 :=
  (by decide +kernel : ∀ t : Fin grid0.N, _)

theorem emb3 (t : Fin cfg0.N) (y : S1x1x1x8192.Idx) : ((cfg0.win 3).blk t).view.emb y = ix4 (grid0.coords t 0) (grid0.coords t 1) (y 2) (y 3) := by
  obtain ⟨e0, e1, e2, e3⟩ := idx3 t
  funext a; apply Fin.ext
  match a with
  | ⟨0, _⟩ =>
    show win0_3.index t (0 : Fin 4) * 1 + 1 * (y 0).val = (grid0.coords t 0).val
    have h0 : (y 0).val < 1 := (y 0).isLt
    omega
  | ⟨1, _⟩ =>
    show win0_3.index t (1 : Fin 4) * 1 + 1 * (y 1).val = (grid0.coords t 1).val
    have h1 : (y 1).val < 1 := (y 1).isLt
    omega
  | ⟨2, _⟩ => show win0_3.index t (2 : Fin 4) * 1 + 1 * (y 2).val = (y 2).val; omega
  | ⟨3, _⟩ => show win0_3.index t (3 : Fin 4) * 8192 + 1 * (y 3).val = (y 3).val; omega

/-- Where window 4's block lies in its array, at every grid point. -/
theorem idx4 : ∀ t : Fin cfg0.N, win0_4.index t (0 : Fin 4) = (grid0.coords t 0).val ∧ win0_4.index t (1 : Fin 4) = (grid0.coords t 1).val ∧ win0_4.index t (2 : Fin 4) = 0 ∧ win0_4.index t (3 : Fin 4) = 0 :=
  (by decide +kernel : ∀ t : Fin grid0.N, _)

theorem emb4 (t : Fin cfg0.N) (y : S1x1x128x8192.Idx) : ((cfg0.win 4).blk t).view.emb y = ix4 (grid0.coords t 0) (grid0.coords t 1) (y 2) (y 3) := by
  obtain ⟨e0, e1, e2, e3⟩ := idx4 t
  funext a; apply Fin.ext
  match a with
  | ⟨0, _⟩ =>
    show win0_4.index t (0 : Fin 4) * 1 + 1 * (y 0).val = (grid0.coords t 0).val
    have h0 : (y 0).val < 1 := (y 0).isLt
    omega
  | ⟨1, _⟩ =>
    show win0_4.index t (1 : Fin 4) * 1 + 1 * (y 1).val = (grid0.coords t 1).val
    have h1 : (y 1).val < 1 := (y 1).isLt
    omega
  | ⟨2, _⟩ => show win0_4.index t (2 : Fin 4) * 128 + 1 * (y 2).val = (y 2).val; omega
  | ⟨3, _⟩ => show win0_4.index t (3 : Fin 4) * 8192 + 1 * (y 3).val = (y 3).val; omega

/-- Where window 6's block lies in its array, at every grid point. -/
theorem idx6 : ∀ t : Fin cfg0.N, win0_6.index t (0 : Fin 4) = (grid0.coords t 0).val ∧ win0_6.index t (1 : Fin 4) = (grid0.coords t 1).val ∧ win0_6.index t (2 : Fin 4) = 0 ∧ win0_6.index t (3 : Fin 4) = 0 :=
  (by decide +kernel : ∀ t : Fin grid0.N, _)

theorem emb6 (t : Fin cfg0.N) (y : S1x1x8192x128.Idx) : ((cfg0.win 6).blk t).view.emb y = ix4 (grid0.coords t 0) (grid0.coords t 1) (y 2) (y 3) := by
  obtain ⟨e0, e1, e2, e3⟩ := idx6 t
  funext a; apply Fin.ext
  match a with
  | ⟨0, _⟩ =>
    show win0_6.index t (0 : Fin 4) * 1 + 1 * (y 0).val = (grid0.coords t 0).val
    have h0 : (y 0).val < 1 := (y 0).isLt
    omega
  | ⟨1, _⟩ =>
    show win0_6.index t (1 : Fin 4) * 1 + 1 * (y 1).val = (grid0.coords t 1).val
    have h1 : (y 1).val < 1 := (y 1).isLt
    omega
  | ⟨2, _⟩ => show win0_6.index t (2 : Fin 4) * 8192 + 1 * (y 2).val = (y 2).val; omega
  | ⟨3, _⟩ => show win0_6.index t (3 : Fin 4) * 128 + 1 * (y 3).val = (y 3).val; omega

/-- Window 5's block is its whole array. -/
theorem idx5 : ∀ t : Fin cfg0.N, win0_5.index t (0 : Fin 2) = 0 ∧ win0_5.index t (1 : Fin 2) = 0 :=
  (by decide +kernel : ∀ t : Fin grid0.N, _)

theorem emb5 (t : Fin cfg0.N) (y : S9x8.Idx) : ((cfg0.win 5).blk t).view.emb y = y := by
  obtain ⟨e0, e1⟩ := idx5 t
  funext a; apply Fin.ext
  match a with
  | ⟨0, _⟩ => show win0_5.index t (0 : Fin 2) * 9 + 1 * (y 0).val = (y 0).val; omega
  | ⟨1, _⟩ => show win0_5.index t (1 : Fin 2) * 8 + 1 * (y 1).val = (y 1).val; omega

variable (m : (ℓ : Loc nD τ sig) → Buf (Elt Ideal) ℓ) (ρ : Dev nD → PrngReg)

/-- The queries' scales, re-laid by the host. -/
theorem V_main_v0 (c : Dev nD) : V m c main_v0 = shapeCast S9x8x1x8192 (m ((c : Thread nD τ).loc main_arg1)) shapeCasts_S9x8x8192_S9x8x1x8192 := by
  show StableHlo.after hostOps0 (fun b => m (c, b)) (Proc.devRef .tc main_v0) = _
  unfold hostOps0
  after_results
  rfl

/-- The keys' scales, re-laid by the host. -/
theorem V_main_v1 (c : Dev nD) : V m c main_v1 = shapeCast S9x8x1x8192 (m ((c : Thread nD τ).loc main_arg3)) shapeCasts_S9x8x8192_S9x8x1x8192 := by
  show StableHlo.after hostOps0 (fun b => m (c, b)) (Proc.devRef .tc main_v1) = _
  unfold hostOps0
  after_results
  rfl

theorem cast_at (x : Vec Ideal S9x8x8192 .f32) (b : Fin 9) (h : Fin 8) (q : Fin 8192) :
    shapeCast S9x8x1x8192 x shapeCasts_S9x8x8192_S9x8x1x8192 (ix4 b h 0 q) = x (ix3 b h q) := by
  pointwise

theorem iblk0_at (c : Dev nD) (t : Fin cfg0.N) (r : Fin 192) (q : Fin 8192) :
    iblk m c 0 t (ix4 0 0 r q) = m ((c : Thread nD τ).loc main_arg0) (ix4 (grid0.coords t 0) (grid0.coords t 1) r q) := by
  show V m c main_arg0 (((cfg0.win 0).blk t).view.emb (ix4 0 0 r q)) = _
  rw [emb0, V_main_arg0]
  rfl

theorem iblk2_at (c : Dev nD) (t : Fin cfg0.N) (r : Fin 8192) (q : Fin 256) :
    iblk m c 2 t (ix4 0 0 r q) = m ((c : Thread nD τ).loc main_arg2) (ix4 (grid0.coords t 0) (grid0.coords t 1) r q) := by
  show V m c main_arg2 (((cfg0.win 2).blk t).view.emb (ix4 0 0 r q)) = _
  rw [emb2, V_main_arg2]
  rfl

theorem iblk4_at (c : Dev nD) (t : Fin cfg0.N) (r : Fin 128) (q : Fin 8192) :
    iblk m c 4 t (ix4 0 0 r q) = m ((c : Thread nD τ).loc main_arg4) (ix4 (grid0.coords t 0) (grid0.coords t 1) r q) := by
  show V m c main_arg4 (((cfg0.win 4).blk t).view.emb (ix4 0 0 r q)) = _
  rw [emb4, V_main_arg4]
  rfl

theorem iblk1_at (c : Dev nD) (t : Fin cfg0.N) (q : Fin 8192) :
    iblk m c 1 t (ix4 0 0 0 q) = m ((c : Thread nD τ).loc main_arg1) (ix3 (grid0.coords t 0) (grid0.coords t 1) q) := by
  show V m c main_v0 (((cfg0.win 1).blk t).view.emb (ix4 0 0 0 q)) = _
  rw [emb1, V_main_v0]
  exact cast_at _ _ _ _

theorem iblk3_at (c : Dev nD) (t : Fin cfg0.N) (q : Fin 8192) :
    iblk m c 3 t (ix4 0 0 0 q) = m ((c : Thread nD τ).loc main_arg3) (ix3 (grid0.coords t 0) (grid0.coords t 1) q) := by
  show V m c main_v1 (((cfg0.win 3).blk t).view.emb (ix4 0 0 0 q)) = _
  rw [emb3, V_main_v1]
  exact cast_at _ _ _ _

theorem iblk5_at (c : Dev nD) (t : Fin cfg0.N) (y : S9x8.Idx) : iblk m c 5 t y = m ((c : Thread nD τ).loc main_arg5) y := by
  show V m c main_arg5 (((cfg0.win 5).blk t).view.emb y) = _
  rw [emb5, V_main_arg5]

/-- The blocks of one grid point hold one head of the arrays. -/
theorem headOf_blocks (c : Dev nD) (t : Fin cfg0.N) :
    headOf (grid0.coords t) (iblk m c 0 t) (iblk m c 1 t) (iblk m c 2 t) (iblk m c 3 t) (iblk m c 4 t) (iblk m c 5 t) = headAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (grid0.coords t 0) (grid0.coords t 1) := by
  unfold headOf headAt
  simp only [iblk0_at, iblk1_at, iblk2_at, iblk3_at, iblk4_at, iblk5_at]

/-- Every index of the result lies in the block of some grid point. -/
theorem cover (j : S9x8x8192x128.Idx) : ∃ t : Fin cfg0.N, (cfg0.win 6).flush t = true ∧ j ∈ ((cfg0.win 6).blk t).view.set := by
  obtain ⟨t, h0, h1⟩ : ∃ t : Fin cfg0.N, (grid0.coords t 0).val = (j 0).val ∧ (grid0.coords t 1).val = (j 1).val :=
    (by decide +kernel : ∀ (b : Fin 9) (h : Fin 8), ∃ t : Fin grid0.N, (grid0.coords t 0).val = b.val ∧ (grid0.coords t 1).val = h.val) (j 0) (j 1)
  have e : ((cfg0.win 6).blk t).view.emb (ix4 0 0 (j 2) (j 3) : S1x1x8192x128.Idx) = j := by
    rw [emb6]
    funext a
    fin_cases a
    · exact Fin.ext h0
    · exact Fin.ext h1
    · rfl
    · rfl
  exact ⟨t, flush0_6 t, e ▸ ((cfg0.win 6).blk t).view.emb_mem_set (ix4 0 0 (j 2) (j 3) : S1x1x8192x128.Idx)⟩

/-- The array's contents at the end. -/
theorem final (c : Dev nD) : (Run.dats m OUT 0 c).arrAt 6 cfg0.N = RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Run.dats m OUT 0 c).arrAt_eq_of_cover 6 (RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t _ => by
      show (cfg0.win 6).cut (grid0.coords t) ((Run.dats m OUT 0 c).after 6 t) = _
      rw [Run.after0_6]
      funext y
      show OUT (grid0.coords t) (iblk m c 0 t) (iblk m c 1 t) (iblk m c 2 t) (iblk m c 3 t) (iblk m c 4 t) (iblk m c 5 t) y = RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y)
      rw [emb6]
      unfold OUT RES
      rw [headOf_blocks]
      rfl)
    cover

/-- THE RUN: the result holds every head's attention, and the arguments are as launched. -/
theorem run : θ_run defs (onTc (τ := τ) (main (F := Ideal))) ⟨m, fun _ => 0, ρ⟩ fun r => ∀ c : Dev nD,
      r.2.mem ((c : Thread nD τ).loc main_v2) = RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 6).trans (final m c),
      ((h.1 c).1 0).trans (((Run.dats m OUT 0 c).arrAt_in 0 rfl _).trans ((Run.A_eq m OUT c 0).trans (V_main_arg0 m c))),
      ((h.1 c).2 main_arg1 (Pipeline.mem_restRefs_of main_arg1 (by decide) (by decide))).trans (V_main_arg1 m c),
      ((h.1 c).1 2).trans (((Run.dats m OUT 0 c).arrAt_in 2 rfl _).trans ((Run.A_eq m OUT c 2).trans (V_main_arg2 m c))),
      ((h.1 c).2 main_arg3 (Pipeline.mem_restRefs_of main_arg3 (by decide) (by decide))).trans (V_main_arg3 m c),
      ((h.1 c).1 4).trans (((Run.dats m OUT 0 c).arrAt_in 4 rfl _).trans ((Run.A_eq m OUT c 4).trans (V_main_arg4 m c))),
      ((h.1 c).1 5).trans (((Run.dats m OUT 0 c).arrAt_in 5 rfl _).trans ((Run.A_eq m OUT c 5).trans (V_main_arg5 m c)))⟩)
    (Run.run_main m ρ OUT (fun dv i arg2 harg2 arg3 harg3 arg4 harg4 arg5 harg5 arg6 harg6 arg7 harg7 arg8 harg8 arg9 harg9 arg10 harg10 arg11 harg11 arg12 harg12 arg13 harg13 d2 d3 d4 d5 d6 d7 d8 d9 d10 d11 d12 d13 =>
      body_out dv i arg2 harg2 arg3 harg3 arg4 harg4 arg5 harg5 arg6 harg6 arg7 harg7 arg8 harg8 arg9 harg9 arg10 harg10 arg11 harg11 arg12 harg12 arg13 harg13 d2 d3 d4 d5 d6 d7 d8 d9 d10 d11 d12 d13))

end Cert.KernelIdeal.Value

end
-- ==== Proof.Equation.lean ====
/- The equation between the two ways of writing the attention of one head: by blocks and groups, with the base-two exponential
   of the scores before the query's scale; and plainly, with the natural exponential of the scaled scores. -/
module

public import proofs.«01_k».proof.Proof.Model

@[expose] public section

noncomputable section

namespace Cert.KernelIdeal.Value

open Idealize.ShloMosaic

/-! ## Sums and maxima by blocks and groups -/

/-- A sum over `n` blocks of 512 is the sum over their rows. -/
theorem sum_blocks (f : ℕ → EReal) (n : ℕ) :
    (∑ j ∈ Finset.range n, ∑ k : Fin 512, f (512 * j + k.val)) = ∑ r ∈ Finset.range (512 * n), f r := by
  induction n with
  | zero => rfl
  | succ n ih =>
    rw [Finset.sum_range_succ, ih, Nat.mul_succ, Finset.sum_range_add, Finset.sum_range (fun k => f (512 * n + k))]

/-- A sum over the eight groups of a block is the sum over its rows. -/
theorem sum_groups (f : Fin 512 → EReal) : (∑ g : Fin 8, ∑ a : Fin 64, f (grow a g)) = ∑ k : Fin 512, f k := by
  rw [Finset.sum_comm, ← Fintype.sum_prod_type']
  refine Fintype.sum_equiv (finProdFinEquiv (m := 64) (n := 8)) _ _ fun x => congrArg f (Fin.ext ?_)
  show x.1.val * 8 + x.2.val = x.2.val + 8 * x.1.val
  omega

/-- Rows past the end that count nothing may be added. -/
theorem sum_tail (f : ℕ → EReal) (n : ℕ) (hn : n ≤ 8192) (h : ∀ r, n ≤ r → f r = 0) :
    (∑ r ∈ Finset.range n, f r) = ∑ r : Fin 8192, f r.val := by
  rw [← Finset.sum_range]
  exact Finset.sum_subset (fun x hx => Finset.mem_range.mpr (lt_of_lt_of_le (Finset.mem_range.mp hx) hn))
    fun x _ hx => h x (not_lt.mp fun hl => hx (Finset.mem_range.mpr hl))

namespace Head

variable (h : Head) (q : Fin 8192)

theorem Tm_of_lt {r q : ℕ} (hr : q < r) : h.Tm r q = ⊥ := if_neg (by omega)

/-- The maximum by blocks and groups is the maximum over all keys. -/
theorem M_eq : h.M (q.val / 512) q.val = Finset.univ.sup fun r : Fin 8192 => h.Tm r.val q.val := by
  apply le_antisymm
  · refine Finset.sup_le fun g _ => Finset.sup_le fun j hj => Finset.sup_le fun a _ => ?_
    have hj := Finset.mem_range.mp hj
    have hk := (grow a g).isLt
    have hq := q.isLt
    exact Finset.le_sup (f := fun r : Fin 8192 => h.Tm r.val q.val) (Finset.mem_univ (⟨512 * j + (grow a g).val, by omega⟩ : Fin 8192))
  · refine Finset.sup_le fun r _ => ?_
    by_cases hr : r.val ≤ q.val
    · have e : 512 * (r.val / 512) + (grow ⟨r.val % 512 / 8, by omega⟩ ⟨r.val % 8, by omega⟩).val = r.val := by
        show 512 * (r.val / 512) + (r.val % 512 / 8 * 8 + r.val % 8) = r.val
        omega
      calc h.Tm r.val q.val = h.Tm (512 * (r.val / 512) + (grow ⟨r.val % 512 / 8, by omega⟩ ⟨r.val % 8, by omega⟩).val) q.val := by rw [e]
        _ ≤ Finset.univ.sup fun a : Fin 64 => h.Tm (512 * (r.val / 512) + (grow a ⟨r.val % 8, by omega⟩).val) q.val :=
            Finset.le_sup (f := fun a : Fin 64 => h.Tm (512 * (r.val / 512) + (grow a ⟨r.val % 8, by omega⟩).val) q.val) (Finset.mem_univ _)
        _ ≤ h.mg (q.val / 512 + 1) ⟨r.val % 8, by omega⟩ q.val :=
            Finset.le_sup (f := fun j => Finset.univ.sup fun a : Fin 64 => h.Tm (512 * j + (grow a ⟨r.val % 8, by omega⟩).val) q.val)
              (Finset.mem_range.mpr (by omega))
        _ ≤ h.M (q.val / 512) q.val := Finset.le_sup (f := fun g : Fin 8 => h.mg (q.val / 512 + 1) g q.val) (Finset.mem_univ _)
    · rw [h.Tm_of_lt (by omega)]
      exact bot_le

/-- The weights are the base-two exponentials of the scores less their maximum. -/
theorem P_eq (r : ℕ) : h.P (q.val / 512) r q.val
    = Ideal.exp2 ((h.Tm r q.val - Finset.univ.sup fun r : Fin 8192 => h.Tm r.val q.val) * (h.qs q.val * log2e)) := by
  rw [← h.M_eq q]
  rfl

theorem log2e_pos : (0 : ℝ) < (Real.log 2)⁻¹ := inv_pos.mpr (Real.log_pos (by norm_num))

/-- A key after the query weighs nothing. -/
theorem P_tail (hq : 0 < h.qs q.val) (hq' : h.qs q.val < ⊤) (r : ℕ) (hr : q.val < r) : h.P (q.val / 512) r q.val = 0 := by
  lift h.qs q.val to ℝ using ⟨hq'.ne, (lt_trans EReal.bot_lt_zero hq).ne'⟩ with s hs
  rw [P_eq, h.Tm_of_lt hr, ← hs, EReal.bot_sub, log2e, ← EReal.coe_mul, EReal.bot_mul_coe_of_pos, Ideal.exp2_bot]
  exact mul_pos (EReal.coe_pos.mp hq) log2e_pos

/-- The weights' sum by blocks and groups is their sum over all keys. -/
theorem l_eq (hq : 0 < h.qs q.val) (hq' : h.qs q.val < ⊤) :
    (∑ g : Fin 8, h.lg (q.val / 512) (q.val / 512 + 1) g q.val) = ∑ r : Fin 8192, h.P (q.val / 512) r.val q.val := by
  have hl := q.isLt
  rw [← sum_tail (fun r => h.P (q.val / 512) r q.val) (512 * (q.val / 512 + 1)) (by omega) fun r hr => h.P_tail q hq hq' r (by omega),
    ← sum_blocks]
  unfold lg
  rw [Finset.sum_comm]
  exact Finset.sum_congr rfl fun j _ => sum_groups fun k => h.P (q.val / 512) (512 * j + k.val) q.val

/-- The weighted sum of the values by blocks is their weighted sum over all keys. -/
theorem acc_eq (hq : 0 < h.qs q.val) (hq' : h.qs q.val < ⊤) (c : Fin 128) :
    h.acc (q.val / 512) (q.val / 512 + 1) c q.val = ∑ r : Fin 8192, h.P (q.val / 512) r.val q.val * h.V c r.val := by
  have hl := q.isLt
  rw [← sum_tail (fun r => h.P (q.val / 512) r q.val * h.V c r) (512 * (q.val / 512 + 1)) (by omega) fun r hr => by
      rw [h.P_tail q hq hq' r (by omega), zero_mul], ← sum_blocks]
  exact Finset.sum_congr rfl fun j _ => Finset.sum_congr rfl fun k _ => mul_comm _ _

end Head

/-! ## The exponentials -/

/-- The base-two exponential of a multiple of the base-two logarithm of `e` is the natural exponential. -/
theorem exp2_log2e (y : EReal) : Ideal.exp2 (y * log2e) = Ideal.exp y := by
  unfold log2e
  induction y with
  | bot => rw [EReal.bot_mul_coe_of_pos Head.log2e_pos, Ideal.exp2_bot, Ideal.exp_bot]
  | top => rw [EReal.top_mul_coe_of_pos Head.log2e_pos, Ideal.exp2_top, Ideal.exp_top]
  | coe r =>
    rw [← EReal.coe_mul, Ideal.exp2_coe, Ideal.exp_coe]
    congr 1
    show (2 : ℝ) ^ (r * (Real.log 2)⁻¹) = Real.exp r
    rw [Real.rpow_def_of_pos (by norm_num)]
    congr 1
    have : Real.log 2 ≠ 0 := (Real.log_pos (by norm_num)).ne'
    field_simp

/-- A score scaled after its maximum is taken off is the scaled score less the scaled scores' maximum. -/
theorem scale_sub {n : ℕ} (t : Fin n → EReal) (s : EReal) (hs : 0 < s) (hs' : s < ⊤) (r : Fin n) :
    (t r - Finset.univ.sup t) * s = t r * s - Finset.univ.sup fun r => t r * s := by
  lift s to ℝ using ⟨hs'.ne, (lt_trans EReal.bot_lt_zero hs).ne'⟩
  have hm : Monotone fun x : EReal => x * (s : EReal) := fun x y hxy => mul_le_mul_of_nonneg_right hxy hs.le
  have e : (Finset.univ.sup t) * (s : EReal) = Finset.univ.sup fun r => t r * (s : EReal) :=
    Finset.comp_sup_eq_sup_comp_of_is_total (fun x : EReal => x * (s : EReal)) hm (EReal.bot_mul_coe_of_pos (EReal.coe_pos.mp hs))
  rw [← e, sub_eq_add_neg, sub_eq_add_neg, EReal.right_distrib_of_nonneg_of_ne_top hs.le hs'.ne, EReal.neg_mul]

/-- The exponential of a score less the maximum lies between the ends of the codes' range: clipping does nothing. -/
theorem clip_exp {n : ℕ} (t : Fin n → EReal) (r : Fin n) :
    min ((448 : ℝ) : EReal) (max ((-448 : ℝ) : EReal) (Ideal.exp (t r - Finset.univ.sup t))) = Ideal.exp (t r - Finset.univ.sup t) := by
  have h0 : ∀ x : EReal, 0 ≤ Ideal.exp x := fun x => by
    induction x with
    | bot => exact le_rfl
    | top => exact le_top
    | coe x => exact EReal.coe_nonneg.mpr (Real.exp_pos x).le
  have h1 : ∀ x : EReal, x ≤ 0 → Ideal.exp x ≤ 1 := fun x hx => by
    induction x with
    | bot => exact zero_le_one
    | top => exact absurd hx (by simp)
    | coe x => exact EReal.coe_le_coe_iff.mpr (Real.exp_le_one_iff.mpr (EReal.coe_nonpos.mp hx))
  have hle : t r ≤ Finset.univ.sup t := Finset.le_sup (Finset.mem_univ r)
  have hx : t r - Finset.univ.sup t ≤ 0 := by
    generalize Finset.univ.sup t = m at *
    induction m with
    | bot => rw [le_bot_iff.mp hle]; simp
    | top => simp
    | coe m => exact (EReal.sub_le_sub hle le_rfl).trans (by rw [← EReal.coe_sub, sub_self]; exact le_rfl)
  rw [max_eq_right, min_eq_right]
  · exact (h1 _ hx).trans (by exact_mod_cast (by norm_num : (1 : ℝ) ≤ 448))
  · exact le_trans (by exact_mod_cast (by norm_num : (-448 : ℝ) ≤ 0)) (h0 _)

/-- THE EQUATION: by blocks and groups, with the base-two exponential, the attention is the plain one. -/
theorem out_eq (h : Head) (q : Fin 8192) (c : Fin 128) (hq : 0 < h.qs q.val) (hq' : h.qs q.val < ⊤)
    (s : Fin 8192 → EReal) (hs : ∀ r, s r = h.Tm r.val q.val * h.qs q.val) :
    h.out (q.val / 512) q.val c
      = Ideal.div ((∑ r : Fin 8192, min ((448 : ℝ) : EReal) (max ((-448 : ℝ) : EReal) (Ideal.exp (s r - Finset.univ.sup s))) * h.V c r.val) * h.w)
          (∑ r : Fin 8192, Ideal.exp (s r - Finset.univ.sup s)) := by
  have hp : ∀ r : Fin 8192, h.P (q.val / 512) r.val q.val = Ideal.exp (s r - Finset.univ.sup s) := fun r => by
    have es : s = fun r => h.Tm r.val q.val * h.qs q.val := funext hs
    rw [h.P_eq, ← mul_assoc, exp2_log2e, scale_sub (fun r : Fin 8192 => h.Tm r.val q.val) _ hq hq' r, es]
  unfold Head.out
  rw [h.l_eq q hq hq', h.acc_eq q hq hq']
  simp only [clip_exp, hp]

end Cert.KernelIdeal.Value

end
-- ==== Proof.RefValue.lean ====
/- What the reference computes over the extended reals, read at one head, one query and one feature. -/
module

public import proofs.«01_k».proof.Proof.Gen.ReferenceIdeal.Value
public import Idealize.ShloMosaic.Lib.Pointwise
public import Idealize.ShloMosaic.Lib.WordCmp

@[expose] public section

set_option maxRecDepth 16384
set_option maxHeartbeats 1000000

noncomputable section

namespace Cert.ReferenceIdeal.Value

open Cert.ReferenceIdeal Cert.ReferenceIdeal.Gen
open Idealize.ShloMosaic Idealize.ShloMosaic.Pointwise

/-- The head of batch entry `b` and head `h`, among all of them. -/
def hd (b : Fin 9) (h : Fin 8) : Fin 72 := ⟨b.val * 8 + h.val, by omega⟩

theorem ofBits_bot : Ideal.ofBits .f32 0xFF800000#32 = ⊥ := by simp [Ideal.ofBits, Ideal.ieee]

theorem ofBits_448 : Ideal.ofBits .f32 0x43E00000#32 = (448 : ℝ) := by
  simp [Ideal.ofBits, Ideal.ieee]
  norm_num
  rw [← EReal.coe_mul]
  norm_num

theorem ofBits_neg448 : Ideal.ofBits .f32 0xC3E00000#32 = ((-448 : ℝ) : EReal) := by
  simp [Ideal.ofBits, Ideal.ieee]
  norm_num
  rw [← EReal.coe_mul]
  norm_num

/-- The causal mask: a score where the key is not after the query, minus infinity elsewhere. -/
theorem mask_at (x : EReal) (r c : ℕ) (hr : r < 8192) (hc : c < 8192) :
    Scalar.select (IntOp.cmpi CmpIPredicate.sle (BitVec.ofNat 32 r) (BitVec.ofNat 32 c)) x (Ideal.ofBits .f32 0xFF800000#32)
      = if r ≤ c then x else ⊥ := by
  rw [WordCmp.cmpi_sle_ofNat (by omega) (by omega), ofBits_bot]
  by_cases h : r ≤ c <;> simp [h, Scalar.select]

/-- The factor of the scores, as the program writes it. -/
def csc : EReal := Ideal.ofBits .f32 0x3D93CD3A#32

section
variable (v0 : Vec Ideal S9x8x192x8192 .fp8e4m3) (v1 : Vec Ideal S9x8x8192 .f32) (v2 : Vec Ideal S9x8x8192x256 .fp8e4m3) (v3 : Vec Ideal S9x8x8192 .f32)
  (v4 : Vec Ideal S9x8x128x8192 .fp8e4m3) (v5 : Vec Ideal S9x8 .f32)

/-- The masked score of key `r` against query `q`. -/
def sc (b : Fin 9) (h : Fin 8) (q r : Fin 8192) : EReal :=
  if r.val ≤ q.val then
    (∑ d : Fin 192, v0 (ix4 b h d q) * v2 (ix4 b h r ⟨d.val, by omega⟩)) * v1 (ix3 b h q) * (v3 (ix3 b h r) * csc)
  else ⊥

/-- The weight of key `r` for query `q`. -/
def pr (b : Fin 9) (h : Fin 8) (q r : Fin 8192) : EReal :=
  Ideal.exp (sc v0 v1 v2 v3 b h q r - Finset.univ.sup fun r => sc v0 v1 v2 v3 b h q r)

theorem hd_div (b : Fin 9) (h : Fin 8) : (hd b h).val / 8 = b.val := by unfold hd; dsimp only; omega
theorem hd_mod (b : Fin 9) (h : Fin 8) : (hd b h).val % 8 = h.val := by unfold hd; dsimp only; omega

theorem pay3_at (b : Fin 9) (h : Fin 8) (q r : Fin 8192) :
    k0_pay3 (F := Ideal) v0 v2 v1 v3 (ix3 (hd b h) q r) = pr v0 v1 v2 v3 b h q r := by
  unfold k0_pay3
  pointwise
  simp only [mask_at _ _ _ (Fin.isLt _) (Fin.isLt _), hd_div, hd_mod, Fin.eta]
  rw [ofBits_bot]
  rfl

theorem pay1_at (v6 : FVec Ideal S72x128x8192 .fp8e4m3) (v32 : FVec Ideal S72x8192 .f32) (w : Ideal .f32) (v34 : FVec Ideal S72x8192x8192 .f32)
    (b : Fin 9) (h : Fin 8) (q : Fin 8192) (c : Fin 128) :
    k0_pay1 (F := Ideal) v6 v32 w v34 v5 (ix4 b h q c)
      = Ideal.div ((∑ r : Fin 8192, min w (v34 (ix3 (hd b h) q r)) * v6 (ix3 (hd b h) c r)) * v5 (ix2 b h)) (v32 (ix2 (hd b h) q)) := by
  unfold k0_pay1
  pointwise
  rfl

theorem pay2_at (b : Fin 9) (h : Fin 8) (c : Fin 128) (r : Fin 8192) :
    k0_pay2 (F := Ideal) v4 (ix3 (hd b h) c r) = v4 (ix4 b h c r) := by
  unfold k0_pay2
  pointwise
  simp only [hd_div, hd_mod, Fin.eta]

theorem pay4_at (b : Fin 9) (h : Fin 8) (q : Fin 8192) :
    k0_pay4 (F := Ideal) v0 v2 v1 v3 (ix2 (hd b h) q) = ∑ r : Fin 8192, pr v0 v1 v2 v3 b h q r := by
  unfold k0_pay4
  pointwise
  simp only [pay3_at]

theorem pay5_at (b : Fin 9) (h : Fin 8) (q r : Fin 8192) :
    k0_pay5 (F := Ideal) v0 v2 v1 v3 (ix3 (hd b h) q r) = max ((-448 : ℝ) : EReal) (pr v0 v1 v2 v3 b h q r) := by
  unfold k0_pay5
  pointwise
  rw [pay3_at, ofBits_neg448]

/-- THE REFERENCE'S VALUE: the clipped weights' product with the values, scaled and divided by the weights' sum. -/
theorem G6_at (b : Fin 9) (h : Fin 8) (q : Fin 8192) (c : Fin 128) :
    G6 (F := Ideal) v0 v1 v2 v3 v4 v5 (ix4 b h q c)
      = Ideal.div ((∑ r : Fin 8192, min ((448 : ℝ) : EReal) (max ((-448 : ℝ) : EReal) (pr v0 v1 v2 v3 b h q r)) * v4 (ix4 b h c r)) * v5 (ix2 b h))
          (∑ r : Fin 8192, pr v0 v1 v2 v3 b h q r) := by
  unfold G6
  rw [pay1_at, pay4_at]
  simp only [pay2_at, pay5_at]
  rw [show (Scalar.ofBits .f32 0x43E00000#32 : Ideal .f32) = ((448 : ℝ) : EReal) from ofBits_448]

end

end Cert.ReferenceIdeal.Value

end
-- ==== Proof.Assemble.lean ====
/- The kernel's array and the reference's are the same function of the arguments, where every query's scale is positive and
   finite. -/
module

public import proofs.«01_k».proof.Defs
public import proofs.«01_k».proof.Proof.Array
public import proofs.«01_k».proof.Proof.Equation
public import proofs.«01_k».proof.Proof.RefValue

@[expose] public section

set_option maxRecDepth 16384
set_option maxHeartbeats 1000000

noncomputable section

namespace Cert.Assemble

open Idealize.ShloMosaic Idealize.ShloMosaic.Pointwise Idealize.ShloMosaic.TcCoe Idealize.SL.Sem
open Cert.KernelIdeal.Value

/-- The side condition of the precondition's function. -/
theorem facts_pre : Cert.Pre_scales_positive.Facts := ⟨by decide⟩

/-- What the precondition says of one query's scale. -/
theorem pre_at (a0 : Vec Ideal Cert.KernelIdeal.S9x8x192x8192 .fp8e4m3) (a1 : Vec Ideal Cert.KernelIdeal.S9x8x8192 .f32) (a2 : Vec Ideal Cert.KernelIdeal.S9x8x8192x256 .fp8e4m3)
    (a3 : Vec Ideal Cert.KernelIdeal.S9x8x8192 .f32) (a4 : Vec Ideal Cert.KernelIdeal.S9x8x128x8192 .fp8e4m3) (a5 : Vec Ideal Cert.KernelIdeal.S9x8 .f32)
    (hp : @Cert.Pre_scales_positive.fn facts_pre Ideal _ a0 a1 a2 a3 a4 a5 = fun _ => 1#1) (j : Cert.KernelIdeal.S9x8x8192.Idx) : 0 < a1 j ∧ a1 j < ⊤ := by
  have e := congrFun hp j
  have hz : Ideal.ofBits .f32 0x00000000#32 = 0 := by simp [Ideal.ofBits, Ideal.ieee]
  have ht : Ideal.ofBits .f32 0x7F800000#32 = ⊤ := by simp [Ideal.ofBits, Ideal.ieee]
  have e' : IntOp.andi (Ideal.cmp .ogt (a1 j) (Ideal.ofBits .f32 0x00000000#32)) (Ideal.cmp .olt (a1 j) (Ideal.ofBits .f32 0x7F800000#32)) = 1#1 := e
  rw [hz, ht] at e'
  unfold Ideal.cmp at e'
  by_cases h0 : 0 < a1 j
  · by_cases h1 : a1 j < ⊤
    · exact ⟨h0, h1⟩
    · simp [h0, h1, IntOp.andi] at e'
  · simp [h0, IntOp.andi] at e'

/-- THE VALUE: the kernel's result is the reference's. -/
theorem value (a0 : Vec Ideal Cert.KernelIdeal.S9x8x192x8192 .fp8e4m3) (a1 : Vec Ideal Cert.KernelIdeal.S9x8x8192 .f32) (a2 : Vec Ideal Cert.KernelIdeal.S9x8x8192x256 .fp8e4m3)
    (a3 : Vec Ideal Cert.KernelIdeal.S9x8x8192 .f32) (a4 : Vec Ideal Cert.KernelIdeal.S9x8x128x8192 .fp8e4m3) (a5 : Vec Ideal Cert.KernelIdeal.S9x8 .f32)
    (hp : ∀ j, 0 < a1 j ∧ a1 j < ⊤) :
    RES a0 a1 a2 a3 a4 a5 = Cert.ReferenceIdeal.Value.G6 (F := Ideal) a0 a1 a2 a3 a4 a5 := by
  funext j
  obtain ⟨b, h, q, c, rfl⟩ : ∃ (b : Fin 9) (h : Fin 8) (q : Fin 8192) (c : Fin 128), j = ix4 b h q c :=
    ⟨j 0, j 1, j 2, j 3, by funext a; fin_cases a <;> rfl⟩
  rw [Cert.ReferenceIdeal.Value.G6_at]
  show (headAt a0 a1 a2 a3 a4 a5 b h).out (q.val / 512) q.val c = _
  have hq : (headAt a0 a1 a2 a3 a4 a5 b h).qs q.val = a1 (ix3 b h q) := dif_pos q.isLt
  have hk : ∀ r : Fin 8192, (headAt a0 a1 a2 a3 a4 a5 b h).ks r.val = a3 (ix3 b h r) * csc := fun r => dif_pos r.isLt
  have hv : ∀ r : Fin 8192, (headAt a0 a1 a2 a3 a4 a5 b h).V c r.val = a4 (ix4 b h c r) := fun r => dif_pos r.isLt
  have hs : ∀ r : Fin 8192, Cert.ReferenceIdeal.Value.sc a0 a1 a2 a3 b h q r
      = (headAt a0 a1 a2 a3 a4 a5 b h).Tm r.val q.val * (headAt a0 a1 a2 a3 a4 a5 b h).qs q.val := fun r => by
    unfold Cert.ReferenceIdeal.Value.sc Head.Tm
    by_cases hr : r.val ≤ q.val
    · rw [if_pos hr, if_pos hr, hq]
      unfold Head.T
      have hK : ∀ d : Fin 256, (headAt a0 a1 a2 a3 a4 a5 b h).K r.val d = a2 (ix4 b h r d) := fun d => dif_pos r.isLt
      have hQ : ∀ d : Fin 192, (headAt a0 a1 a2 a3 a4 a5 b h).Q ⟨d.val, by omega⟩ q.val = a0 (ix4 b h d q) := fun d =>
        (dif_pos d.isLt).trans (dif_pos q.isLt)
      have hQ0 : ∀ d : Fin 64, (headAt a0 a1 a2 a3 a4 a5 b h).Q (Fin.natAdd 192 d) q.val = 0 := fun d =>
        dif_neg (show ¬ (192 + d.val < 192) by omega)
      have e : (∑ d : Fin 256, (headAt a0 a1 a2 a3 a4 a5 b h).K r.val d * (headAt a0 a1 a2 a3 a4 a5 b h).Q d q.val)
          = ∑ d : Fin 192, a0 (ix4 b h d q) * a2 (ix4 b h r ⟨d.val, by omega⟩) := by
        refine (Fin.sum_univ_add (a := 192) (b := 64) fun d => (headAt a0 a1 a2 a3 a4 a5 b h).K r.val d * (headAt a0 a1 a2 a3 a4 a5 b h).Q d q.val).trans ?_
        refine (congrArg₂ (· + ·) rfl (Finset.sum_eq_zero fun d _ => (congrArg _ (hQ0 d)).trans (mul_zero _))).trans ?_
        refine (add_zero _).trans ?_
        exact Finset.sum_congr rfl fun d _ => (congrArg₂ (· * ·) (hK _) (hQ d)).trans (mul_comm _ _)
      rw [e, hk]
      exact mul_right_comm _ _ _
    · rw [if_neg hr, if_neg hr, hq]
      have h0 := (hp (ix3 b h q)).1
      have h1 := (hp (ix3 b h q)).2
      generalize a1 (ix3 b h q) = s at *
      lift s to ℝ using ⟨h1.ne, (lt_trans EReal.bot_lt_zero h0).ne'⟩
      exact (EReal.bot_mul_coe_of_pos (EReal.coe_pos.mp h0)).symm
  rw [out_eq _ q c (by rw [hq]; exact (hp _).1) (by rw [hq]; exact (hp _).2) _ hs]
  simp only [hv]
  rfl

end Cert.Assemble

end
-- ==== Proof.VBlock.lean ====
/- What one block of the values' codes holds: for each of the eight heads the product of the head's weights with 512 tokens' latents,
   scaled and clipped. -/
module

public import proofs.«01_k».proof.Proof.Gen.VQuantIdeal.Value
public import Idealize.ShloMosaic.Lib.Pointwise
public import Idealize.ShloMosaic.Lib.WritesUnit
public import Idealize.ShloMosaic.Lib.WholeRead

@[expose] public section

set_option maxRecDepth 16384
set_option maxHeartbeats 1000000

noncomputable section

namespace Cert.VQuantIdeal.Value

open Cert.VQuantIdeal Cert.VQuantIdeal.Gen
open Idealize.ShloMosaic Idealize.ShloMosaic.Pointwise Idealize.ShloMosaic.TcCoe

/-- A value clipped to the format's range. -/
def clip (x : EReal) : EReal := min (Ideal.ofBits .f32 0x43E00000#32) (max (Ideal.ofBits .f32 0xC3E00000#32) x)

/-- One head's codes at a feature and a token. -/
theorem pay4_at (v0 : Vec Ideal S1x512x512 .fp8e4m3) (v2 : Vec Ideal S1x1x512 .f32) (v4 : Vec Ideal S1x128x512 .fp8e4m3)
    (v9 : Vec Ideal S1x128x128 .f32) (v15 : Elt Ideal .f32) (c : Fin 128) (s : Fin 512) :
    k0_pay4 (F := Ideal) v0 v2 v4 v9 v15 (ix4 0 0 c s)
      = clip ((∑ l : Fin 512, v4 (ix3 0 c l) * v0 (ix3 0 s l)) * v2 (ix3 0 0 s) * v9 (ix3 0 c 0) * v15) := by
  unfold k0_pay4 k0_pay2 k0_pay3
  pointwise
  rfl

/-- A load through a rectangle of stride one, read at the place that its coordinates name. -/
theorem ld_at {s : Shape} {e : EltTy} {sp : Space} {A : Memref sig .tc sp s e} (hA : A.IsWhole) (X : s.Idx → Elt Ideal e)
    {off off' size : Fin s.rank → ℕ} (inb : ∀ a, off a + size a ≤ s.size a) (heq : off = off')
    (j : (Rect.unit off size inb).shape.Idx) (y : s.Idx) (hy : ∀ a, (y a).val = off' a + (j a).val) :
    A.view.readAt (Elt Ideal) (Rect.unit off size inb).toLoadRect (hA.unread X) j = X y := by
  subst heq
  rw [hA.readAt_unread]
  congr 1
  refine funext fun a => Fin.ext ?_
  show off a + 1 * (j a).val = (y a).val
  rw [hy a, Nat.one_mul]

theorem off1_eq : ∀ i : grid0.Coords, k0_off1 i = ![(i 0).val, 0] := by decide +kernel
theorem off2_eq : ∀ i : grid0.Coords, k0_off2 i = ![(i 0).val, 1] := by decide +kernel
theorem off3_eq : ∀ i : grid0.Coords, k0_off3 i = ![(i 0).val, 2] := by decide +kernel
theorem off4_eq : ∀ i : grid0.Coords, k0_off4 i = ![(i 0).val, 3] := by decide +kernel
theorem off5_eq : ∀ i : grid0.Coords, k0_off5 i = ![(i 0).val, 4] := by decide +kernel
theorem off6_eq : ∀ i : grid0.Coords, k0_off6 i = ![(i 0).val, 5] := by decide +kernel
theorem off7_eq : ∀ i : grid0.Coords, k0_off7 i = ![(i 0).val, 6] := by decide +kernel
theorem off8_eq : ∀ i : grid0.Coords, k0_off8 i = ![(i 0).val, 7] := by decide +kernel

/-- The block: at each head, feature and token the clipped code. -/
def BLK (i : grid0.Coords) (x0 : Vec Ideal S1x512x512 .fp8e4m3) (x1 : Vec Ideal S1x1x512 .f32) (x2 : Vec Ideal S8x128x512 .fp8e4m3) (x3 : Vec Ideal S8x128x128 .f32) (x4 : Vec Ideal S9x8 .f32) : Vec Ideal S1x8x128x512 .fp8e4m3 :=
  fun y => clip ((∑ l : Fin 512, x2 (ix3 (y 1) (y 2) l) * x0 (ix3 0 (y 3) l)) * x1 (ix3 0 0 (y 3)) * x3 (ix3 (y 1) (y 2) 0) * x4 (ix2 (i 0) (y 1)))

section
variable (dv : Dev nD) (i : grid0.Coords) (arg2 : Memref sig .tc .vmem S1x512x512 .fp8e4m3) (harg2 : arg2.IsWhole) (arg3 : Memref sig .tc .vmem S1x1x512 .f32) (harg3 : arg3.IsWhole) (arg4 : Memref sig .tc .vmem S8x128x512 .fp8e4m3) (harg4 : arg4.IsWhole) (arg5 : Memref sig .tc .vmem S8x128x128 .f32) (harg5 : arg5.IsWhole) (arg6 : Memref sig .tc .smem S9x8 .f32) (harg6 : arg6.IsWhole) (arg7 : Memref sig .tc .vmem S1x8x128x512 .fp8e4m3) (harg7 : arg7.IsWhole)
  (x0 : Vec Ideal S1x512x512 .fp8e4m3) (x1 : Vec Ideal S1x1x512 .f32) (x2 : Vec Ideal S8x128x512 .fp8e4m3) (x3 : Vec Ideal S8x128x128 .f32) (x4 : Vec Ideal S9x8 .f32)

/-- What the body stores, head by head. -/
def pieces : List (View.Piece (Elt Ideal) S1x8x128x512 .fp8e4m3) :=
    [⟨Rect.unit (s := S1x8x128x512) ![0, 7, 0, 0] S1x1x128x512.size inb_S1x8x128x512_S1x1x128x512_0_7_0_0,
        k0_pay4 (F := Ideal) (arg2.view.readAt (Elt Ideal) (Rect.unit (s := S1x512x512) ![0, 0, 0] S1x512x512.size inb_S1x512x512_S1x512x512_0_0_0).toLoadRect (harg2.unread x0))
          (arg3.view.readAt (Elt Ideal) (Rect.unit (s := S1x1x512) ![0, 0, 0] S1x1x512.size inb_S1x1x512_S1x1x512_0_0_0).toLoadRect (harg3.unread x1))
          (arg4.view.readAt (Elt Ideal) (Rect.unit (s := S8x128x512) ![7, 0, 0] S1x128x512.size inb_S8x128x512_S1x128x512_7_0_0).toLoadRect (harg4.unread x2))
          (arg5.view.readAt (Elt Ideal) (Rect.unit (s := S8x128x128) ![7, 0, 0] S1x128x128.size inb_S8x128x128_S1x128x128_7_0_0).toLoadRect (harg5.unread x3))
          (arg6.view.readAt (Elt Ideal) (Rect.unit (s := S9x8) (k0_off8 i) S1x1.size (k0_off8_inb i)).toLoadRect (harg6.unread x4) (Shape.Idx.first (Nat.lt_of_lt_of_eq Nat.one_pos numel1_S1x1.symm)))⟩,
      ⟨Rect.unit (s := S1x8x128x512) ![0, 6, 0, 0] S1x1x128x512.size inb_S1x8x128x512_S1x1x128x512_0_6_0_0,
        k0_pay4 (F := Ideal) (arg2.view.readAt (Elt Ideal) (Rect.unit (s := S1x512x512) ![0, 0, 0] S1x512x512.size inb_S1x512x512_S1x512x512_0_0_0).toLoadRect (harg2.unread x0))
          (arg3.view.readAt (Elt Ideal) (Rect.unit (s := S1x1x512) ![0, 0, 0] S1x1x512.size inb_S1x1x512_S1x1x512_0_0_0).toLoadRect (harg3.unread x1))
          (arg4.view.readAt (Elt Ideal) (Rect.unit (s := S8x128x512) ![6, 0, 0] S1x128x512.size inb_S8x128x512_S1x128x512_6_0_0).toLoadRect (harg4.unread x2))
          (arg5.view.readAt (Elt Ideal) (Rect.unit (s := S8x128x128) ![6, 0, 0] S1x128x128.size inb_S8x128x128_S1x128x128_6_0_0).toLoadRect (harg5.unread x3))
          (arg6.view.readAt (Elt Ideal) (Rect.unit (s := S9x8) (k0_off7 i) S1x1.size (k0_off7_inb i)).toLoadRect (harg6.unread x4) (Shape.Idx.first (Nat.lt_of_lt_of_eq Nat.one_pos numel1_S1x1.symm)))⟩,
      ⟨Rect.unit (s := S1x8x128x512) ![0, 5, 0, 0] S1x1x128x512.size inb_S1x8x128x512_S1x1x128x512_0_5_0_0,
        k0_pay4 (F := Ideal) (arg2.view.readAt (Elt Ideal) (Rect.unit (s := S1x512x512) ![0, 0, 0] S1x512x512.size inb_S1x512x512_S1x512x512_0_0_0).toLoadRect (harg2.unread x0))
          (arg3.view.readAt (Elt Ideal) (Rect.unit (s := S1x1x512) ![0, 0, 0] S1x1x512.size inb_S1x1x512_S1x1x512_0_0_0).toLoadRect (harg3.unread x1))
          (arg4.view.readAt (Elt Ideal) (Rect.unit (s := S8x128x512) ![5, 0, 0] S1x128x512.size inb_S8x128x512_S1x128x512_5_0_0).toLoadRect (harg4.unread x2))
          (arg5.view.readAt (Elt Ideal) (Rect.unit (s := S8x128x128) ![5, 0, 0] S1x128x128.size inb_S8x128x128_S1x128x128_5_0_0).toLoadRect (harg5.unread x3))
          (arg6.view.readAt (Elt Ideal) (Rect.unit (s := S9x8) (k0_off6 i) S1x1.size (k0_off6_inb i)).toLoadRect (harg6.unread x4) (Shape.Idx.first (Nat.lt_of_lt_of_eq Nat.one_pos numel1_S1x1.symm)))⟩,
      ⟨Rect.unit (s := S1x8x128x512) ![0, 4, 0, 0] S1x1x128x512.size inb_S1x8x128x512_S1x1x128x512_0_4_0_0,
        k0_pay4 (F := Ideal) (arg2.view.readAt (Elt Ideal) (Rect.unit (s := S1x512x512) ![0, 0, 0] S1x512x512.size inb_S1x512x512_S1x512x512_0_0_0).toLoadRect (harg2.unread x0))
          (arg3.view.readAt (Elt Ideal) (Rect.unit (s := S1x1x512) ![0, 0, 0] S1x1x512.size inb_S1x1x512_S1x1x512_0_0_0).toLoadRect (harg3.unread x1))
          (arg4.view.readAt (Elt Ideal) (Rect.unit (s := S8x128x512) ![4, 0, 0] S1x128x512.size inb_S8x128x512_S1x128x512_4_0_0).toLoadRect (harg4.unread x2))
          (arg5.view.readAt (Elt Ideal) (Rect.unit (s := S8x128x128) ![4, 0, 0] S1x128x128.size inb_S8x128x128_S1x128x128_4_0_0).toLoadRect (harg5.unread x3))
          (arg6.view.readAt (Elt Ideal) (Rect.unit (s := S9x8) (k0_off5 i) S1x1.size (k0_off5_inb i)).toLoadRect (harg6.unread x4) (Shape.Idx.first (Nat.lt_of_lt_of_eq Nat.one_pos numel1_S1x1.symm)))⟩,
      ⟨Rect.unit (s := S1x8x128x512) ![0, 3, 0, 0] S1x1x128x512.size inb_S1x8x128x512_S1x1x128x512_0_3_0_0,
        k0_pay4 (F := Ideal) (arg2.view.readAt (Elt Ideal) (Rect.unit (s := S1x512x512) ![0, 0, 0] S1x512x512.size inb_S1x512x512_S1x512x512_0_0_0).toLoadRect (harg2.unread x0))
          (arg3.view.readAt (Elt Ideal) (Rect.unit (s := S1x1x512) ![0, 0, 0] S1x1x512.size inb_S1x1x512_S1x1x512_0_0_0).toLoadRect (harg3.unread x1))
          (arg4.view.readAt (Elt Ideal) (Rect.unit (s := S8x128x512) ![3, 0, 0] S1x128x512.size inb_S8x128x512_S1x128x512_3_0_0).toLoadRect (harg4.unread x2))
          (arg5.view.readAt (Elt Ideal) (Rect.unit (s := S8x128x128) ![3, 0, 0] S1x128x128.size inb_S8x128x128_S1x128x128_3_0_0).toLoadRect (harg5.unread x3))
          (arg6.view.readAt (Elt Ideal) (Rect.unit (s := S9x8) (k0_off4 i) S1x1.size (k0_off4_inb i)).toLoadRect (harg6.unread x4) (Shape.Idx.first (Nat.lt_of_lt_of_eq Nat.one_pos numel1_S1x1.symm)))⟩,
      ⟨Rect.unit (s := S1x8x128x512) ![0, 2, 0, 0] S1x1x128x512.size inb_S1x8x128x512_S1x1x128x512_0_2_0_0,
        k0_pay4 (F := Ideal) (arg2.view.readAt (Elt Ideal) (Rect.unit (s := S1x512x512) ![0, 0, 0] S1x512x512.size inb_S1x512x512_S1x512x512_0_0_0).toLoadRect (harg2.unread x0))
          (arg3.view.readAt (Elt Ideal) (Rect.unit (s := S1x1x512) ![0, 0, 0] S1x1x512.size inb_S1x1x512_S1x1x512_0_0_0).toLoadRect (harg3.unread x1))
          (arg4.view.readAt (Elt Ideal) (Rect.unit (s := S8x128x512) ![2, 0, 0] S1x128x512.size inb_S8x128x512_S1x128x512_2_0_0).toLoadRect (harg4.unread x2))
          (arg5.view.readAt (Elt Ideal) (Rect.unit (s := S8x128x128) ![2, 0, 0] S1x128x128.size inb_S8x128x128_S1x128x128_2_0_0).toLoadRect (harg5.unread x3))
          (arg6.view.readAt (Elt Ideal) (Rect.unit (s := S9x8) (k0_off3 i) S1x1.size (k0_off3_inb i)).toLoadRect (harg6.unread x4) (Shape.Idx.first (Nat.lt_of_lt_of_eq Nat.one_pos numel1_S1x1.symm)))⟩,
      ⟨Rect.unit (s := S1x8x128x512) ![0, 1, 0, 0] S1x1x128x512.size inb_S1x8x128x512_S1x1x128x512_0_1_0_0,
        k0_pay4 (F := Ideal) (arg2.view.readAt (Elt Ideal) (Rect.unit (s := S1x512x512) ![0, 0, 0] S1x512x512.size inb_S1x512x512_S1x512x512_0_0_0).toLoadRect (harg2.unread x0))
          (arg3.view.readAt (Elt Ideal) (Rect.unit (s := S1x1x512) ![0, 0, 0] S1x1x512.size inb_S1x1x512_S1x1x512_0_0_0).toLoadRect (harg3.unread x1))
          (arg4.view.readAt (Elt Ideal) (Rect.unit (s := S8x128x512) ![1, 0, 0] S1x128x512.size inb_S8x128x512_S1x128x512_1_0_0).toLoadRect (harg4.unread x2))
          (arg5.view.readAt (Elt Ideal) (Rect.unit (s := S8x128x128) ![1, 0, 0] S1x128x128.size inb_S8x128x128_S1x128x128_1_0_0).toLoadRect (harg5.unread x3))
          (arg6.view.readAt (Elt Ideal) (Rect.unit (s := S9x8) (k0_off2 i) S1x1.size (k0_off2_inb i)).toLoadRect (harg6.unread x4) (Shape.Idx.first (Nat.lt_of_lt_of_eq Nat.one_pos numel1_S1x1.symm)))⟩,
      ⟨Rect.unit (s := S1x8x128x512) ![0, 0, 0, 0] S1x1x128x512.size inb_S1x8x128x512_S1x1x128x512_0_0_0_0,
        k0_pay4 (F := Ideal) (arg2.view.readAt (Elt Ideal) (Rect.unit (s := S1x512x512) ![0, 0, 0] S1x512x512.size inb_S1x512x512_S1x512x512_0_0_0).toLoadRect (harg2.unread x0))
          (arg3.view.readAt (Elt Ideal) (Rect.unit (s := S1x1x512) ![0, 0, 0] S1x1x512.size inb_S1x1x512_S1x1x512_0_0_0).toLoadRect (harg3.unread x1))
          (arg4.view.readAt (Elt Ideal) (Rect.unit (s := S8x128x512) ![0, 0, 0] S1x128x512.size inb_S8x128x512_S1x128x512_0_0_0).toLoadRect (harg4.unread x2))
          (arg5.view.readAt (Elt Ideal) (Rect.unit (s := S8x128x128) ![0, 0, 0] S1x128x128.size inb_S8x128x128_S1x128x128_0_0_0).toLoadRect (harg5.unread x3))
          (arg6.view.readAt (Elt Ideal) (Rect.unit (s := S9x8) (k0_off1 i) S1x1.size (k0_off1_inb i)).toLoadRect (harg6.unread x4) (Shape.Idx.first (Nat.lt_of_lt_of_eq Nat.one_pos numel1_S1x1.symm)))⟩]

theorem pieces_eq : (kernelRun0_A (F := Ideal) dv i arg2 harg2 arg3 harg3 arg4 harg4 arg5 harg5 arg6 harg6 arg7 harg7 x0 x1 x2 x3 x4).1
    = pieces i arg2 harg2 arg3 harg3 arg4 harg4 arg5 harg5 arg6 harg6 x0 x1 x2 x3 x4 := by
  unfold kernelRun0_A pieces
  rfl

/-- One head's stored block, of the operands' blocks. -/
theorem piece_at (h : Fin 8) {o4 o5 : Fin 3 → ℕ} {o6 : Fin 2 → ℕ} (h4 : o4 = ![h.val, 0, 0]) (h5 : o5 = ![h.val, 0, 0]) (h6 : o6 = ![(i 0).val, h.val])
    (inb2 : ∀ a, (![0, 0, 0] : Fin 3 → ℕ) a + S1x512x512.size a ≤ S1x512x512.size a) (inb3 : ∀ a, (![0, 0, 0] : Fin 3 → ℕ) a + S1x1x512.size a ≤ S1x1x512.size a)
    (inb4 : ∀ a, o4 a + S1x128x512.size a ≤ S8x128x512.size a) (inb5 : ∀ a, o5 a + S1x128x128.size a ≤ S8x128x128.size a) (inb6 : ∀ a, o6 a + S1x1.size a ≤ S9x8.size a)
    (c : Fin 128) (s : Fin 512) :
    k0_pay4 (F := Ideal) (arg2.view.readAt (Elt Ideal) (Rect.unit (s := S1x512x512) ![0, 0, 0] S1x512x512.size inb2).toLoadRect (harg2.unread x0))
          (arg3.view.readAt (Elt Ideal) (Rect.unit (s := S1x1x512) ![0, 0, 0] S1x1x512.size inb3).toLoadRect (harg3.unread x1))
          (arg4.view.readAt (Elt Ideal) (Rect.unit (s := S8x128x512) o4 S1x128x512.size inb4).toLoadRect (harg4.unread x2))
          (arg5.view.readAt (Elt Ideal) (Rect.unit (s := S8x128x128) o5 S1x128x128.size inb5).toLoadRect (harg5.unread x3))
          (arg6.view.readAt (Elt Ideal) (Rect.unit (s := S9x8) o6 S1x1.size inb6).toLoadRect (harg6.unread x4) (Shape.Idx.first (Nat.lt_of_lt_of_eq Nat.one_pos numel1_S1x1.symm))) (ix4 0 0 c s)
      = BLK i x0 x1 x2 x3 x4 (ix4 0 h c s) := by
  rw [pay4_at]
  have e2 : ∀ l : Fin 512, arg2.view.readAt (Elt Ideal) (Rect.unit (s := S1x512x512) ![0, 0, 0] S1x512x512.size inb2).toLoadRect (harg2.unread x0) (ix3 0 s l) = x0 (ix3 0 s l) := fun l => by
    refine ld_at harg2 x0 inb2 rfl (ix3 0 s l) (ix3 0 s l) ?_
    intro a
    fin_cases a <;> exact (Nat.zero_add _).symm
  have e3 : arg3.view.readAt (Elt Ideal) (Rect.unit (s := S1x1x512) ![0, 0, 0] S1x1x512.size inb3).toLoadRect (harg3.unread x1) (ix3 0 0 s) = x1 (ix3 0 0 s) := by
    refine ld_at harg3 x1 inb3 rfl (ix3 0 0 s) (ix3 0 0 s) ?_
    intro a
    fin_cases a <;> exact (Nat.zero_add _).symm
  have e4 : ∀ l : Fin 512, arg4.view.readAt (Elt Ideal) (Rect.unit (s := S8x128x512) o4 S1x128x512.size inb4).toLoadRect (harg4.unread x2) (ix3 0 c l) = x2 (ix3 h c l) := fun l => by
    refine ld_at harg4 x2 inb4 h4 (ix3 0 c l) (ix3 h c l) ?_
    intro a
    fin_cases a
    · exact rfl
    · exact (Nat.zero_add _).symm
    · exact (Nat.zero_add _).symm
  have e5 : arg5.view.readAt (Elt Ideal) (Rect.unit (s := S8x128x128) o5 S1x128x128.size inb5).toLoadRect (harg5.unread x3) (ix3 0 c 0) = x3 (ix3 h c 0) := by
    refine ld_at harg5 x3 inb5 h5 (ix3 0 c 0) (ix3 h c 0) ?_
    intro a
    fin_cases a
    · exact rfl
    · exact (Nat.zero_add _).symm
    · exact (Nat.zero_add _).symm
  have e6 : arg6.view.readAt (Elt Ideal) (Rect.unit (s := S9x8) o6 S1x1.size inb6).toLoadRect (harg6.unread x4) (Shape.Idx.first (Nat.lt_of_lt_of_eq Nat.one_pos numel1_S1x1.symm)) = x4 (ix2 (i 0) h) := by
    refine ld_at harg6 x4 inb6 h6 _ (ix2 (i 0) h) ?_
    intro a
    fin_cases a <;> rfl
  simp only [e2, e3, e4, e5, e6]
  rfl

/-- What the body leaves in the block. -/
theorem out_eq : out0_A_5 (F := Ideal) dv i arg2 harg2 arg3 harg3 arg4 harg4 arg5 harg5 arg6 harg6 arg7 harg7 x0 x1 x2 x3 x4 = BLK i x0 x1 x2 x3 x4 := by
  unfold out0_A_5
  rw [pieces_eq]
  unfold pieces
  funext y
  obtain ⟨h, c, s, rfl⟩ : ∃ (h : Fin 8) (c : Fin 128) (s : Fin 512), y = ix4 0 h c s :=
    ⟨y 1, y 2, y 3, by
      funext a
      fin_cases a
      · exact Fin.ext (by have h0 : (y 0).val < 1 := (y 0).isLt; show (y 0).val = 0; omega)
      · rfl
      · rfl
      · rfl⟩
  have key : ∀ (L : List (View.Piece (Elt Ideal) S1x8x128x512 .fp8e4m3)) (h' : Fin 8) (o : Fin 4 → ℕ) (ho : o = ![0, h'.val, 0, 0])
      (inb : ∀ a, o a + S1x1x128x512.size a ≤ S1x8x128x512.size a) (w : (Rect.unit (s := S1x8x128x512) o S1x1x128x512.size inb).shape.Idx → Elt Ideal .fp8e4m3),
      (∀ (c : Fin 128) (s : Fin 512), w (ix4 0 0 c s) = BLK i x0 x1 x2 x3 x4 (ix4 0 h' c s)) →
      (h ≠ h' → VO0_5.read (Elt Ideal) (VO0_5.writes (Elt Ideal) VO0_5.junk L) (ix4 0 h c s) = BLK i x0 x1 x2 x3 x4 (ix4 0 h c s)) →
      VO0_5.read (Elt Ideal) (VO0_5.writes (Elt Ideal) VO0_5.junk (⟨Rect.unit (s := S1x8x128x512) o S1x1x128x512.size inb, w⟩ :: L)) (ix4 0 h c s) = BLK i x0 x1 x2 x3 x4 (ix4 0 h c s) := by
    intro L h' o ho inb w hw hL
    by_cases hh : h = h'
    · subst hh
      rw [← hw c s]
      refine View.read_writes_cons_unit_of_mem VO0_5 _ inb w L _ (ix4 0 0 c s) ho ?_
      intro a
      fin_cases a
      · rfl
      · rfl
      · exact (Nat.zero_add _).symm
      · exact (Nat.zero_add _).symm
    · rw [← hL hh]
      refine View.read_writes_cons_unit_of_not_mem VO0_5 _ inb w L _ ho 1 ?_
      show h.val < h'.val ∨ h'.val + 1 ≤ h.val
      have : h.val ≠ h'.val := fun e => hh (Fin.ext e)
      omega
  refine key _ 7 _ rfl _ _ (piece_at i arg2 harg2 arg3 harg3 arg4 harg4 arg5 harg5 arg6 harg6 x0 x1 x2 x3 x4 7 rfl rfl (off8_eq i) _ _ _ _ _) fun n7 => ?_
  refine key _ 6 _ rfl _ _ (piece_at i arg2 harg2 arg3 harg3 arg4 harg4 arg5 harg5 arg6 harg6 x0 x1 x2 x3 x4 6 rfl rfl (off7_eq i) _ _ _ _ _) fun n6 => ?_
  refine key _ 5 _ rfl _ _ (piece_at i arg2 harg2 arg3 harg3 arg4 harg4 arg5 harg5 arg6 harg6 x0 x1 x2 x3 x4 5 rfl rfl (off6_eq i) _ _ _ _ _) fun n5 => ?_
  refine key _ 4 _ rfl _ _ (piece_at i arg2 harg2 arg3 harg3 arg4 harg4 arg5 harg5 arg6 harg6 x0 x1 x2 x3 x4 4 rfl rfl (off5_eq i) _ _ _ _ _) fun n4 => ?_
  refine key _ 3 _ rfl _ _ (piece_at i arg2 harg2 arg3 harg3 arg4 harg4 arg5 harg5 arg6 harg6 x0 x1 x2 x3 x4 3 rfl rfl (off4_eq i) _ _ _ _ _) fun n3 => ?_
  refine key _ 2 _ rfl _ _ (piece_at i arg2 harg2 arg3 harg3 arg4 harg4 arg5 harg5 arg6 harg6 x0 x1 x2 x3 x4 2 rfl rfl (off3_eq i) _ _ _ _ _) fun n2 => ?_
  refine key _ 1 _ rfl _ _ (piece_at i arg2 harg2 arg3 harg3 arg4 harg4 arg5 harg5 arg6 harg6 x0 x1 x2 x3 x4 1 rfl rfl (off2_eq i) _ _ _ _ _) fun n1 => ?_
  refine key _ 0 _ rfl _ _ (piece_at i arg2 harg2 arg3 harg3 arg4 harg4 arg5 harg5 arg6 harg6 x0 x1 x2 x3 x4 0 rfl rfl (off1_eq i) _ _ _ _ _) fun n0 => ?_
  exfalso
  simp only [ne_eq, Fin.ext_iff] at n0 n1 n2 n3 n4 n5 n6 n7
  have := h.isLt
  simp at n0 n1 n2 n3 n4 n5 n6 n7
  omega

end

end Cert.VQuantIdeal.Value

end
-- ==== Proof.VArray.lean ====
/- What the values' codes hold after the run: at every batch entry, head, feature and token the clipped code, read off the
   argument arrays. -/
module

public import proofs.«01_k».proof.Proof.VBlock

@[expose] public section

set_option maxRecDepth 16384
set_option maxHeartbeats 1000000

noncomputable section

namespace Cert.VQuantIdeal.Value

open Cert.VQuantIdeal Cert.VQuantIdeal.Gen
open Idealize.ShloMosaic Idealize.ShloMosaic.TcCoe Idealize.ShloMosaic.Pointwise Idealize.SL.Sem
open Idealize.ShloMosaic.Pipeline (Dat)

/-- The codes, of the argument arrays. -/
def RES (a0 : Vec Ideal S9x8192x512 .fp8e4m3) (a1 : Vec Ideal S9x8192 .f32) (a2 : Vec Ideal S8x512x128 .fp8e4m3) (a3 : Vec Ideal S8x128 .f32)
    (a4 : Vec Ideal S9x8 .f32) : Vec Ideal S9x8x128x8192 .fp8e4m3 :=
  fun j => clip ((∑ l : Fin 512, a2 (ix3 (j 1) l (j 2)) * a0 (ix3 (j 0) (j 3) l)) * a1 (ix2 (j 0) (j 3)) * a3 (ix2 (j 1) (j 2)) * a4 (ix2 (j 0) (j 1)))

/-- The token at place `s` of a grid point's block. -/
def tk (t : Fin cfg0.N) (s : Fin 512) : Fin 8192 :=
  ⟨(grid0.coords t 1).val * 512 + s.val, by have h : (grid0.coords t 1).val < 16 := (grid0.coords t 1).isLt; omega⟩

/-- Where window 0's block lies in its array, at every grid point. -/
theorem idx0 : ∀ t : Fin cfg0.N, win0_0.index t (0 : Fin 3) = (grid0.coords t 0).val ∧ win0_0.index t (1 : Fin 3) = (grid0.coords t 1).val ∧ win0_0.index t (2 : Fin 3) = 0 :=
  (by decide +kernel : ∀ t : Fin grid0.N, _)

theorem emb0 (t : Fin cfg0.N) (y : S1x512x512.Idx) : ((cfg0.win 0).blk t).view.emb y = ix3 (grid0.coords t 0) (tk t (y 1)) (y 2) := by
  obtain ⟨e0, e1, e2⟩ := idx0 t
  funext a; apply Fin.ext
  match a with
  | ⟨0, _⟩ =>
    show win0_0.index t (0 : Fin 3) * 1 + 1 * (y 0).val = (grid0.coords t 0).val
    have h : (y 0).val < 1 := (y 0).isLt
    omega
  | ⟨1, _⟩ =>
    show win0_0.index t (1 : Fin 3) * 512 + 1 * (y 1).val = (grid0.coords t 1).val * 512 + (y 1).val
    have h : (y 1).val < 512 := (y 1).isLt
    omega
  | ⟨2, _⟩ =>
    show win0_0.index t (2 : Fin 3) * 512 + 1 * (y 2).val = (y 2).val
    have h : (y 2).val < 512 := (y 2).isLt
    omega

/-- Where window 1's block lies in its array, at every grid point. -/
theorem idx1 : ∀ t : Fin cfg0.N, win0_1.index t (0 : Fin 3) = (grid0.coords t 0).val ∧ win0_1.index t (1 : Fin 3) = 0 ∧ win0_1.index t (2 : Fin 3) = (grid0.coords t 1).val :=
  (by decide +kernel : ∀ t : Fin grid0.N, _)

theorem emb1 (t : Fin cfg0.N) (y : S1x1x512.Idx) : ((cfg0.win 1).blk t).view.emb y = ix3 (grid0.coords t 0) (y 1) (tk t (y 2)) := by
  obtain ⟨e0, e1, e2⟩ := idx1 t
  funext a; apply Fin.ext
  match a with
  | ⟨0, _⟩ =>
    show win0_1.index t (0 : Fin 3) * 1 + 1 * (y 0).val = (grid0.coords t 0).val
    have h : (y 0).val < 1 := (y 0).isLt
    omega
  | ⟨1, _⟩ =>
    show win0_1.index t (1 : Fin 3) * 1 + 1 * (y 1).val = (y 1).val
    have h : (y 1).val < 1 := (y 1).isLt
    omega
  | ⟨2, _⟩ =>
    show win0_1.index t (2 : Fin 3) * 512 + 1 * (y 2).val = (grid0.coords t 1).val * 512 + (y 2).val
    have h : (y 2).val < 512 := (y 2).isLt
    omega

/-- Where window 2's block lies in its array, at every grid point. -/
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (y : S8x128x512.Idx) : ((cfg0.win 2).blk t).view.emb y = y := by
  obtain ⟨e0, e1, e2⟩ := idx2 t
  funext a; apply Fin.ext
  match a with
  | ⟨0, _⟩ =>
    show win0_2.index t (0 : Fin 3) * 8 + 1 * (y 0).val = (y 0).val
    have h : (y 0).val < 8 := (y 0).isLt
    omega
  | ⟨1, _⟩ =>
    show win0_2.index t (1 : Fin 3) * 128 + 1 * (y 1).val = (y 1).val
    have h : (y 1).val < 128 := (y 1).isLt
    omega
  | ⟨2, _⟩ =>
    show win0_2.index t (2 : Fin 3) * 512 + 1 * (y 2).val = (y 2).val
    have h : (y 2).val < 512 := (y 2).isLt
    omega

/-- Where window 3's block lies in its array, at every grid point. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

theorem emb3 (t : Fin cfg0.N) (y : S8x128x128.Idx) : ((cfg0.win 3).blk t).view.emb y = y := by
  obtain ⟨e0, e1, e2⟩ := idx3 t
  funext a; apply Fin.ext
  match a with
  | ⟨0, _⟩ =>
    show win0_3.index t (0 : Fin 3) * 8 + 1 * (y 0).val = (y 0).val
    have h : (y 0).val < 8 := (y 0).isLt
    omega
  | ⟨1, _⟩ =>
    show win0_3.index t (1 : Fin 3) * 128 + 1 * (y 1).val = (y 1).val
    have h : (y 1).val < 128 := (y 1).isLt
    omega
  | ⟨2, _⟩ =>
    show win0_3.index t (2 : Fin 3) * 128 + 1 * (y 2).val = (y 2).val
    have h : (y 2).val < 128 := (y 2).isLt
    omega

/-- Where window 4's block lies in its array, at every grid point. -/
theorem idx4 : ∀ t : Fin cfg0.N, win0_4.index t (0 : Fin 2) = 0 ∧ win0_4.index t (1 : Fin 2) = 0 :=
  (by decide +kernel : ∀ t : Fin grid0.N, _)

theorem emb4 (t : Fin cfg0.N) (y : S9x8.Idx) : ((cfg0.win 4).blk t).view.emb y = y := by
  obtain ⟨e0, e1⟩ := idx4 t
  funext a; apply Fin.ext
  match a with
  | ⟨0, _⟩ =>
    show win0_4.index t (0 : Fin 2) * 9 + 1 * (y 0).val = (y 0).val
    have h : (y 0).val < 9 := (y 0).isLt
    omega
  | ⟨1, _⟩ =>
    show win0_4.index t (1 : Fin 2) * 8 + 1 * (y 1).val = (y 1).val
    have h : (y 1).val < 8 := (y 1).isLt
    omega

/-- Where window 5's block lies in its array, at every grid point. -/
theorem idx5 : ∀ t : Fin cfg0.N, win0_5.index t (0 : Fin 4) = (grid0.coords t 0).val ∧ win0_5.index t (1 : Fin 4) = 0 ∧ win0_5.index t (2 : Fin 4) = 0 ∧ win0_5.index t (3 : Fin 4) = (grid0.coords t 1).val :=
  (by decide +kernel : ∀ t : Fin grid0.N, _)

theorem emb5 (t : Fin cfg0.N) (y : S1x8x128x512.Idx) : ((cfg0.win 5).blk t).view.emb y = ix4 (grid0.coords t 0) (y 1) (y 2) (tk t (y 3)) := by
  obtain ⟨e0, e1, e2, e3⟩ := idx5 t
  funext a; apply Fin.ext
  match a with
  | ⟨0, _⟩ =>
    show win0_5.index t (0 : Fin 4) * 1 + 1 * (y 0).val = (grid0.coords t 0).val
    have h : (y 0).val < 1 := (y 0).isLt
    omega
  | ⟨1, _⟩ =>
    show win0_5.index t (1 : Fin 4) * 8 + 1 * (y 1).val = (y 1).val
    have h : (y 1).val < 8 := (y 1).isLt
    omega
  | ⟨2, _⟩ =>
    show win0_5.index t (2 : Fin 4) * 128 + 1 * (y 2).val = (y 2).val
    have h : (y 2).val < 128 := (y 2).isLt
    omega
  | ⟨3, _⟩ =>
    show win0_5.index t (3 : Fin 4) * 512 + 1 * (y 3).val = (grid0.coords t 1).val * 512 + (y 3).val
    have h : (y 3).val < 512 := (y 3).isLt
    omega

variable (m : (ℓ : Loc nD τ sig) → Buf (Elt Ideal) ℓ) (ρ : Dev nD → PrngReg)

/-- The tokens' scales, re-laid by the host. -/
theorem V_main_v0 (c : Dev nD) : V m c main_v0 = shapeCast S9x1x8192 (m ((c : Thread nD τ).loc main_arg1)) shapeCasts_S9x8192_S9x1x8192 := by
  show StableHlo.after hostOps0 (fun b => m (c, b)) (Proc.devRef .tc main_v0) = _
  unfold hostOps0
  after_results
  rfl

/-- The weights, transposed by the host. -/
theorem V_main_v1 (c : Dev nD) : V m c main_v1 = transpose S8x128x512 [0, 2, 1] (m ((c : Thread nD τ).loc main_arg2)) transposes_S8x512x128_S8x128x512_0_2_1 := by
  show StableHlo.after hostOps0 (fun b => m (c, b)) (Proc.devRef .tc main_v1) = _
  unfold hostOps0
  after_results

/-- The weights' scales, broadcast by the host. -/
theorem V_main_v3 (c : Dev nD) : V m c main_v3 = broadcastInDim S8x128x128 ![0, 1, 2] bcast_S8x128x1_S8x128x128_0_1_2 (broadcastInDim S8x128x1 ![0, 1] bcast_S8x128_S8x128x1_0_1 (m ((c : Thread nD τ).loc main_arg3))) := by
  show StableHlo.after hostOps0 (fun b => m (c, b)) (Proc.devRef .tc main_v3) = _
  unfold hostOps0
  after_results

theorem cast_at (x : Vec Ideal S9x8192 .f32) (b : Fin 9) (s : Fin 8192) :
    shapeCast S9x1x8192 x shapeCasts_S9x8192_S9x1x8192 (ix3 b 0 s) = x (ix2 b s) := by
  pointwise

theorem tr_at (x : Vec Ideal S8x512x128 .fp8e4m3) (h : Fin 8) (c : Fin 128) (l : Fin 512) :
    transpose S8x128x512 [0, 2, 1] x transposes_S8x512x128_S8x128x512_0_2_1 (ix3 h c l) = x (ix3 h l c) := by
  pointwise

theorem bc_at (x : Vec Ideal S8x128 .f32) (h : Fin 8) (c : Fin 128) :
    broadcastInDim S8x128x128 ![0, 1, 2] bcast_S8x128x1_S8x128x128_0_1_2 (broadcastInDim S8x128x1 ![0, 1] bcast_S8x128_S8x128x1_0_1 x) (ix3 h c 0) = x (ix2 h c) := by
  pointwise

theorem iblk0_at (c : Dev nD) (t : Fin cfg0.N) (s : Fin 512) (l : Fin 512) :
    iblk m c 0 t (ix3 0 s l) = m ((c : Thread nD τ).loc main_arg0) (ix3 (grid0.coords t 0) (tk t s) l) := by
  show V m c main_arg0 (((cfg0.win 0).blk t).view.emb (ix3 0 s l)) = _
  rw [emb0, V_main_arg0]
  rfl

theorem iblk1_at (c : Dev nD) (t : Fin cfg0.N) (s : Fin 512) :
    iblk m c 1 t (ix3 0 0 s) = m ((c : Thread nD τ).loc main_arg1) (ix2 (grid0.coords t 0) (tk t s)) := by
  show V m c main_v0 (((cfg0.win 1).blk t).view.emb (ix3 0 0 s)) = _
  rw [emb1, V_main_v0]
  exact cast_at _ _ _

theorem iblk2_at (c : Dev nD) (t : Fin cfg0.N) (h : Fin 8) (d : Fin 128) (l : Fin 512) :
    iblk m c 2 t (ix3 h d l) = m ((c : Thread nD τ).loc main_arg2) (ix3 h l d) := by
  show V m c main_v1 (((cfg0.win 2).blk t).view.emb (ix3 h d l)) = _
  rw [emb2, V_main_v1]
  exact tr_at _ _ _ _

theorem iblk3_at (c : Dev nD) (t : Fin cfg0.N) (h : Fin 8) (d : Fin 128) :
    iblk m c 3 t (ix3 h d 0) = m ((c : Thread nD τ).loc main_arg3) (ix2 h d) := by
  show V m c main_v3 (((cfg0.win 3).blk t).view.emb (ix3 h d 0)) = _
  rw [emb3, V_main_v3]
  exact bc_at _ _ _

theorem iblk4_at (c : Dev nD) (t : Fin cfg0.N) (y : S9x8.Idx) : iblk m c 4 t y = m ((c : Thread nD τ).loc main_arg4) y := by
  show V m c main_arg4 (((cfg0.win 4).blk t).view.emb y) = _
  rw [emb4, V_main_arg4]

/-- One grid point's block of the codes. -/
theorem blk_at (c : Dev nD) (t : Fin cfg0.N) (y : S1x8x128x512.Idx) :
    BLK (grid0.coords t) (iblk m c 0 t) (iblk m c 1 t) (iblk m c 2 t) (iblk m c 3 t) (iblk m c 4 t) y
      = RES (m ((c : Thread nD τ).loc main_arg0)) (m ((c : Thread nD τ).loc main_arg1)) (m ((c : Thread nD τ).loc main_arg2)) (m ((c : Thread nD τ).loc main_arg3)) (m ((c : Thread nD τ).loc main_arg4)) (ix4 (grid0.coords t 0) (y 1) (y 2) (tk t (y 3))) := by
  unfold BLK RES
  have e0 : ∀ l : Fin 512, iblk m c 0 t (ix3 0 (y 3) l) = m ((c : Thread nD τ).loc main_arg0) (ix3 (grid0.coords t 0) (tk t (y 3)) l) := fun l => iblk0_at m c t (y 3) l
  have e1 : iblk m c 1 t (ix3 0 0 (y 3)) = m ((c : Thread nD τ).loc main_arg1) (ix2 (grid0.coords t 0) (tk t (y 3))) := iblk1_at m c t (y 3)
  have e2 : ∀ l : Fin 512, iblk m c 2 t (ix3 (y 1) (y 2) l) = m ((c : Thread nD τ).loc main_arg2) (ix3 (y 1) l (y 2)) := fun l => iblk2_at m c t (y 1) (y 2) l
  have e3 : iblk m c 3 t (ix3 (y 1) (y 2) 0) = m ((c : Thread nD τ).loc main_arg3) (ix2 (y 1) (y 2)) := iblk3_at m c t (y 1) (y 2)
  simp only [e0, e1, e2, e3, iblk4_at]
  rfl

/-- Every index of the result lies in the block of some grid point. -/
theorem cover (j : S9x8x128x8192.Idx) : ∃ t : Fin cfg0.N, (cfg0.win 5).flush t = true ∧ j ∈ ((cfg0.win 5).blk t).view.set := by
  have h3 : (j 3).val < 8192 := (j 3).isLt
  obtain ⟨t, h0, h1⟩ : ∃ t : Fin cfg0.N, (grid0.coords t 0).val = (j 0).val ∧ (grid0.coords t 1).val = (j 3).val / 512 :=
    (by decide +kernel : ∀ (b : Fin 9) (h : Fin 16), ∃ t : Fin grid0.N, (grid0.coords t 0).val = b.val ∧ (grid0.coords t 1).val = h.val) (j 0) ⟨(j 3).val / 512, by omega⟩
  have e : ((cfg0.win 5).blk t).view.emb (ix4 0 (j 1) (j 2) ⟨(j 3).val % 512, by omega⟩ : S1x8x128x512.Idx) = j := by
    rw [emb5]
    funext a
    fin_cases a
    · exact Fin.ext h0
    · rfl
    · rfl
    · apply Fin.ext
      show (grid0.coords t 1).val * 512 + (j 3).val % 512 = (j 3).val
      omega
  exact ⟨t, flush0_5 t, e ▸ ((cfg0.win 5).blk t).view.emb_mem_set (ix4 0 (j 1) (j 2) ⟨(j 3).val % 512, by omega⟩ : S1x8x128x512.Idx)⟩

/-- The array's contents at the end. -/
theorem final (c : Dev nD) : (dats m 0 c).arrAt 5 cfg0.N = RES (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (RES (m ((c : Thread nD τ).loc main_arg0)) (m ((c : Thread nD τ).loc main_arg1)) (m ((c : Thread nD τ).loc main_arg2)) (m ((c : Thread nD τ).loc main_arg3)) (m ((c : Thread nD τ).loc main_arg4)))
    (fun t _ => by
      rw [flushed5_A, out_eq]
      funext y
      show BLK (grid0.coords t) (iblk m c 0 t) (iblk m c 1 t) (iblk m c 2 t) (iblk m c 3 t) (iblk m c 4 t) y = RES (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y)
      rw [emb5, blk_at]
      rfl)
    cover

/-- THE RUN: the result holds the codes, and the arguments are as launched. -/
theorem run : θ_run defs (onTc (τ := τ) (main (F := Ideal))) ⟨m, fun _ => 0, ρ⟩ fun r => ∀ c : Dev nD,
      r.2.mem ((c : Thread nD τ).loc main_v4) = RES (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks (F := Ideal) m ρ)

end Cert.VQuantIdeal.Value

end
-- ==== Proof.VRef.lean ====
/- What the reference of the values' codes computes over the extended reals, read at one batch entry, head, feature and token. -/
module

public import proofs.«01_k».proof.Proof.Gen.VCodesIdeal.Value
public import Idealize.ShloMosaic.Lib.Pointwise

@[expose] public section

set_option maxRecDepth 16384
set_option maxHeartbeats 1000000

noncomputable section

namespace Cert.VCodesIdeal.Value

open Cert.VCodesIdeal Cert.VCodesIdeal.Gen
open Idealize.ShloMosaic Idealize.ShloMosaic.Pointwise

/-- THE REFERENCE'S VALUE: the latents' product with the head's weights, scaled by the token and the weight, times the inverse
    scale, clipped. -/
theorem G5_at (a0 : Vec Ideal S9x8192x512 .fp8e4m3) (a1 : Vec Ideal S9x8192 .f32) (a2 : Vec Ideal S8x512x128 .fp8e4m3)
    (a3 : Vec Ideal S8x128 .f32) (a4 : Vec Ideal S9x8 .f32) (b : Fin 9) (h : Fin 8) (c : Fin 128) (s : Fin 8192) :
    G5 (F := Ideal) a0 a1 a2 a3 a4 (ix4 b h c s)
      = min (Ideal.ofBits .f32 0x43E00000#32) (max (Ideal.ofBits .f32 0xC3E00000#32)
          ((∑ l : Fin 512, a0 (ix3 b s l) * a2 (ix3 h l c)) * a1 (ix2 b s) * a3 (ix2 h c) * a4 (ix2 b h))) := by
  unfold G5 k0_pay1
  pointwise

end Cert.VCodesIdeal.Value

end
-- ==== Proof.VEquation.lean ====
/- The values' codes that the kernel's array holds are the reference's. -/
module

public import proofs.«01_k».proof.Proof.VArray
public import proofs.«01_k».proof.Proof.VRef

@[expose] public section

set_option maxRecDepth 16384

noncomputable section

namespace Cert.VEquation

open Idealize.ShloMosaic Idealize.ShloMosaic.Pointwise

/-- THE VALUE: the kernel's codes are the reference's; only the factors of each product of the sum change places. -/
theorem value (a0 : Vec Ideal Cert.VQuantIdeal.S9x8192x512 .fp8e4m3) (a1 : Vec Ideal Cert.VQuantIdeal.S9x8192 .f32)
    (a2 : Vec Ideal Cert.VQuantIdeal.S8x512x128 .fp8e4m3) (a3 : Vec Ideal Cert.VQuantIdeal.S8x128 .f32) (a4 : Vec Ideal Cert.VQuantIdeal.S9x8 .f32) :
    Cert.VQuantIdeal.Value.RES a0 a1 a2 a3 a4 = Cert.VCodesIdeal.Value.G5 (F := Ideal) a0 a1 a2 a3 a4 := by
  funext j
  obtain ⟨b, h, c, s, rfl⟩ : ∃ (b : Fin 9) (h : Fin 8) (c : Fin 128) (s : Fin 8192), j = ix4 b h c s :=
    ⟨j 0, j 1, j 2, j 3, by funext a; fin_cases a <;> rfl⟩
  rw [Cert.VCodesIdeal.Value.G5_at]
  have e : (∑ l : Fin 512, a2 (ix3 h l c) * a0 (ix3 b s l)) = ∑ l : Fin 512, a0 (ix3 b s l) * a2 (ix3 h l c) :=
    Finset.sum_congr rfl fun l _ => mul_comm _ _
  show Cert.VQuantIdeal.Value.clip ((∑ l : Fin 512, a2 (ix3 h l c) * a0 (ix3 b s l)) * a1 (ix2 b s) * a3 (ix2 h c) * a4 (ix2 b h)) = _
  rw [e]
  rfl

end Cert.VEquation

end
-- ==== Proof.lean ====
module

public import proofs.«01_k».proof.Defs
public import proofs.«01_k».proof.Proof.FrameKernel
public import proofs.«01_k».proof.Proof.FrameKernelIdeal
public import proofs.«01_k».proof.Proof.RunKernelIdeal
public import proofs.«01_k».proof.Proof.Assemble
public import proofs.«01_k».proof.Proof.Gen.ReferenceIdeal.Value
public import proofs.«01_k».proof.Proof.Gen.VQuant.Frame
public import proofs.«01_k».proof.Proof.VEquation
public import Idealize.ShloMosaic.Adequacy
public import Idealize.ShloMosaic.Init

@[expose] public section

noncomputable section

namespace Cert.Proof

open Idealize.ShloMosaic Idealize.SL.Sem

/-- Kernel and reference end with the same result: the attention of every head, which the kernel's array holds by `run` and the
    reference's by `Value.run`, the two being equal (`Assemble.value`) where every query's scale is positive and finite. -/
theorem algebraic : Cert.algebraic_KernelIdeal_ReferenceIdeal_pre_scales_positive (hKernelIdeal := Cert.KernelIdeal.Gen.facts)
    (hReferenceIdeal := Cert.ReferenceIdeal.Gen.facts) (hPre_scales_positive := Cert.Assemble.facts_pre) := by
  intro m g m' g' hp ha
  refine ⟨_, Cert.KernelIdeal.Value.run m g, (θ_run _ _ _).mono (fun r h c => ?_) (Cert.ReferenceIdeal.Value.run (F := Ideal) m' g')⟩
  obtain ⟨h0, hr⟩ := h c
  obtain ⟨e0, e1, e2, e3, e4, e5⟩ := ha c
  refine ⟨h0.trans ?_, hr⟩
  rw [e0, e1, e2, e3, e4, e5]
  exact (Cert.Assemble.value _ _ _ _ _ _ (Cert.Assemble.pre_at _ _ _ _ _ _ (hp c))).symm

/-- The values' codes: kernel and reference end with the same array (`VEquation.value`), no condition on the arguments. -/
theorem algebraic_v : Cert.algebraic_VQuantIdeal_VCodesIdeal (hVQuantIdeal := Cert.VQuantIdeal.Gen.facts) (hVCodesIdeal := Cert.VCodesIdeal.Gen.facts) := by
  intro m g m' g' _ ha
  refine ⟨_, Cert.VQuantIdeal.Value.run m g, (θ_run _ _ _).mono (fun r h c => ?_) (Cert.VCodesIdeal.Value.run (F := Ideal) m' g')⟩
  obtain ⟨h0, hr⟩ := h c
  obtain ⟨e0, e1, e2, e3, e4⟩ := ha c
  refine ⟨h0.trans ?_, hr⟩
  rw [e0, e1, e2, e3, e4]
  exact (Cert.VEquation.value _ _ _ _ _).symm

/-- Each program ends with its arguments unchanged, the ideal program is the kernel over the extended reals, and kernel and
    reference compute the same function there. -/
theorem claim : Cert.Claim :=
  ⟨Cert.Kernel.Gen.facts, Cert.KernelIdeal.Gen.facts, Cert.ReferenceIdeal.Gen.facts, Cert.VQuant.Gen.facts, Cert.VQuantIdeal.Gen.facts, Cert.VCodesIdeal.Gen.facts,
    Cert.Assemble.facts_pre,
    fun m ρ _ => Cert.Kernel.Frame.frame m ρ,
    fun m ρ _ => Cert.KernelIdeal.Frame.frame m ρ,
    fun m ρ _ => Cert.KernelIdeal.Frame.frame m ρ,
    fun m ρ _ => Cert.ReferenceIdeal.Gen.frame m ρ,
    fun m ρ _ => Cert.ReferenceIdeal.Gen.frame m ρ,
    fun m ρ _ => Cert.VQuant.Gen.frame m ρ,
    fun m ρ _ => Cert.VQuantIdeal.Gen.frame m ρ,
    fun m ρ _ => Cert.VCodesIdeal.Gen.frame m ρ,
    IdealRules.named_const.statement Cert.KernelIdeal.κ "log2e" .f32 0x3FB8AA3B#32 _ rfl,
    algebraic,
    trivial,
    algebraic_v⟩

end Cert.Proof

end
